-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7680x1x6144 : Shape := ⟨3, ![7680, 1, 6144]⟩
abbrev S16384x3072 : Shape := ⟨2, ![16384, 3072]⟩
abbrev S16384x192 : Shape := ⟨2, ![16384, 192]⟩
abbrev S6144x8192 : Shape := ⟨2, ![6144, 8192]⟩
abbrev S6144x512 : Shape := ⟨2, ![6144, 512]⟩
abbrev S7680 : Shape := ⟨1, ![7680]⟩
abbrev S7x6144x16 : Shape := ⟨3, ![7, 6144, 16]⟩
abbrev S7x16x16384 : Shape := ⟨3, ![7, 16, 16384]⟩
abbrev S7x16384x16 : Shape := ⟨3, ![7, 16384, 16]⟩
abbrev S7x16x6144 : Shape := ⟨3, ![7, 16, 6144]⟩
abbrev S7680x6144 : Shape := ⟨2, ![7680, 6144]⟩
abbrev S7680x1 : Shape := ⟨2, ![7680, 1]⟩
abbrev S128 : Shape := ⟨1, ![128]⟩
abbrev S_ : Shape := ⟨0, ![]⟩
abbrev S1x128 : Shape := ⟨2, ![1, 128]⟩
abbrev S7680x128 : Shape := ⟨2, ![7680, 128]⟩
abbrev S7680x256 : Shape := ⟨2, ![7680, 256]⟩
abbrev S6144x7x16 : Shape := ⟨3, ![6144, 7, 16]⟩
abbrev S6144x112 : Shape := ⟨2, ![6144, 112]⟩
abbrev S6144x128 : Shape := ⟨2, ![6144, 128]⟩
abbrev S6144x256 : Shape := ⟨2, ![6144, 256]⟩
abbrev S112x16384 : Shape := ⟨2, ![112, 16384]⟩
abbrev S128x16384 : Shape := ⟨2, ![128, 16384]⟩
abbrev S112x6144 : Shape := ⟨2, ![112, 6144]⟩
abbrev S128x6144 : Shape := ⟨2, ![128, 6144]⟩
abbrev S16384x7x16 : Shape := ⟨3, ![16384, 7, 16]⟩
abbrev S16384x112 : Shape := ⟨2, ![16384, 112]⟩
abbrev S16384x128 : Shape := ⟨2, ![16384, 128]⟩
abbrev S7680x16384 : Shape := ⟨2, ![7680, 16384]⟩
abbrev S960x6144 : Shape := ⟨2, ![960, 6144]⟩
abbrev S256x3072 : Shape := ⟨2, ![256, 3072]⟩
abbrev S256x192 : Shape := ⟨2, ![256, 192]⟩
abbrev S960x256 : Shape := ⟨2, ![960, 256]⟩
abbrev S128x256 : Shape := ⟨2, ![128, 256]⟩
abbrev S256x6144 : Shape := ⟨2, ![256, 6144]⟩
abbrev S256x128 : Shape := ⟨2, ![256, 128]⟩
abbrev S64x128 : Shape := ⟨2, ![64, 128]⟩
abbrev S64x128x1 : Shape := ⟨3, ![64, 128, 1]⟩
abbrev S256x128x1 : Shape := ⟨3, ![256, 128, 1]⟩
abbrev S256x64 : Shape := ⟨2, ![256, 64]⟩
abbrev S960x128 : Shape := ⟨2, ![960, 128]⟩
abbrev S960x4096 : Shape := ⟨2, ![960, 4096]⟩
abbrev S512x2048 : Shape := ⟨2, ![512, 2048]⟩
abbrev S512x128 : Shape := ⟨2, ![512, 128]⟩
abbrev S4096x128 : Shape := ⟨2, ![4096, 128]⟩
abbrev S128x512 : Shape := ⟨2, ![128, 512]⟩
abbrev S960x512 : Shape := ⟨2, ![960, 512]⟩
abbrev S512x4096 : Shape := ⟨2, ![512, 4096]⟩
abbrev S128x128 : Shape := ⟨2, ![128, 128]⟩
abbrev S128x128x1 : Shape := ⟨3, ![128, 128, 1]⟩
abbrev S512x128x1 : Shape := ⟨3, ![512, 128, 1]⟩
abbrev S7680x1x16384 : Shape := ⟨3, ![7680, 1, 16384]⟩

abbrev nBuf : Space → Nat
  | .hbm => 75
  | .vmem => 40
  | .smem => 0
  | _ => 0

abbrev bufTy : (tb : Table) → Fin (tcTables nBuf tb) → BufTy
  | .hbm, ⟨0, _⟩ => ⟨S7680x1x6144, .bf16⟩
  | .hbm, ⟨1, _⟩ => ⟨S16384x3072, .i8⟩
  | .hbm, ⟨2, _⟩ => ⟨S16384x192, .f16⟩
  | .hbm, ⟨3, _⟩ => ⟨S16384x3072, .i8⟩
  | .hbm, ⟨4, _⟩ => ⟨S16384x192, .f16⟩
  | .hbm, ⟨5, _⟩ => ⟨S6144x8192, .i8⟩
  | .hbm, ⟨6, _⟩ => ⟨S6144x512, .f16⟩
  | .hbm, ⟨7, _⟩ => ⟨S7680, .i32⟩
  | .hbm, ⟨8, _⟩ => ⟨S7x6144x16, .bf16⟩
  | .hbm, ⟨9, _⟩ => ⟨S7x16x16384, .bf16⟩
  | .hbm, ⟨10, _⟩ => ⟨S7x6144x16, .bf16⟩
  | .hbm, ⟨11, _⟩ => ⟨S7x16x16384, .bf16⟩
  | .hbm, ⟨12, _⟩ => ⟨S7x16384x16, .bf16⟩
  | .hbm, ⟨13, _⟩ => ⟨S7x16x6144, .bf16⟩
  | .hbm, ⟨14, _⟩ => ⟨S7680x6144, .bf16⟩
  | .hbm, ⟨15, _⟩ => ⟨S7680x1, .i32⟩
  | .hbm, ⟨16, _⟩ => ⟨S7680, .i32⟩
  | .hbm, ⟨17, _⟩ => ⟨S128, .i32⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S7680x1, .i32⟩
  | .hbm, ⟨37, _⟩ => ⟨S1x128, .i32⟩
  | .hbm, ⟨38, _⟩ => ⟨S7680x128, .i32⟩
  | .hbm, ⟨39, _⟩ => ⟨S7680x128, .i32⟩
  | .hbm, ⟨40, _⟩ => ⟨S7680x128, .i1⟩
  | .hbm, ⟨41, _⟩ => ⟨S7680x128, .f32⟩
  | .hbm, ⟨42, _⟩ => ⟨S7680x256, .f32⟩
  | .hbm, ⟨43, _⟩ => ⟨S6144x7x16, .bf16⟩
  | .hbm, ⟨44, _⟩ => ⟨S6144x112, .bf16⟩
  | .hbm, ⟨45, _⟩ => ⟨S_, .i32⟩
  | .hbm, ⟨46, _⟩ => ⟨S_, .bf16⟩
  | .hbm, ⟨47, _⟩ => ⟨S6144x128, .bf16⟩
  | .hbm, ⟨48, _⟩ => ⟨S6144x7x16, .bf16⟩
  | .hbm, ⟨49, _⟩ => ⟨S6144x112, .bf16⟩
  | .hbm, ⟨50, _⟩ => ⟨S_, .i32⟩
  | .hbm, ⟨51, _⟩ => ⟨S_, .bf16⟩
  | .hbm, ⟨52, _⟩ => ⟨S6144x128, .bf16⟩
  | .hbm, ⟨53, _⟩ => ⟨S6144x256, .bf16⟩
  | .hbm, ⟨54, _⟩ => ⟨S112x16384, .bf16⟩
  | .hbm, ⟨55, _⟩ => ⟨S_, .i32⟩
  | .hbm, ⟨56, _⟩ => ⟨S_, .bf16⟩
  | .hbm, ⟨57, _⟩ => ⟨S128x16384, .bf16⟩
  | .hbm, ⟨58, _⟩ => ⟨S112x16384, .bf16⟩
  | .hbm, ⟨59, _⟩ => ⟨S_, .i32⟩
  | .hbm, ⟨60, _⟩ => ⟨S_, .bf16⟩
  | .hbm, ⟨61, _⟩ => ⟨S128x16384, .bf16⟩
  | .hbm, ⟨62, _⟩ => ⟨S112x6144, .bf16⟩
  | .hbm, ⟨63, _⟩ => ⟨S_, .i32⟩
  | .hbm, ⟨64, _⟩ => ⟨S_, .bf16⟩
  | .hbm, ⟨65, _⟩ => ⟨S128x6144, .bf16⟩
  | .hbm, ⟨66, _⟩ => ⟨S16384x7x16, .bf16⟩
  | .hbm, ⟨67, _⟩ => ⟨S16384x112, .bf16⟩
  | .hbm, ⟨68, _⟩ => ⟨S_, .i32⟩
  | .hbm, ⟨69, _⟩ => ⟨S_, .bf16⟩
  | .hbm, ⟨70, _⟩ => ⟨S16384x128, .bf16⟩
  | .hbm, ⟨71, _⟩ => ⟨S7680x16384, .bf16⟩
  | .hbm, ⟨72, _⟩ => ⟨S7680x6144, .bf16⟩
  | .hbm, ⟨73, _⟩ => ⟨S7680x1x6144, .bf16⟩
  | .hbm, ⟨74, _⟩ => ⟨S7680x1x16384, .bf16⟩
  | .local _ .vmem, ⟨0, _⟩ => ⟨S960x6144, .bf16⟩
  | .local _ .vmem, ⟨1, _⟩ => ⟨S960x6144, .bf16⟩
  | .local _ .vmem, ⟨2, _⟩ => ⟨S256x3072, .i8⟩
  | .local _ .vmem, ⟨3, _⟩ => ⟨S256x3072, .i8⟩
  | .local _ .vmem, ⟨4, _⟩ => ⟨S256x192, .f16⟩
  | .local _ .vmem, ⟨5, _⟩ => ⟨S256x192, .f16⟩
  | .local _ .vmem, ⟨6, _⟩ => ⟨S256x3072, .i8⟩
  | .local _ .vmem, ⟨7, _⟩ => ⟨S256x3072, .i8⟩
  | .local _ .vmem, ⟨8, _⟩ => ⟨S256x192, .f16⟩
  | .local _ .vmem, ⟨9, _⟩ => ⟨S256x192, .f16⟩
  | .local _ .vmem, ⟨10, _⟩ => ⟨S960x256, .f32⟩
  | .local _ .vmem, ⟨11, _⟩ => ⟨S960x256, .f32⟩
  | .local _ .vmem, ⟨12, _⟩ => ⟨S6144x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S960x256, .bf16⟩
  | .local _ .vmem, ⟨18, _⟩ => ⟨S960x256, .bf16⟩
  | .local _ .vmem, ⟨19, _⟩ => ⟨S256x6144, .bf16⟩
  | .local _ .vmem, ⟨20, _⟩ => ⟨S256x6144, .bf16⟩
  | .local _ .vmem, ⟨21, _⟩ => ⟨S960x256, .bf16⟩
  | .local _ .vmem, ⟨22, _⟩ => ⟨S960x4096, .bf16⟩
  | .local _ .vmem, ⟨23, _⟩ => ⟨S960x4096, .bf16⟩
  | .local _ .vmem, ⟨24, _⟩ => ⟨S512x2048, .i8⟩
  | .local _ .vmem, ⟨25, _⟩ => ⟨S512x2048, .i8⟩
  | .local _ .vmem, ⟨26, _⟩ => ⟨S512x128, .f16⟩
  | .local _ .vmem, ⟨27, _⟩ => ⟨S512x128, .f16⟩
  | .local _ .vmem, ⟨28, _⟩ => ⟨S960x128, .f32⟩
  | .local _ .vmem, ⟨29, _⟩ => ⟨S960x128, .f32⟩
  | .local _ .vmem, ⟨30, _⟩ => ⟨S4096x128, .bf16⟩
  | .local _ .vmem, ⟨31, _⟩ => ⟨S4096x128, .bf16⟩
  | .local _ .vmem, ⟨32, _⟩ => ⟨S128x512, .bf16⟩
  | .local _ .vmem, ⟨33, _⟩ => ⟨S128x512, .bf16⟩
  | .local _ .vmem, ⟨34, _⟩ => ⟨S960x512, .bf16⟩
  | .local _ .vmem, ⟨35, _⟩ => ⟨S960x512, .bf16⟩
  | .local _ .vmem, ⟨36, _⟩ => ⟨S512x4096, .bf16⟩
  | .local _ .vmem, ⟨37, _⟩ => ⟨S960x128, .bf16⟩
  | .local _ .vmem, ⟨38, _⟩ => ⟨S960x128, .f32⟩
  | .local _ .vmem, ⟨39, _⟩ => ⟨S960x512, .f32⟩
  | _, _ => ⟨S7680x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_0 : Ref sig .tc := ⟨.hbm, 45, rfl⟩
abbrev main_call1_v0 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_1 : Ref sig .tc := ⟨.hbm, 50, rfl⟩
abbrev main_call2_v0 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_2 : Ref sig .tc := ⟨.hbm, 55, rfl⟩
abbrev main_call3_v0 : Ref sig .tc := ⟨.hbm, 56, rfl⟩
abbrev main_v20 : Ref sig .tc := ⟨.hbm, 57, rfl⟩
abbrev main_v21 : Ref sig .tc := ⟨.hbm, 58, rfl⟩
abbrev main_c_3 : Ref sig .tc := ⟨.hbm, 59, rfl⟩
abbrev main_call4_v0 : Ref sig .tc := ⟨.hbm, 60, rfl⟩
abbrev main_v22 : Ref sig .tc := ⟨.hbm, 61, rfl⟩
abbrev main_v23 : Ref sig .tc := ⟨.hbm, 62, rfl⟩
abbrev main_c_4 : Ref sig .tc := ⟨.hbm, 63, rfl⟩
abbrev main_call5_v0 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c_5 : Ref sig .tc := ⟨.hbm, 68, rfl⟩
abbrev main_call6_v0 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_scratch0 : Ref sig .tc := ⟨.vmem, 36, rfl⟩
abbrev cc1_scratch1 : Ref sig .tc := ⟨.vmem, 37, rfl⟩
abbrev cc1_scratch2 : Ref sig .tc := ⟨.vmem, 38, rfl⟩
abbrev cc1_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S960x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x3072 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x192 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x3072 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x192 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S960x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S6144x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S960x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![8, 12, 4], ![false, false, false]⟩

def k1_cond6 (i : grid1.Coords) : BitVec 1 :=
  let arg2 : BitVec 32 := BitVec.ofNat 32 (i 2).val
  let c3_i32 : BitVec 32 := 3#32
  let v3679 : BitVec 1 := Scalar.cmpi .eq arg2 c3_i32
  let v3680 : BitVec 32 := Scalar.extui v3679
  let c0_i32_1160 : BitVec 32 := 0#32
  let v3681 : BitVec 1 := Scalar.cmpi .ne v3680 c0_i32_1160
  v3681

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S960x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x128 .f16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S960x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S960x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]
-- ==== ReferenceIdeal.lean ====
abbrev S7680x1x6144 : Shape := ⟨3, ![7680, 1, 6144]⟩
abbrev S16384x3072 : Shape := ⟨2, ![16384, 3072]⟩
abbrev S16384x192 : Shape := ⟨2, ![16384, 192]⟩
abbrev S6144x8192 : Shape := ⟨2, ![6144, 8192]⟩
abbrev S6144x512 : Shape := ⟨2, ![6144, 512]⟩
abbrev S7680 : Shape := ⟨1, ![7680]⟩
abbrev S7x6144x16 : Shape := ⟨3, ![7, 6144, 16]⟩
abbrev S7x16x16384 : Shape := ⟨3, ![7, 16, 16384]⟩
abbrev S7x16384x16 : Shape := ⟨3, ![7, 16384, 16]⟩
abbrev S7x16x6144 : Shape := ⟨3, ![7, 16, 6144]⟩
abbrev S7680x1 : Shape := ⟨2, ![7680, 1]⟩
abbrev S1x7 : Shape := ⟨2, ![1, 7]⟩
abbrev S7680x7 : Shape := ⟨2, ![7680, 7]⟩
abbrev S7680x1x7x1 : Shape := ⟨4, ![7680, 1, 7, 1]⟩
abbrev S16384x192x16 : Shape := ⟨3, ![16384, 192, 16]⟩
abbrev S16384x192x1 : Shape := ⟨3, ![16384, 192, 1]⟩
abbrev S_ : Shape := ⟨0, ![]⟩
abbrev S7680x1x192x2x16 : Shape := ⟨5, ![7680, 1, 192, 2, 16]⟩
abbrev S7680x1x192x1x16 : Shape := ⟨5, ![7680, 1, 192, 1, 16]⟩
abbrev S7680x1x192x16 : Shape := ⟨4, ![7680, 1, 192, 16]⟩
abbrev S7680x1x16384 : Shape := ⟨3, ![7680, 1, 16384]⟩
abbrev S7680x1x7x16 : Shape := ⟨4, ![7680, 1, 7, 16]⟩
abbrev S6144x512x16 : Shape := ⟨3, ![6144, 512, 16]⟩
abbrev S6144x512x1 : Shape := ⟨3, ![6144, 512, 1]⟩
abbrev S7680x1x512x2x16 : Shape := ⟨5, ![7680, 1, 512, 2, 16]⟩
abbrev S7680x1x512x1x16 : Shape := ⟨5, ![7680, 1, 512, 1, 16]⟩
abbrev S7680x1x512x16 : Shape := ⟨4, ![7680, 1, 512, 16]⟩

abbrev nBuf : Space → Nat
  | .hbm => 156
  | .vmem => 6
  | .smem => 0
  | _ => 0

abbrev hbmTy0_0 (i : Nat) : BufTy := match i % 128 with
  | 0 => ⟨S7680x1x6144, .bf16⟩
  | 1 => ⟨S16384x3072, .i8⟩
  | 2 => ⟨S16384x192, .f16⟩
  | 3 => ⟨S16384x3072, .i8⟩
  | 4 => ⟨S16384x192, .f16⟩
  | 5 => ⟨S6144x8192, .i8⟩
  | 6 => ⟨S6144x512, .f16⟩
  | 7 => ⟨S7680, .i32⟩
  | 8 => ⟨S7x6144x16, .bf16⟩
  | 9 => ⟨S7x16x16384, .bf16⟩
  | 10 => ⟨S7x6144x16, .bf16⟩
  | 11 => ⟨S7x16x16384, .bf16⟩
  | 12 => ⟨S7x16384x16, .bf16⟩
  | 13 => ⟨S7x16x6144, .bf16⟩
  | 14 => ⟨S16384x192, .f32⟩
  | 15 => ⟨S16384x192, .f32⟩
  | 16 => ⟨S6144x512, .f32⟩
  | 17 => ⟨S7680x1, .i32⟩
  | 18 => ⟨S1x7, .i32⟩
  | 19 => ⟨S7680x7, .i32⟩
  | 20 => ⟨S7680x7, .i32⟩
  | 21 => ⟨S7680x7, .i1⟩
  | 22 => ⟨S7680x7, .f32⟩
  | 23 => ⟨S7680x1x7x1, .f32⟩
  | 24 => ⟨S16384x192x16, .i8⟩
  | 25 => ⟨S16384x192x16, .i32⟩
  | 26 => ⟨S16384x192x1, .f32⟩
  | 27 => ⟨S_, .i32⟩
  | 28 => ⟨S16384x192x16, .i32⟩
  | 29 => ⟨S16384x192x16, .i32⟩
  | 30 => ⟨S16384x192x16, .f32⟩
  | 31 => ⟨S_, .f32⟩
  | 32 => ⟨S16384x192x16, .f32⟩
  | 33 => ⟨S16384x192x16, .f32⟩
  | 34 => ⟨S16384x192x16, .f32⟩
  | 35 => ⟨S16384x192x16, .f32⟩
  | 36 => ⟨S_, .i32⟩
  | 37 => ⟨S16384x192x16, .i32⟩
  | 38 => ⟨S16384x192x16, .i32⟩
  | 39 => ⟨S16384x192x16, .f32⟩
  | 40 => ⟨S_, .f32⟩
  | 41 => ⟨S16384x192x16, .f32⟩
  | 42 => ⟨S16384x192x16, .f32⟩
  | 43 => ⟨S16384x192x16, .f32⟩
  | 44 => ⟨S16384x192x16, .f32⟩
  | 45 => ⟨S16384x192x16, .bf16⟩
  | 46 => ⟨S16384x192x16, .bf16⟩
  | 47 => ⟨S7680x1x192x2x16, .bf16⟩
  | 48 => ⟨S7680x1x192x1x16, .bf16⟩
  | 49 => ⟨S7680x1x192x16, .bf16⟩
  | 50 => ⟨S7680x1x16384, .f32⟩
  | 51 => ⟨S7680x1x192x1x16, .bf16⟩
  | 52 => ⟨S7680x1x192x16, .bf16⟩
  | 53 => ⟨S7680x1x16384, .f32⟩
  | 54 => ⟨S7680x1x16384, .f32⟩
  | 55 => ⟨S7680x1x7x16, .f32⟩
  | 56 => ⟨S7680x1x7x16, .f32⟩
  | 57 => ⟨S7680x1x7x16, .f32⟩
  | 58 => ⟨S7680x1x7x16, .bf16⟩
  | 59 => ⟨S7680x1x16384, .f32⟩
  | 60 => ⟨S_, .f32⟩
  | 61 => ⟨S7680x1x16384, .f32⟩
  | 62 => ⟨S7680x1x16384, .f32⟩
  | 63 => ⟨S7680x1x16384, .f32⟩
  | 64 => ⟨S16384x192x16, .i8⟩
  | 65 => ⟨S16384x192x16, .i32⟩
  | 66 => ⟨S16384x192x1, .f32⟩
  | 67 => ⟨S_, .i32⟩
  | 68 => ⟨S16384x192x16, .i32⟩
  | 69 => ⟨S16384x192x16, .i32⟩
  | 70 => ⟨S16384x192x16, .f32⟩
  | 71 => ⟨S_, .f32⟩
  | 72 => ⟨S16384x192x16, .f32⟩
  | 73 => ⟨S16384x192x16, .f32⟩
  | 74 => ⟨S16384x192x16, .f32⟩
  | 75 => ⟨S16384x192x16, .f32⟩
  | 76 => ⟨S_, .i32⟩
  | 77 => ⟨S16384x192x16, .i32⟩
  | 78 => ⟨S16384x192x16, .i32⟩
  | 79 => ⟨S16384x192x16, .f32⟩
  | 80 => ⟨S_, .f32⟩
  | 81 => ⟨S16384x192x16, .f32⟩
  | 82 => ⟨S16384x192x16, .f32⟩
  | 83 => ⟨S16384x192x16, .f32⟩
  | 84 => ⟨S16384x192x16, .f32⟩
  | 85 => ⟨S16384x192x16, .bf16⟩
  | 86 => ⟨S16384x192x16, .bf16⟩
  | 87 => ⟨S7680x1x192x2x16, .bf16⟩
  | 88 => ⟨S7680x1x192x1x16, .bf16⟩
  | 89 => ⟨S7680x1x192x16, .bf16⟩
  | 90 => ⟨S7680x1x16384, .f32⟩
  | 91 => ⟨S7680x1x192x1x16, .bf16⟩
  | 92 => ⟨S7680x1x192x16, .bf16⟩
  | 93 => ⟨S7680x1x16384, .f32⟩
  | 94 => ⟨S7680x1x16384, .f32⟩
  | 95 => ⟨S7680x1x7x16, .f32⟩
  | 96 => ⟨S7680x1x7x16, .f32⟩
  | 97 => ⟨S7680x1x7x16, .f32⟩
  | 98 => ⟨S7680x1x7x16, .bf16⟩
  | 99 => ⟨S7680x1x16384, .f32⟩
  | 100 => ⟨S_, .f32⟩
  | 101 => ⟨S7680x1x16384, .f32⟩
  | 102 => ⟨S7680x1x16384, .f32⟩
  | 103 => ⟨S7680x1x16384, .f32⟩
  | 104 => ⟨S7680x1x16384, .f32⟩
  | 105 => ⟨S7680x1x16384, .f32⟩
  | 106 => ⟨S_, .f32⟩
  | 107 => ⟨S7680x1x16384, .f32⟩
  | 108 => ⟨S7680x1x16384, .f32⟩
  | 109 => ⟨S_, .f32⟩
  | 110 => ⟨S7680x1x16384, .f32⟩
  | 111 => ⟨S7680x1x16384, .f32⟩
  | 112 => ⟨S7680x1x16384, .f32⟩
  | 113 => ⟨S7680x1x16384, .f32⟩
  | 114 => ⟨S7680x1x16384, .bf16⟩
  | 115 => ⟨S6144x512x16, .i8⟩
  | 116 => ⟨S6144x512x16, .i32⟩
  | 117 => ⟨S6144x512x1, .f32⟩
  | 118 => ⟨S_, .i32⟩
  | 119 => ⟨S6144x512x16, .i32⟩
  | 120 => ⟨S6144x512x16, .i32⟩
  | 121 => ⟨S6144x512x16, .f32⟩
  | 122 => ⟨S_, .f32⟩
  | 123 => ⟨S6144x512x16, .f32⟩
  | 124 => ⟨S6144x512x16, .f32⟩
  | 125 => ⟨S6144x512x16, .f32⟩
  | 126 => ⟨S6144x512x16, .f32⟩
  | 127 => ⟨S_, .i32⟩
  | _ => ⟨S7680x1x6144, .bf16⟩

abbrev hbmTy0_1 (i : Nat) : BufTy := match i % 128 with
  | 0 => ⟨S6144x512x16, .i32⟩
  | 1 => ⟨S6144x512x16, .i32⟩
  | 2 => ⟨S6144x512x16, .f32⟩
  | 3 => ⟨S_, .f32⟩
  | 4 => ⟨S6144x512x16, .f32⟩
  | 5 => ⟨S6144x512x16, .f32⟩
  | 6 => ⟨S6144x512x16, .f32⟩
  | 7 => ⟨S6144x512x16, .f32⟩
  | 8 => ⟨S6144x512x16, .bf16⟩
  | 9 => ⟨S6144x512x16, .bf16⟩
  | 10 => ⟨S7680x1x512x2x16, .bf16⟩
  | 11 => ⟨S7680x1x512x1x16, .bf16⟩
  | 12 => ⟨S7680x1x512x16, .bf16⟩
  | 13 => ⟨S7680x1x6144, .f32⟩
  | 14 => ⟨S7680x1x512x1x16, .bf16⟩
  | 15 => ⟨S7680x1x512x16, .bf16⟩
  | 16 => ⟨S7680x1x6144, .f32⟩
  | 17 => ⟨S7680x1x6144, .f32⟩
  | 18 => ⟨S7680x1x7x16, .f32⟩
  | 19 => ⟨S7680x1x7x16, .f32⟩
  | 20 => ⟨S7680x1x7x16, .f32⟩
  | 21 => ⟨S7680x1x7x16, .bf16⟩
  | 22 => ⟨S7680x1x6144, .f32⟩
  | 23 => ⟨S_, .f32⟩
  | 24 => ⟨S7680x1x6144, .f32⟩
  | 25 => ⟨S7680x1x6144, .f32⟩
  | 26 => ⟨S7680x1x6144, .f32⟩
  | 27 => ⟨S7680x1x6144, .bf16⟩
  | _ => ⟨S7680x1x6144, .bf16⟩

abbrev hbmTy (i : Nat) : BufTy := match i / 128 with
  | 0 => hbmTy0_0 i
  | 1 => hbmTy0_1 i
  | _ => ⟨S7680x1x6144, .bf16⟩

abbrev bufTy : (tb : Table) → Fin (tcTables nBuf tb) → BufTy
  | .hbm, ⟨i, _⟩ => hbmTy i
  | .local _ .vmem, ⟨0, _⟩ => ⟨S16384x192, .f16⟩
  | .local _ .vmem, ⟨1, _⟩ => ⟨S16384x192, .f16⟩
  | .local _ .vmem, ⟨2, _⟩ => ⟨S6144x512, .f16⟩
  | .local _ .vmem, ⟨3, _⟩ => ⟨S16384x192, .f32⟩
  | .local _ .vmem, ⟨4, _⟩ => ⟨S16384x192, .f32⟩
  | .local _ .vmem, ⟨5, _⟩ => ⟨S6144x512, .f32⟩
  | _, _ => ⟨S7680x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_7 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_8 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_10 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_11 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_12 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_13 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_14 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x192 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x192 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x512 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelIdeal.Cond.lean ====
/- The conditions of the two bodies' conditionals, as propositions of the grid coordinates and in closed form over the points. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `gate_up`: this is the first weight tile (j = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (fun t => by
    have ht : t.val < 512 := Nat.lt_of_lt_of_eq t.isLt N_0
    have e0 : (grid0.coords t 0).val = t.val / 64 % 8 := Pipeline.Grid.coords_val t 0 (by decide) rfl
    have e1 : (grid0.coords t 1).val = t.val / 1 % 64 := Pipeline.Grid.coords_val t 1 (by decide) rfl
    simp only [cond0_0, e0, e1]
    word_cmp
   : ∀ t : Fin grid0.N, cond0_0 (grid0.coords t) ↔ t.val % 64 = 0)

/-- `down`: the first step over k. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 4 % 12 := Pipeline.Grid.coords_val t 1 (by decide) rfl
    have e2 : (grid1.coords t 2).val = t.val / 1 % 4 := Pipeline.Grid.coords_val t 2 (by decide) rfl
    simp only [cond1_0, e0, e1, e2]
    word_cmp
   : ∀ t : Fin grid1.N, cond1_0 (grid1.coords t) ↔ t.val % 4 = 0)

/-- `down`: the first tile of outputs. -/
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val / 4 % 12 = 0 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 4 % 12 := Pipeline.Grid.coords_val t 1 (by decide) rfl
    have e2 : (grid1.coords t 2).val = t.val / 1 % 4 := Pipeline.Grid.coords_val t 2 (by decide) rfl
    simp only [cond1_1, e0, e1, e2]
    word_cmp
   : ∀ t : Fin grid1.N, cond1_1 (grid1.coords t) ↔ t.val / 4 % 12 = 0)

/-- `down`: the first step over k, inside. -/
abbrev cond1_2 (i : grid1.Coords) : Prop := (Scalar.cmpi .ne (Scalar.extui (Scalar.cmpi .eq (BitVec.ofNat 32 (i 2).val) 0#32)) 0#32) = 1#1
theorem hcond1_2 : ∀ t : Fin cfg1.N, cond1_2 (grid1.coords t) ↔ t.val % 4 = 0 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 4 % 12 := Pipeline.Grid.coords_val t 1 (by decide) rfl
    have e2 : (grid1.coords t 2).val = t.val / 1 % 4 := Pipeline.Grid.coords_val t 2 (by decide) rfl
    simp only [cond1_2, e0, e1, e2]
    word_cmp
   : ∀ t : Fin grid1.N, cond1_2 (grid1.coords t) ↔ t.val % 4 = 0)

/-- `down`: a later step over k. -/
abbrev cond1_3 (i : grid1.Coords) : Prop := (Scalar.cmpi .ne (Scalar.extui (Scalar.cmpi .sgt (BitVec.ofNat 32 (i 2).val) 0#32)) 0#32) = 1#1
theorem hcond1_3 : ∀ t : Fin cfg1.N, cond1_3 (grid1.coords t) ↔ 1 ≤ t.val % 4 :=
  (by decide +kernel : ∀ t : Fin grid1.N, cond1_3 (grid1.coords t) ↔ 1 ≤ t.val % 4)

/-- `down`: the last step over k, inside. -/
abbrev cond1_4 (i : grid1.Coords) : Prop := (Scalar.cmpi .ne (Scalar.extui (Scalar.cmpi .eq (BitVec.ofNat 32 (i 2).val) 3#32)) 0#32) = 1#1
theorem hcond1_4 : ∀ t : Fin cfg1.N, cond1_4 (grid1.coords t) ↔ t.val % 4 = 3 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 4 % 12 := Pipeline.Grid.coords_val t 1 (by decide) rfl
    have e2 : (grid1.coords t 2).val = t.val / 1 % 4 := Pipeline.Grid.coords_val t 2 (by decide) rfl
    simp only [cond1_4, e0, e1, e2]
    word_cmp
   : ∀ t : Fin grid1.N, cond1_4 (grid1.coords t) ↔ t.val % 4 = 3)

/-- `down`: the last step over k. -/
abbrev cond1_5 (i : grid1.Coords) : Prop := k1_cond6 i = 1#1
theorem hcond1_5 : ∀ t : Fin cfg1.N, cond1_5 (grid1.coords t) ↔ t.val % 4 = 3 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 4 % 12 := Pipeline.Grid.coords_val t 1 (by decide) rfl
    have e2 : (grid1.coords t 2).val = t.val / 1 % 4 := Pipeline.Grid.coords_val t 2 (by decide) rfl
    simp only [cond1_5, k1_cond6, e0, e1, e2]
    word_cmp
   : ∀ t : Fin grid1.N, cond1_5 (grid1.coords t) ↔ t.val % 4 = 3)

end Cert.KernelIdeal.Body

end
-- ==== Proof.KernelIdeal.Run0A.lean ====
/- The whole-body run of `cc0_gate_up` in one case of its conditionals: the first weight tile of a token block: `t` is computed. -/
module

public import proofs.«01_k».proof.Proof.KernelIdeal.Cond

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc0_gate_up` when the first weight tile of a token block: `t` is computed: what its stores leave in each buffer it writes, as the list of stored pieces (last
    first), with the proof that on whole buffers — the inputs at `x·`, a carried scratch at `xs·`, the rest at anything —
    the body runs to those pieces written. The lists are the witness the run finds. -/
noncomputable def run0A (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16) :
    Σ' (L0 : List (View.Piece (Elt F) S960x256 .bf16)), Σ' (L1 : List (View.Piece (Elt F) S256x6144 .bf16)), Σ' (L2 : List (View.Piece (Elt F) S256x6144 .bf16)), { L3 : List (View.Piece (Elt F) S960x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L0) ∗ (∃ f, arg12.view.loc (c : Thread nD τ) ↦[arg12.view.set]{fullShare} arg12.view.writes (Elt F) f L1) ∗ (∃ f, arg13.view.loc (c : Thread nD τ) ↦[arg13.view.set]{fullShare} arg13.view.writes (Elt F) f L2) ∗ (∃ f, arg14.view.loc (c : Thread nD τ) ↦[arg14.view.set]{fullShare} arg14.view.writes (Elt F) f L3)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    isplitl [HS1]
    · iexists _; iexact HS1
    isplitl [HS2]
    · iexists _; iexact HS2
    iexists _; iexact HS3

end Cert.KernelIdeal.Body

end
-- ==== Proof.KernelIdeal.Run0B.lean ====
/- The whole-body run of `cc0_gate_up` in one case of its conditionals: a later weight tile of a token block: `t` is kept. -/
module

public import proofs.«01_k».proof.Proof.KernelIdeal.Run0A

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc0_gate_up` when a later weight tile of a token block: `t` is kept: what its stores leave in each buffer it writes, as the list of stored pieces (last
    first), with the proof that on whole buffers — the inputs at `x·`, a carried scratch at `xs·`, the rest at anything —
    the body runs to those pieces written. The lists are the witness the run finds. -/
noncomputable def run0B (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : ¬cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16) (xs3 : Vec F S960x256 .bf16) :
    Σ' (L0 : List (View.Piece (Elt F) S960x256 .bf16)), Σ' (L1 : List (View.Piece (Elt F) S256x6144 .bf16)), { L2 : List (View.Piece (Elt F) S256x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L0) ∗ (∃ f, arg12.view.loc (c : Thread nD τ) ↦[arg12.view.set]{fullShare} arg12.view.writes (Elt F) f L1) ∗ (∃ f, arg13.view.loc (c : Thread nD τ) ↦[arg13.view.set]{fullShare} arg13.view.writes (Elt F) f L2) ∗ owns (c : Thread nD τ) arg14 fullShare xs3) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    isplitl [HS1]
    · iexists _; iexact HS1
    isplitl [HS2]
    · iexists _; iexact HS2
    iexists _; isplitr; · ipureintro; exact harg14.read_unread _
    iexact HS3

end Cert.KernelIdeal.Body

end
-- ==== Proof.KernelIdeal.Chunk.lean ====
/- What the kernel stores per half chunk of a weight: packed codes unpacked, each times its group's scale. The gate and up weights
   are unpacked 256 rows at a time, the down weight 512 rows at a time. -/
module

public import proofs.«01_k».proof.Proof.Gen.KernelIdeal.Skeleton

@[expose] public section

set_option maxRecDepth 16384

noncomputable section

namespace Cert.KernelIdeal.Body

open Cert.KernelIdeal.Gen
open Idealize.ShloMosaic

variable {F : FTy → Type} [FloatOps F]

/-! ### A chunk of 256 rows -/

/-- Of which lane a lane takes its word: lane `32 a + b` takes the word of lane `h + 16 a + b % 16` (`h` = 0 for the first half of the
    chunk, 64 for the second), the division and the remainder spelled as the kernel spells them. -/
def src0 (h : BitVec 32) : IVec S64x128 32 :=
  let lane : IVec S64x128 32 := iota .tc S64x128 32 [1] iota_S64x128_d1_w32
  let quo : IVec S64x128 32 := divsi lane (broadcast S64x128 32#32)
  let sgn : IVec S64x128 32 := subi (extui 32 (cmpi .sgt lane (broadcast S64x128 0#32)) natLt_1_32) (extui 32 (cmpi .slt lane (broadcast S64x128 0#32)) natLt_1_32)
  let sgd : BitVec 32 := Scalar.subi (Scalar.extui (Scalar.cmpi .sgt 32#32 0#32)) (Scalar.extui (Scalar.cmpi .slt 32#32 0#32))
  let off : IVec S64x128 1 := andi (cmpi .ne sgn (broadcast S64x128 sgd)) (cmpi .ne (remsi lane (broadcast S64x128 32#32)) (broadcast S64x128 0#32))
  let fl : IVec S64x128 32 := select off (subi quo (broadcast S64x128 1#32)) quo
  let base : IVec S64x128 32 := addi (broadcast S64x128 h) (muli fl (broadcast S64x128 16#32))
  let d : BitVec 32 := Scalar.select (Scalar.cmpi .eq 16#32 0#32) 1#32 16#32
  let r : IVec S64x128 32 := remsi lane (broadcast S64x128 d)
  let neg : IVec S64x128 1 := xori (cmpi .slt r (broadcast S64x128 0#32)) (broadcastTo S64x128 (broadcast S64x128 (Scalar.cmpi .slt d 0#32)) broadcasts_S64x128_S64x128)
  let md : IVec S64x128 32 := select (andi neg (cmpi .ne r (broadcast S64x128 0#32))) (addi r (broadcast S64x128 d)) r
  let at0 : IVec S64x128 32 := addi base md
  select (cmpi .slt at0 (broadcast S64x128 0#32)) (addi at0 (broadcast S64x128 128#32)) at0

/-- By how much a lane shifts its word to the left: 4 where the lane holds a low nibble (`lane % 32 < 16`), else 0. -/
def shift0 : IVec S64x128 32 :=
  let lane : IVec S64x128 32 := iota .tc S64x128 32 [1] iota_S64x128_d1_w32
  let d : BitVec 32 := Scalar.select (Scalar.cmpi .eq 32#32 0#32) 1#32 32#32
  let r : IVec S64x128 32 := remsi lane (broadcast S64x128 d)
  let neg : IVec S64x128 1 := xori (cmpi .slt r (broadcast S64x128 0#32)) (broadcastTo S64x128 (broadcast S64x128 (Scalar.cmpi .slt d 0#32)) broadcasts_S64x128_S64x128)
  let md : IVec S64x128 32 := select (andi neg (cmpi .ne r (broadcast S64x128 0#32))) (addi r (broadcast S64x128 d)) r
  select (cmpi .sge md (broadcast S64x128 16#32)) (broadcast S64x128 0#32) (broadcast S64x128 4#32)

/-- The codes of half a chunk: each lane's nibble in the upper half of its byte with the top bit flipped, read as a signed byte. -/
def code0 (h : BitVec 32) (q : Vec F S256x128 .i8) : IVec S256x128 8 :=
  let word : IVec S64x128 32 := bitcast S64x128 32 q bitcasts_S256x128_w8_S64x128_w32
  let at0 : IVec S64x128 32 := shapeCast S64x128 (shapeCast S64x128x1 (src0 h) shapeCasts_S64x128_S64x128x1) shapeCasts_S64x128x1_S64x128
  let p : IVec S64x128 32 := xori (andi (shli (dynamicGather 1 word at0) shift0) (broadcast S64x128 4042322160#32)) (broadcast S64x128 2155905152#32)
  bitcast S256x128 8 p bitcasts_S64x128_w32_S256x128_w8

/-- Of which lane of the scales a lane takes its scale: lane `32 a + b` takes group `g + a`. -/
def grp0 (g : BitVec 32) : IVec S256x128 32 :=
  let lane : IVec S256x128 32 := iota .tc S256x128 32 [1] iota_S256x128_d1_w32
  let quo : IVec S256x128 32 := divsi lane (broadcast S256x128 32#32)
  let sgn : IVec S256x128 32 := subi (extui 32 (cmpi .sgt lane (broadcast S256x128 0#32)) natLt_1_32) (extui 32 (cmpi .slt lane (broadcast S256x128 0#32)) natLt_1_32)
  let sgd : BitVec 32 := Scalar.subi (Scalar.extui (Scalar.cmpi .sgt 32#32 0#32)) (Scalar.extui (Scalar.cmpi .slt 32#32 0#32))
  let off : IVec S256x128 1 := andi (cmpi .ne sgn (broadcast S256x128 sgd)) (cmpi .ne (remsi lane (broadcast S256x128 32#32)) (broadcast S256x128 0#32))
  let fl : IVec S256x128 32 := select off (subi quo (broadcast S256x128 1#32)) quo
  let at0 : IVec S256x128 32 := addi (broadcast S256x128 g) fl
  select (cmpi .slt at0 (broadcast S256x128 0#32)) (addi at0 (broadcast S256x128 128#32)) at0

/-- Half a chunk of the dequantised weight: the codes `h` names times the scales from group `g` on. -/
def chunk0 (h g : BitVec 32) (q : Vec F S256x128 .i8) (s : FVec F S256x128 .f32) : FVec F S256x128 .bf16 :=
  let at0 : IVec S256x128 32 := shapeCast S256x128 (shapeCast S256x128x1 (grp0 g) shapeCasts_S256x128_S256x128x1) shapeCasts_S256x128x1_S256x128
  shapeCast S256x128 (truncf .bf16 (mulf (extf .f32 (sitofp .bf16 (code0 (F := F) h q)) bitsLt_bf16_f32) (dynamicGather 1 s at0)) bitsLt_bf16_f32) shapeCasts_S256x128_S256x128

/-- The scales as the chunk takes them: cast to f32, times 1/16. -/
def scale0 (s : Vec F S256x128 .f16) : FVec F S256x128 .f32 :=
  mulf (extf .f32 s bitsLt_f16_f32) (broadcast S256x128 (Scalar.ofBits .f32 0x3D800000#32))

/-! ### A chunk of 512 rows -/

/-- Of which lane a lane takes its word: lane `32 a + b` takes the word of lane `h + 16 a + b % 16` (`h` = 0 for the first half of the
    chunk, 64 for the second), the division and the remainder spelled as the kernel spells them. -/
def src1 (h : BitVec 32) : IVec S128x128 32 :=
  let lane : IVec S128x128 32 := iota .tc S128x128 32 [1] iota_S128x128_d1_w32
  let quo : IVec S128x128 32 := divsi lane (broadcast S128x128 32#32)
  let sgn : IVec S128x128 32 := subi (extui 32 (cmpi .sgt lane (broadcast S128x128 0#32)) natLt_1_32) (extui 32 (cmpi .slt lane (broadcast S128x128 0#32)) natLt_1_32)
  let sgd : BitVec 32 := Scalar.subi (Scalar.extui (Scalar.cmpi .sgt 32#32 0#32)) (Scalar.extui (Scalar.cmpi .slt 32#32 0#32))
  let off : IVec S128x128 1 := andi (cmpi .ne sgn (broadcast S128x128 sgd)) (cmpi .ne (remsi lane (broadcast S128x128 32#32)) (broadcast S128x128 0#32))
  let fl : IVec S128x128 32 := select off (subi quo (broadcast S128x128 1#32)) quo
  let base : IVec S128x128 32 := addi (broadcast S128x128 h) (muli fl (broadcast S128x128 16#32))
  let d : BitVec 32 := Scalar.select (Scalar.cmpi .eq 16#32 0#32) 1#32 16#32
  let r : IVec S128x128 32 := remsi lane (broadcast S128x128 d)
  let neg : IVec S128x128 1 := xori (cmpi .slt r (broadcast S128x128 0#32)) (broadcastTo S128x128 (broadcast S128x128 (Scalar.cmpi .slt d 0#32)) broadcasts_S128x128_S128x128)
  let md : IVec S128x128 32 := select (andi neg (cmpi .ne r (broadcast S128x128 0#32))) (addi r (broadcast S128x128 d)) r
  let at0 : IVec S128x128 32 := addi base md
  select (cmpi .slt at0 (broadcast S128x128 0#32)) (addi at0 (broadcast S128x128 128#32)) at0

/-- By how much a lane shifts its word to the left: 4 where the lane holds a low nibble (`lane % 32 < 16`), else 0. -/
def shift1 : IVec S128x128 32 :=
  let lane : IVec S128x128 32 := iota .tc S128x128 32 [1] iota_S128x128_d1_w32
  let d : BitVec 32 := Scalar.select (Scalar.cmpi .eq 32#32 0#32) 1#32 32#32
  let r : IVec S128x128 32 := remsi lane (broadcast S128x128 d)
  let neg : IVec S128x128 1 := xori (cmpi .slt r (broadcast S128x128 0#32)) (broadcastTo S128x128 (broadcast S128x128 (Scalar.cmpi .slt d 0#32)) broadcasts_S128x128_S128x128)
  let md : IVec S128x128 32 := select (andi neg (cmpi .ne r (broadcast S128x128 0#32))) (addi r (broadcast S128x128 d)) r
  select (cmpi .sge md (broadcast S128x128 16#32)) (broadcast S128x128 0#32) (broadcast S128x128 4#32)

/-- The codes of half a chunk: each lane's nibble in the upper half of its byte with the top bit flipped, read as a signed byte. -/
def code1 (h : BitVec 32) (q : Vec F S512x128 .i8) : IVec S512x128 8 :=
  let word : IVec S128x128 32 := bitcast S128x128 32 q bitcasts_S512x128_w8_S128x128_w32
  let at0 : IVec S128x128 32 := shapeCast S128x128 (shapeCast S128x128x1 (src1 h) shapeCasts_S128x128_S128x128x1) shapeCasts_S128x128x1_S128x128
  let p : IVec S128x128 32 := xori (andi (shli (dynamicGather 1 word at0) shift1) (broadcast S128x128 4042322160#32)) (broadcast S128x128 2155905152#32)
  bitcast S512x128 8 p bitcasts_S128x128_w32_S512x128_w8

/-- Of which lane of the scales a lane takes its scale: lane `32 a + b` takes group `g + a`. -/
def grp1 (g : BitVec 32) : IVec S512x128 32 :=
  let lane : IVec S512x128 32 := iota .tc S512x128 32 [1] iota_S512x128_d1_w32
  let quo : IVec S512x128 32 := divsi lane (broadcast S512x128 32#32)
  let sgn : IVec S512x128 32 := subi (extui 32 (cmpi .sgt lane (broadcast S512x128 0#32)) natLt_1_32) (extui 32 (cmpi .slt lane (broadcast S512x128 0#32)) natLt_1_32)
  let sgd : BitVec 32 := Scalar.subi (Scalar.extui (Scalar.cmpi .sgt 32#32 0#32)) (Scalar.extui (Scalar.cmpi .slt 32#32 0#32))
  let off : IVec S512x128 1 := andi (cmpi .ne sgn (broadcast S512x128 sgd)) (cmpi .ne (remsi lane (broadcast S512x128 32#32)) (broadcast S512x128 0#32))
  let fl : IVec S512x128 32 := select off (subi quo (broadcast S512x128 1#32)) quo
  let at0 : IVec S512x128 32 := addi (broadcast S512x128 g) fl
  select (cmpi .slt at0 (broadcast S512x128 0#32)) (addi at0 (broadcast S512x128 128#32)) at0

/-- Half a chunk of the dequantised weight: the codes `h` names times the scales from group `g` on. -/
def chunk1 (h g : BitVec 32) (q : Vec F S512x128 .i8) (s : FVec F S512x128 .f32) : FVec F S512x128 .bf16 :=
  let at0 : IVec S512x128 32 := shapeCast S512x128 (shapeCast S512x128x1 (grp1 g) shapeCasts_S512x128_S512x128x1) shapeCasts_S512x128x1_S512x128
  shapeCast S512x128 (truncf .bf16 (mulf (extf .f32 (sitofp .bf16 (code1 (F := F) h q)) bitsLt_bf16_f32) (dynamicGather 1 s at0)) bitsLt_bf16_f32) shapeCasts_S512x128_S512x128

/-- The scales as the chunk takes them: cast to f32, times 1/16. -/
def scale1 (s : Vec F S512x128 .f16) : FVec F S512x128 .f32 :=
  mulf (extf .f32 s bitsLt_f16_f32) (broadcast S512x128 (Scalar.ofBits .f32 0x3D800000#32))

/-- The scales of the last 64 groups of the gate and up weights, twice side by side. -/
def scaleTail (s : Vec F S256x64 .f16) : FVec F S256x128 .f32 :=
  let s' : FVec F S256x64 .f32 := mulf (extf .f32 s bitsLt_f16_f32) (broadcast S256x64 (Scalar.ofBits .f32 0x3D800000#32))
  concatenate S256x128 1 [⟨S256x64, s'⟩, ⟨S256x64, s'⟩] concatenates_S256x64_S256x64_S256x128_d1

end Cert.KernelIdeal.Body
-- ==== Proof.KernelIdeal.Pieces.lean ====
/- The dequantised weights, as what the stores of the chunks leave in the scratch. -/
module

public import proofs.«01_k».proof.Proof.KernelIdeal.Chunk
public import proofs.«01_k».proof.Proof.Gen.KernelIdeal.Launch

@[expose] public section

set_option maxRecDepth 16384

noncomputable section

namespace Cert.KernelIdeal.Body

open Cert.KernelIdeal.Gen
open Idealize.ShloMosaic

variable {F : FTy → Type} [FloatOps F]

/-- The packed bytes of one chunk: lanes `128 c` to `128 c + 127` of the weight's bytes. -/
def bytes0 (X : Vec F S256x3072 .i8) (c : Fin 24) : Vec F S256x128 .i8 := fun j =>
  X ((Rect.unit (s := S256x3072) ![0, 128 * c.val] S256x128.size (fun a => by
    have hc := c.isLt
    match a with
    | ⟨0, _⟩ => show 0 + 256 ≤ 256; omega
    | ⟨1, _⟩ => show 128 * c.val + 128 ≤ 3072; omega)).toLoadRect.idx j)

/-- The scales of one chunk of a gate or up weight: the first 128 groups for chunks 0 to 15, the last 64 twice for the others. -/
def scales0 (S : Vec F S256x192 .f16) (c : Fin 24) : FVec F S256x128 .f32 :=
  if c.val < 16 then scale0 (fun j => S ((Rect.unit (s := S256x192) ![0, 0] S256x128.size inb_S256x192_S256x128_0_0).toLoadRect.idx j))
  else scaleTail (fun j => S ((Rect.unit (s := S256x192) ![0, 128] S256x64.size inb_S256x192_S256x64_0_128).toLoadRect.idx j))

/-- What the kernel stores for half `h` of chunk `c`: columns `256 c + 128 h` to `256 c + 128 h + 127` of the weight. -/
def piece0 (X : Vec F S256x3072 .i8) (S : Vec F S256x192 .f16) (c : Fin 24) (h : Fin 2) : View.Piece (Elt F) S256x6144 .bf16 :=
  ⟨Rect.unit (s := S256x6144) ![0, 256 * c.val + 128 * h.val] S256x128.size (fun a => by
    have hc := c.isLt
    have hh := h.isLt
    match a with
    | ⟨0, _⟩ => show 0 + 256 ≤ 256; omega
    | ⟨1, _⟩ => show 256 * c.val + 128 * h.val + 128 ≤ 6144; omega),
    chunk0 (BitVec.ofNat 32 (64 * h.val)) (BitVec.ofNat 32 ((8 * c.val + 4 * h.val) % 128)) (bytes0 X c) (scales0 S c)⟩

/-- Which half chunks are stored, the last stored first. -/
def order0 : List (Fin 24 × Fin 2) :=
  [(23, 1), (23, 0),
    (22, 1), (22, 0),
    (21, 1), (21, 0),
    (20, 1), (20, 0),
    (19, 1), (19, 0),
    (18, 1), (18, 0),
    (17, 1), (17, 0),
    (16, 1), (16, 0),
    (15, 1), (15, 0),
    (14, 1), (14, 0),
    (13, 1), (13, 0),
    (12, 1), (12, 0),
    (11, 1), (11, 0),
    (10, 1), (10, 0),
    (9, 1), (9, 0),
    (8, 1), (8, 0),
    (7, 1), (7, 0),
    (6, 1), (6, 0),
    (5, 1), (5, 0),
    (4, 1), (4, 0),
    (3, 1), (3, 0),
    (2, 1), (2, 0),
    (1, 1), (1, 0),
    (0, 1), (0, 0)]

/-- All the stores of the weight, the last first. -/
def pieces0 (X : Vec F S256x3072 .i8) (S : Vec F S256x192 .f16) : List (View.Piece (Elt F) S256x6144 .bf16) :=
  order0.map fun p => piece0 X S p.1 p.2

/-- A place of the weight inside its half chunk. -/
def lane0 (y : S256x6144.Idx) : S256x128.Idx := fun
  | ⟨0, _⟩ => ⟨(y 0).val, (y 0).isLt⟩
  | ⟨1, _⟩ => ⟨(y 1).val % 128, Nat.mod_lt _ (by decide)⟩

/-- The dequantised weight: column `col` is lane `col % 128` of half `col / 128 % 2` of chunk `col / 256`. -/
def weight0 (X : Vec F S256x3072 .i8) (S : Vec F S256x192 .f16) : Vec F S256x6144 .bf16 := fun y =>
  (piece0 X S ⟨(y 1).val / 256, by have h : (y 1).val < 6144 := (y 1).isLt; omega⟩ ⟨(y 1).val / 128 % 2, by omega⟩).2
    (lane0 y)

/-- A piece holds the weight's own elements at its place. -/
theorem piece0_agrees (X : Vec F S256x3072 .i8) (S : Vec F S256x192 .f16) (c : Fin 24) (h : Fin 2) (x : (piece0 X S c h).1.shape.Idx) :
    (piece0 X S c h).2 x = weight0 X S ((piece0 X S c h).1.emb x) := by
  have e0 : ((piece0 X S c h).1.emb x 0).val = 0 + 1 * (x 0).val := rfl
  have e1 : ((piece0 X S c h).1.emb x 1).val = (256 * c.val + 128 * h.val) + 1 * (x 1).val := rfl
  have hx : (x 1).val < 128 := (x 1).isLt
  have hh := h.isLt
  generalize (piece0 X S c h).1.emb x = y at e0 e1
  have hc : c = ⟨(y 1).val / 256, by have h : (y 1).val < 6144 := (y 1).isLt; omega⟩ := Fin.ext (by show c.val = (y 1).val / 256; omega)
  have hd : h = ⟨(y 1).val / 128 % 2, by omega⟩ := Fin.ext (by show h.val = (y 1).val / 128 % 2; omega)
  have hl : x = lane0 y := by
    funext a
    match a with
    | ⟨0, _⟩ => exact Fin.ext (by show (x 0).val = (y 0).val; omega)
    | ⟨1, _⟩ => exact Fin.ext (by show (x 1).val = (y 1).val % 128; omega)
  unfold weight0
  rw [← hc, ← hd, ← hl]

theorem pieces0_agree (X : Vec F S256x3072 .i8) (S : Vec F S256x192 .f16) :
    ∀ p ∈ pieces0 X S, ∀ x : p.1.shape.Idx, p.2 x = weight0 X S (p.1.emb x) := by
  intro p hp x
  obtain ⟨⟨c, h⟩, -, rfl⟩ := List.mem_map.mp hp
  exact piece0_agrees X S c h x

theorem order0_all : ∀ (c : Fin 24) (h : Fin 2), (c, h) ∈ order0 := by decide

theorem piece0_mem (X : Vec F S256x3072 .i8) (S : Vec F S256x192 .f16) (c : Fin 24) (h : Fin 2) : piece0 X S c h ∈ pieces0 X S :=
  List.mem_map.mpr ⟨(c, h), order0_all c h, rfl⟩

theorem pieces0_cover (X : Vec F S256x3072 .i8) (S : Vec F S256x192 .f16) (y : S256x6144.Idx) : ∃ p ∈ pieces0 X S, y ∈ p.1.set := by
  have hy0 : (y 0).val < 256 := (y 0).isLt
  have hy : (y 1).val < 6144 := (y 1).isLt
  refine ⟨piece0 X S ⟨(y 1).val / 256, by omega⟩ ⟨(y 1).val / 128 % 2, by omega⟩, piece0_mem X S _ _, ?_⟩
  refine (LoadRect.mem_set _).mpr fun a => ?_
  match a with
  | ⟨0, _⟩ => exact ⟨(y 0).val, hy0, by show (y 0).val = 0 + 1 * (y 0).val; omega⟩
  | ⟨1, _⟩ => exact ⟨(y 1).val % 128, Nat.mod_lt _ (by decide), by
      show (y 1).val = (256 * ((y 1).val / 256) + 128 * ((y 1).val / 128 % 2)) + 1 * ((y 1).val % 128); omega⟩

/-- After the stores of the weight the scratch reads the weight, whatever it held. -/
theorem read_pieces0 {κ : Kind} {sp : Space} (v : View sig κ sp S256x6144 .bf16) (f : v.ty.Contents (Elt F))
    (X : Vec F S256x3072 .i8) (S : Vec F S256x192 .f16) : v.read (Elt F) (v.writes (Elt F) f (pieces0 X S)) = weight0 X S :=
  funext fun y => View.read_writes_apply_of_pieces v f (weight0 X S) _ (pieces0_agree X S) y (pieces0_cover X S y)

/-- The packed bytes of one chunk: lanes `128 c` to `128 c + 127` of the weight's bytes. -/
def bytes1 (X : Vec F S512x2048 .i8) (c : Fin 16) : Vec F S512x128 .i8 := fun j =>
  X ((Rect.unit (s := S512x2048) ![0, 128 * c.val] S512x128.size (fun a => by
    have hc := c.isLt
    match a with
    | ⟨0, _⟩ => show 0 + 512 ≤ 512; omega
    | ⟨1, _⟩ => show 128 * c.val + 128 ≤ 2048; omega)).toLoadRect.idx j)

/-- The scales of the down weight's block, the same for every chunk. -/
def scales1 (S : Vec F S512x128 .f16) : FVec F S512x128 .f32 :=
  scale1 (fun j => S ((Rect.unit (s := S512x128) ![0, 0] S512x128.size inb_S512x128_S512x128_0_0).toLoadRect.idx j))

/-- What the kernel stores for half `h` of chunk `c`: columns `256 c + 128 h` to `256 c + 128 h + 127` of the weight. -/
def piece1 (X : Vec F S512x2048 .i8) (S : Vec F S512x128 .f16) (c : Fin 16) (h : Fin 2) : View.Piece (Elt F) S512x4096 .bf16 :=
  ⟨Rect.unit (s := S512x4096) ![0, 256 * c.val + 128 * h.val] S512x128.size (fun a => by
    have hc := c.isLt
    have hh := h.isLt
    match a with
    | ⟨0, _⟩ => show 0 + 512 ≤ 512; omega
    | ⟨1, _⟩ => show 256 * c.val + 128 * h.val + 128 ≤ 4096; omega),
    chunk1 (BitVec.ofNat 32 (64 * h.val)) (BitVec.ofNat 32 ((8 * c.val + 4 * h.val) % 128)) (bytes1 X c) (scales1 S)⟩

/-- Which half chunks are stored, the last stored first. -/
def order1 : List (Fin 16 × Fin 2) :=
  [(15, 1), (15, 0),
    (14, 1), (14, 0),
    (13, 1), (13, 0),
    (12, 1), (12, 0),
    (11, 1), (11, 0),
    (10, 1), (10, 0),
    (9, 1), (9, 0),
    (8, 1), (8, 0),
    (7, 1), (7, 0),
    (6, 1), (6, 0),
    (5, 1), (5, 0),
    (4, 1), (4, 0),
    (3, 1), (3, 0),
    (2, 1), (2, 0),
    (1, 1), (1, 0),
    (0, 1), (0, 0)]

/-- All the stores of the weight, the last first. -/
def pieces1 (X : Vec F S512x2048 .i8) (S : Vec F S512x128 .f16) : List (View.Piece (Elt F) S512x4096 .bf16) :=
  order1.map fun p => piece1 X S p.1 p.2

/-- A place of the weight inside its half chunk. -/
def lane1 (y : S512x4096.Idx) : S512x128.Idx := fun
  | ⟨0, _⟩ => ⟨(y 0).val, (y 0).isLt⟩
  | ⟨1, _⟩ => ⟨(y 1).val % 128, Nat.mod_lt _ (by decide)⟩

/-- The dequantised weight: column `col` is lane `col % 128` of half `col / 128 % 2` of chunk `col / 256`. -/
def weight1 (X : Vec F S512x2048 .i8) (S : Vec F S512x128 .f16) : Vec F S512x4096 .bf16 := fun y =>
  (piece1 X S ⟨(y 1).val / 256, by have h : (y 1).val < 4096 := (y 1).isLt; omega⟩ ⟨(y 1).val / 128 % 2, by omega⟩).2
    (lane1 y)

/-- A piece holds the weight's own elements at its place. -/
theorem piece1_agrees (X : Vec F S512x2048 .i8) (S : Vec F S512x128 .f16) (c : Fin 16) (h : Fin 2) (x : (piece1 X S c h).1.shape.Idx) :
    (piece1 X S c h).2 x = weight1 X S ((piece1 X S c h).1.emb x) := by
  have e0 : ((piece1 X S c h).1.emb x 0).val = 0 + 1 * (x 0).val := rfl
  have e1 : ((piece1 X S c h).1.emb x 1).val = (256 * c.val + 128 * h.val) + 1 * (x 1).val := rfl
  have hx : (x 1).val < 128 := (x 1).isLt
  have hh := h.isLt
  generalize (piece1 X S c h).1.emb x = y at e0 e1
  have hc : c = ⟨(y 1).val / 256, by have h : (y 1).val < 4096 := (y 1).isLt; omega⟩ := Fin.ext (by show c.val = (y 1).val / 256; omega)
  have hd : h = ⟨(y 1).val / 128 % 2, by omega⟩ := Fin.ext (by show h.val = (y 1).val / 128 % 2; omega)
  have hl : x = lane1 y := by
    funext a
    match a with
    | ⟨0, _⟩ => exact Fin.ext (by show (x 0).val = (y 0).val; omega)
    | ⟨1, _⟩ => exact Fin.ext (by show (x 1).val = (y 1).val % 128; omega)
  unfold weight1
  rw [← hc, ← hd, ← hl]

theorem pieces1_agree (X : Vec F S512x2048 .i8) (S : Vec F S512x128 .f16) :
    ∀ p ∈ pieces1 X S, ∀ x : p.1.shape.Idx, p.2 x = weight1 X S (p.1.emb x) := by
  intro p hp x
  obtain ⟨⟨c, h⟩, -, rfl⟩ := List.mem_map.mp hp
  exact piece1_agrees X S c h x

theorem order1_all : ∀ (c : Fin 16) (h : Fin 2), (c, h) ∈ order1 := by decide

theorem piece1_mem (X : Vec F S512x2048 .i8) (S : Vec F S512x128 .f16) (c : Fin 16) (h : Fin 2) : piece1 X S c h ∈ pieces1 X S :=
  List.mem_map.mpr ⟨(c, h), order1_all c h, rfl⟩

theorem pieces1_cover (X : Vec F S512x2048 .i8) (S : Vec F S512x128 .f16) (y : S512x4096.Idx) : ∃ p ∈ pieces1 X S, y ∈ p.1.set := by
  have hy0 : (y 0).val < 512 := (y 0).isLt
  have hy : (y 1).val < 4096 := (y 1).isLt
  refine ⟨piece1 X S ⟨(y 1).val / 256, by omega⟩ ⟨(y 1).val / 128 % 2, by omega⟩, piece1_mem X S _ _, ?_⟩
  refine (LoadRect.mem_set _).mpr fun a => ?_
  match a with
  | ⟨0, _⟩ => exact ⟨(y 0).val, hy0, by show (y 0).val = 0 + 1 * (y 0).val; omega⟩
  | ⟨1, _⟩ => exact ⟨(y 1).val % 128, Nat.mod_lt _ (by decide), by
      show (y 1).val = (256 * ((y 1).val / 256) + 128 * ((y 1).val / 128 % 2)) + 1 * ((y 1).val % 128); omega⟩

/-- After the stores of the weight the scratch reads the weight, whatever it held. -/
theorem read_pieces1 {κ : Kind} {sp : Space} (v : View sig κ sp S512x4096 .bf16) (f : v.ty.Contents (Elt F))
    (X : Vec F S512x2048 .i8) (S : Vec F S512x128 .f16) : v.read (Elt F) (v.writes (Elt F) f (pieces1 X S)) = weight1 X S :=
  funext fun y => View.read_writes_apply_of_pieces v f (weight1 X S) _ (pieces1_agree X S) y (pieces1_cover X S y)

end Cert.KernelIdeal.Body
-- ==== Proof.KernelIdeal.Triple0.lean ====
/- What one run of `cc0_gate_up` computes, case by case: the outputs and the carried scratch as functions of the inputs' blocks. -/
module

public import proofs.«01_k».proof.Proof.KernelIdeal.Run0A
public import proofs.«01_k».proof.Proof.KernelIdeal.Run0B
public import proofs.«01_k».proof.Proof.KernelIdeal.Pieces
public import Idealize.ShloMosaic.Lib.VecWindow

@[expose] public section

set_option maxRecDepth 16384

noncomputable section

namespace Cert.KernelIdeal.Body

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer loaded whole. -/
theorem wholeLoad {sp : Space} {s : Shape} {e : EltTy} {m : Memref sig .tc sp s e} (hm : m.IsWhole) {off : Fin s.rank → ℕ}
    (inb : ∀ a, off a + s.size a ≤ s.size a) (x : Vec F s e) :
    m.view.readAt (Elt F) (Rect.unit off s.size inb).toLoadRect (hm.unread x) = x :=
  (View.readAt_full m.view _ inb).trans (hm.read_unread x)

/-- The left half of `t` (the gate adapter's lanes) and the right half (the up adapter's). -/
def leftHalf (t : Vec F S960x256 .bf16) : Vec F S960x128 .bf16 := fun j =>
  t ((Rect.unit (s := S960x256) ![0, 0] S960x128.size inb_S960x256_S960x128_0_0).toLoadRect.idx j)

@[inherit_doc leftHalf]
def rightHalf (t : Vec F S960x256 .bf16) : Vec F S960x128 .bf16 := fun j =>
  t ((Rect.unit (s := S960x256) ![0, 128] S960x128.size inb_S960x256_S960x128_0_128).toLoadRect.idx j)

theorem leftLoad {sp : Space} {m : Memref sig .tc sp S960x256 .bf16} (hm : m.IsWhole) (x : Vec F S960x256 .bf16) :
    m.view.readAt (Elt F) (Rect.unit (s := S960x256) ![0, 0] S960x128.size inb_S960x256_S960x128_0_0).toLoadRect (hm.unread x) = leftHalf x :=
  congrArg leftHalf (hm.read_unread x)

theorem rightLoad {sp : Space} {m : Memref sig .tc sp S960x256 .bf16} (hm : m.IsWhole) (x : Vec F S960x256 .bf16) :
    m.view.readAt (Elt F) (Rect.unit (s := S960x256) ![0, 128] S960x128.size inb_S960x256_S960x128_0_128).toLoadRect (hm.unread x) = rightHalf x :=
  congrArg rightHalf (hm.read_unread x)

theorem leftCov {sp : Space} (v : View sig .tc sp S960x256 .bf16) {off : Fin S960x256.rank → ℕ} (inb : ∀ a, off a + S960x256.size a ≤ S960x256.size a)
    (w w' : Vec F S960x256 .bf16) (L : List (View.Piece (Elt F) S960x256 .bf16)) (hw : w = w') :
    v.readCov (⟨Rect.unit off S960x256.size inb, w⟩ :: L) (Rect.unit (s := S960x256) ![0, 0] S960x128.size inb_S960x256_S960x128_0_0).toLoadRect = leftHalf w' :=
  congrArg leftHalf ((View.read_writes_full v _ _ _ _).trans hw)

theorem rightCov {sp : Space} (v : View sig .tc sp S960x256 .bf16) {off : Fin S960x256.rank → ℕ} (inb : ∀ a, off a + S960x256.size a ≤ S960x256.size a)
    (w w' : Vec F S960x256 .bf16) (L : List (View.Piece (Elt F) S960x256 .bf16)) (hw : w = w') :
    v.readCov (⟨Rect.unit off S960x256.size inb, w⟩ :: L) (Rect.unit (s := S960x256) ![0, 128] S960x128.size inb_S960x256_S960x128_0_128).toLoadRect = rightHalf w' :=
  congrArg rightHalf ((View.read_writes_full v _ _ _ _).trans hw)

/-- The block of `h` the first call computes, of its inputs' blocks and `t`. -/
def hOut (x0 : Vec F S960x6144 .bf16) (x1 : Vec F S256x3072 .i8) (x2 : Vec F S256x192 .f16) (x3 : Vec F S256x3072 .i8) (x4 : Vec F S256x192 .f16)
    (x7 x8 : Vec F S128x256 .bf16) (t : Vec F S960x256 .bf16) : Vec F S960x256 .bf16 :=
  k0_pay1 x0 (weight0 x1 x2) (leftHalf t) x7 x0 (weight0 x3 x4) (rightHalf t) x8

/-- The weight's scratch loaded whole after its stores. -/
theorem pieceLoad0 {sp sp1 sp2 : Space} (v : View sig .tc sp S256x6144 .bf16) {m1 : Memref sig .tc sp1 S256x3072 .i8} {m2 : Memref sig .tc sp2 S256x192 .f16}
    (h1 : m1.IsWhole) (h2 : m2.IsWhole) (x1 : Vec F S256x3072 .i8) (x2 : Vec F S256x192 .f16)
    {off : Fin S256x6144.rank → ℕ} (inb : ∀ a, off a + S256x6144.size a ≤ S256x6144.size a) :
    v.readCov (pieces0 (m1.view.read (Elt F) (h1.unread x1)) (m2.view.read (Elt F) (h2.unread x2))) (Rect.unit off S256x6144.size inb).toLoadRect
      = weight0 x1 x2 := by
  rw [h1.read_unread, h2.read_unread]
  exact (View.readAt_full v _ inb).trans (read_pieces0 v _ _ _)

set_option maxHeartbeats 1000000 in
theorem read0A_0 (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16)
    (f : arg11.view.ty.Contents (Elt F)) :
    arg11.view.read (Elt F) (arg11.view.writes (Elt F) f (run0A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1) = hOut x0 x1 x2 x3 x4 x7 x8 (k0_pay2 x0 x6 x5) := by
  refine (View.read_writes_full arg11.view f _ _ _).trans ?_
  unfold hOut
  refine congr (congr (congr (congr (congr (congr (congr (congrArg k0_pay1 ?_) ?_) ?_) ?_) ?_) ?_) ?_) ?_
  · exact wholeLoad harg2 _ _
  · exact pieceLoad0 arg12.view harg3 harg4 x1 x2 _
  · refine leftCov arg14.view _ _ _ _ ?_
    refine congr (congr (congrArg k0_pay2 ?_) ?_) ?_
    · exact wholeLoad harg2 _ _
    · exact wholeLoad harg8 _ _
    · exact wholeLoad harg7 _ _
  · exact wholeLoad harg9 _ _
  · exact wholeLoad harg2 _ _
  · exact pieceLoad0 arg13.view harg5 harg6 x3 x4 _
  · refine rightCov arg14.view _ _ _ _ ?_
    refine congr (congr (congrArg k0_pay2 ?_) ?_) ?_
    · exact wholeLoad harg2 _ _
    · exact wholeLoad harg8 _ _
    · exact wholeLoad harg7 _ _
  · exact wholeLoad harg10 _ _

set_option maxHeartbeats 1000000 in
theorem read0A_3 (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16)
    (f : arg14.view.ty.Contents (Elt F)) :
    arg14.view.read (Elt F) (arg14.view.writes (Elt F) f (run0A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1) = k0_pay2 x0 x6 x5 := by
  refine (View.read_writes_full arg14.view f _ _ _).trans ?_
  skip
  refine congr (congr (congrArg k0_pay2 ?_) ?_) ?_
  · exact wholeLoad harg2 _ _
  · exact wholeLoad harg8 _ _
  · exact wholeLoad harg7 _ _

set_option maxHeartbeats 1000000 in
/-- `cc0_gate_up` when the first weight tile of a token block: `t` is computed: on whole buffers with the inputs at `x·` the body runs, and its outputs and carried scratch end at the
    values named. -/
theorem triple0A (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (hOut x0 x1 x2 x3 x4 x7 x8 (k0_pay2 x0 x6 x5)) ∗ (∃ d, owns (c : Thread nD τ) arg12 fullShare d) ∗ (∃ d, owns (c : Thread nD τ) arg13 fullShare d) ∗ owns (c : Thread nD τ) arg14 fullShare (k0_pay2 x0 x6 x5)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K := by
  refine (?_ : _ ⊢ _).trans ((run0A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.2 E K)
  iintro ⟨H0, H1, H2, H3, H4, H5, H6, H7, H8, G0, G1, G2, G3, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  isplitl [G3]; · iexact G3
  iintro ⟨H0, H1, H2, H3, H4, H5, H6, H7, H8, ⟨%f0, G0⟩, ⟨%f1, G1⟩, ⟨%f2, G2⟩, ⟨%f3, G3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]
  · unfold owns; iexists _; isplitr; swap; · iexact G0
    ipureintro; exact read0A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 _
  isplitl [G1]
  · unfold owns; iexists _, _; isplitr; swap; · iexact G1
    ipureintro; rfl
  isplitl [G2]
  · unfold owns; iexists _, _; isplitr; swap; · iexact G2
    ipureintro; rfl
  unfold owns; iexists _; isplitr; swap; · iexact G3
  ipureintro; exact read0A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 _

set_option maxHeartbeats 1000000 in
theorem read0B_0 (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : ¬cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16) (xs3 : Vec F S960x256 .bf16)
    (f : arg11.view.ty.Contents (Elt F)) :
    arg11.view.read (Elt F) (arg11.view.writes (Elt F) f (run0B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs3).1) = hOut x0 x1 x2 x3 x4 x7 x8 (xs3) := by
  refine (View.read_writes_full arg11.view f _ _ _).trans ?_
  unfold hOut
  refine congr (congr (congr (congr (congr (congr (congr (congrArg k0_pay1 ?_) ?_) ?_) ?_) ?_) ?_) ?_) ?_
  · exact wholeLoad harg2 _ _
  · exact pieceLoad0 arg12.view harg3 harg4 x1 x2 _
  · exact leftLoad harg14 _
  · exact wholeLoad harg9 _ _
  · exact wholeLoad harg2 _ _
  · exact pieceLoad0 arg13.view harg5 harg6 x3 x4 _
  · exact rightLoad harg14 _
  · exact wholeLoad harg10 _ _

set_option maxHeartbeats 1000000 in
/-- `cc0_gate_up` when a later weight tile of a token block: `t` is kept: on whole buffers with the inputs at `x·` the body runs, and its outputs and carried scratch end at the
    values named. -/
theorem triple0B (c : Dev nD) (i : grid0.Coords) (arg2 : Memref sig .tc .vmem S960x6144 .bf16) (harg2 : arg2.IsWhole) (arg3 : Memref sig .tc .vmem S256x3072 .i8) (harg3 : arg3.IsWhole) (arg4 : Memref sig .tc .vmem S256x192 .f16) (harg4 : arg4.IsWhole) (arg5 : Memref sig .tc .vmem S256x3072 .i8) (harg5 : arg5.IsWhole) (arg6 : Memref sig .tc .vmem S256x192 .f16) (harg6 : arg6.IsWhole) (arg7 : Memref sig .tc .vmem S960x256 .f32) (harg7 : arg7.IsWhole) (arg8 : Memref sig .tc .vmem S6144x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S960x256 .bf16) (harg11 : arg11.IsWhole) (arg12 : Memref sig .tc .vmem S256x6144 .bf16) (harg12 : arg12.IsWhole) (arg13 : Memref sig .tc .vmem S256x6144 .bf16) (harg13 : arg13.IsWhole) (arg14 : Memref sig .tc .vmem S960x256 .bf16) (harg14 : arg14.IsWhole) (hc0 : ¬cond0_0 i)
    (x0 : Vec F S960x6144 .bf16) (x1 : Vec F S256x3072 .i8) (x2 : Vec F S256x192 .f16) (x3 : Vec F S256x3072 .i8) (x4 : Vec F S256x192 .f16) (x5 : Vec F S960x256 .f32) (x6 : Vec F S6144x256 .bf16) (x7 : Vec F S128x256 .bf16) (x8 : Vec F S128x256 .bf16) (xs3 : Vec F S960x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (hOut x0 x1 x2 x3 x4 x7 x8 (xs3)) ∗ (∃ d, owns (c : Thread nD τ) arg12 fullShare d) ∗ (∃ d, owns (c : Thread nD τ) arg13 fullShare d) ∗ owns (c : Thread nD τ) arg14 fullShare xs3) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K := by
  refine (?_ : _ ⊢ _).trans ((run0B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs3).2.2.2 E K)
  iintro ⟨H0, H1, H2, H3, H4, H5, H6, H7, H8, G0, G1, G2, G3, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  isplitl [G3]; · iexact G3
  iintro ⟨H0, H1, H2, H3, H4, H5, H6, H7, H8, ⟨%f0, G0⟩, ⟨%f1, G1⟩, ⟨%f2, G2⟩, G3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]
  · unfold owns; iexists _; isplitr; swap; · iexact G0
    ipureintro; exact read0B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs3 _
  isplitl [G1]
  · unfold owns; iexists _, _; isplitr; swap; · iexact G1
    ipureintro; rfl
  isplitl [G2]
  · unfold owns; iexists _, _; isplitr; swap; · iexact G2
    ipureintro; rfl
  iexact G3

end Cert.KernelIdeal.Body
-- ==== Proof.KernelIdeal.Region0.lean ====
/- The first call, point by point: what its buffers hold before and after each, and that its body keeps it so. -/
module

public import proofs.«01_k».proof.Proof.KernelIdeal.Triple0
public import Idealize.ShloMosaic.Lib.Pipeline.RegionArraysS
public import Idealize.ShloMosaic.Lib.Claim

@[expose] public section

set_option maxRecDepth 16384

noncomputable section

namespace Cert.KernelIdeal.Body

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (U : Dev nD → Valuation τ sig (Elt F))

/-- Window `w`'s block at point `t` of call 0, read off its array in the contents `U` the call finds. -/
def blk0 (c : Dev nD) (w : Fin cfg0.W) (t : Fin cfg0.N) : ((cfg0.win w).xblock (cfg0.grid.coords t)).Idx → Elt F (cfg0.win w).elt :=
  ((cfg0.win w).blk t).view.read (Elt F) (U c (Pipeline.arrRef spec0 w))

theorem before0_0_of {c : Dev nD} (dat : Dat τ (Elt F) Unit ℕ (UR sig nD τ) ℕ cfg0 c) (hA : dat.A 0 = U c (Pipeline.arrRef spec0 0))
    (hafter : ∀ t, dat.after 0 t = blk0 U c 0 t) (t : Fin cfg0.N) (d) : dat.before 0 t d = blk0 U c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = U c (Pipeline.arrRef spec0 1))
    (hafter : ∀ t, dat.after 1 t = blk0 U c 1 t) (t : Fin cfg0.N) (d) : dat.before 1 t d = blk0 U c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = U c (Pipeline.arrRef spec0 2))
    (hafter : ∀ t, dat.after 2 t = blk0 U c 2 t) (t : Fin cfg0.N) (d) : dat.before 2 t d = blk0 U c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = U c (Pipeline.arrRef spec0 3))
    (hafter : ∀ t, dat.after 3 t = blk0 U c 3 t) (t : Fin cfg0.N) (d) : dat.before 3 t d = blk0 U c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = U c (Pipeline.arrRef spec0 4))
    (hafter : ∀ t, dat.after 4 t = blk0 U c 4 t) (t : Fin cfg0.N) (d) : dat.before 4 t d = blk0 U c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = U c (Pipeline.arrRef spec0 5))
    (hafter : ∀ t, dat.after 5 t = blk0 U c 5 t) (t : Fin cfg0.N) (d) : dat.before 5 t d = blk0 U c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = U c (Pipeline.arrRef spec0 6))
    (hafter : ∀ t, dat.after 6 t = blk0 U c 6 t) (t : Fin cfg0.N) (d) : dat.before 6 t d = blk0 U c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)
theorem before0_7_of {c : Dev nD} (dat : Dat τ (Elt F) Unit ℕ (UR sig nD τ) ℕ cfg0 c) (hA : dat.A 7 = U c (Pipeline.arrRef spec0 7))
    (hafter : ∀ t, dat.after 7 t = blk0 U c 7 t) (t : Fin cfg0.N) (d) : dat.before 7 t d = blk0 U c 7 t :=
  (dat.before_in_eq_fetched 7 rfl (fun _ => rfl) (fun _ _ _ => rfl) (fun t => by rw [hafter]; unfold Dat.blockOf blk0; rw [hA]; try rfl) t d).trans
    (by unfold Dat.fetched Dat.blockOf blk0; rw [hA]; try rfl)
theorem before0_8_of {c : Dev nD} (dat : Dat τ (Elt F) Unit ℕ (UR sig nD τ) ℕ cfg0 c) (hA : dat.A 8 = U c (Pipeline.arrRef spec0 8))
    (hafter : ∀ t, dat.after 8 t = blk0 U c 8 t) (t : Fin cfg0.N) (d) : dat.before 8 t d = blk0 U c 8 t :=
  (dat.before_in_eq_fetched 8 rfl (fun _ => rfl) (fun _ _ _ => rfl) (fun t => by rw [hafter]; unfold Dat.blockOf blk0; rw [hA]; try rfl) t d).trans
    (by unfold Dat.fetched Dat.blockOf blk0; rw [hA]; try rfl)

abbrev ms0_0 (t : Fin cfg0.N) : Memref sig .tc .vmem S960x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x192 .f16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3072 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x192 .f16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S960x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6144x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S960x256 .bf16 := win0_9.stage (cfg0.slots t 9)
abbrev hs0_9 (t : Fin cfg0.N) : (ms0_9 t).IsWhole := hstage0_9 ((cfg0.slots t 9).cast nbuf0_9)
abbrev sc0_0 : Memref sig .tc .vmem S256x6144 .bf16 := Memref.whole cc0_scratch0
abbrev sc0_1 : Memref sig .tc .vmem S256x6144 .bf16 := Memref.whole cc0_scratch1
abbrev sc0_2 : Memref sig .tc .vmem S960x256 .bf16 := Memref.whole cc0_scratch2

/-- The other buffers of the core, and the generator register: nothing here touches them. -/
def others0 (c : Dev nD) : sProp 𝕄 :=
  iprop(Pipeline.scopedRestBut (Ix := Unit) (Name := ℕ) (U := UR sig nD τ) (Lvl := ℕ) (Val := Elt F) spec0 c [cc0_scratch0, cc0_scratch1, cc0_scratch2] ∗ (∃ r, prngReg c r))

/-- The scratch at anything. -/
def free0 (c : Dev nD) : sProp 𝕄 :=
  iprop(((∃ d, owns (c : Thread nD τ) sc0_0 fullShare d) ∗ (∃ d, owns (c : Thread nD τ) sc0_1 fullShare d) ∗ (∃ d, owns (c : Thread nD τ) sc0_2 fullShare d)) ∗ others0 (F := F) c)

theorem entry0_eq (c : Dev nD) : (Pipeline.ΦA spec0 c : sProp 𝕄) ⊣⊢ free0 (F := F) c := by
  unfold Pipeline.ΦA free0 others0
  rw [Pipeline.scopedRest_split_of_list spec0 c [cc0_scratch0, cc0_scratch1, cc0_scratch2] (by decide) (by decide)]
  simp only [owns_whole, bigSepL]
  exact sep_assoc

/-- The first point of point `n`'s row block. -/
def row0At (n : ℕ) : Fin cfg0.N := ⟨n / 64 * 64 % 512, lt_of_lt_of_eq (Nat.mod_lt _ (by decide)) N_0.symm⟩

/-- The scratch `t` of the row block: `x @ a`, masked, rounded, doubled. -/
def lowOf0 (c : Dev nD) (t : Fin cfg0.N) : Vec F S960x256 .bf16 := k0_pay2 (blk0 U c 0 t) (blk0 U c 6 t) (blk0 U c 5 t)
def low0 (c : Dev nD) (n : ℕ) : Vec F S960x256 .bf16 := lowOf0 U c (row0At n)

theorem low0_first (c : Dev nD) (t : Fin cfg0.N) (h : t.val % 64 = 0) : low0 U c t.val = lowOf0 U c t := by
  unfold low0
  have ht : t.val < 512 := lt_of_lt_of_eq t.isLt N_0
  rw [show row0At t.val = t from Fin.ext (by show t.val / 64 * 64 % 512 = t.val; omega)]

theorem low0_next (c : Dev nD) (n : ℕ) (h : ¬ n % 64 = 0) : low0 U c (n - 1) = low0 U c n := by
  unfold low0
  rw [show row0At (n - 1) = row0At n from Fin.ext (by show (n - 1) / 64 * 64 % 512 = n / 64 * 64 % 512; omega)]

/-- The block of `h` computed at a point. -/
def hAt (c : Dev nD) (t : Fin cfg0.N) : Vec F S960x256 .bf16 :=
  hOut (blk0 U c 0 t) (blk0 U c 1 t) (blk0 U c 2 t) (blk0 U c 3 t) (blk0 U c 4 t) (blk0 U c 7 t) (blk0 U c 8 t) (low0 U c t.val)

/-- Between points: the two weight scratches at anything, `t` at the row block's value. -/
def held0 (c : Dev nD) (n : ℕ) : sProp 𝕄 :=
  iprop(((∃ d, owns (c : Thread nD τ) sc0_0 fullShare d) ∗ (∃ d, owns (c : Thread nD τ) sc0_1 fullShare d) ∗ owns (c : Thread nD τ) sc0_2 fullShare (low0 U c n)) ∗ others0 (F := F) c)
def inv0 (c : Dev nD) : (n : ℕ) → n ≤ cfg0.N → sProp 𝕄
  | 0, _ => Pipeline.ΦA spec0 c
  | n + 1, _ => held0 U c n

theorem inv0_pos (c : Dev nD) (n : ℕ) (h : n ≤ cfg0.N) (hz : n ≠ 0) : inv0 U c n h = held0 U c (n - 1) := by
  cases n with
  | zero => exact absurd rfl hz
  | succ n => rfl

/-- Whatever is known between points, the scratch is there. -/
theorem inv0_free (c : Dev nD) (n : ℕ) (h : n ≤ cfg0.N) : inv0 U c n h ⊢ free0 (F := F) c := by
  cases n with
  | zero => exact (entry0_eq c).1
  | succ n =>
    show held0 U c n ⊢ _
    unfold held0 free0
    iintro ⟨⟨H0, H1, H2⟩, Hr⟩
    isplitr [Hr]
    · isplitl [H0]; · iexact H0
      isplitl [H1]; · iexact H1
      iexists _; iexact H2
    iexact Hr

/-- The proof data of call 0 on core `c`. -/
def dat0 (c : Dev nD) : Dat τ (Elt F) Unit ℕ (UR sig nD τ) ℕ cfg0 c where
  A w := U c (Pipeline.arrRef spec0 w)
  after w t := match w with
    | ⟨0, _⟩ => blk0 U c 0 t
    | ⟨1, _⟩ => blk0 U c 1 t
    | ⟨2, _⟩ => blk0 U c 2 t
    | ⟨3, _⟩ => blk0 U c 3 t
    | ⟨4, _⟩ => blk0 U c 4 t
    | ⟨5, _⟩ => blk0 U c 5 t
    | ⟨6, _⟩ => blk0 U c 6 t
    | ⟨7, _⟩ => blk0 U c 7 t
    | ⟨8, _⟩ => blk0 U c 8 t
    | ⟨9, _⟩ => hAt U c t
  Φ t := inv0 U c t.val (Nat.le_of_lt_succ t.isLt)
  q _ := fullShare
  owed _ := 0
  recorded _ := Set.univ

theorem A0_eq (c : Dev nD) (w : Fin cfg0.W) : (dat0 U c).A w = U c (Pipeline.arrRef spec0 w) := by
  dsimp only [dat0]
theorem Phi0_castSucc (c : Dev nD) (t : Fin cfg0.N) : (dat0 U c).Φ t.castSucc = inv0 U c t.val (Nat.le_of_lt t.isLt) := by
  dsimp only [dat0]; exact Pipeline.Dat.Φ_castSucc (inv0 U c) t
theorem after0_0 (c : Dev nD) (t : Fin cfg0.N) : (dat0 U c).after 0 t = blk0 U c 0 t := by dsimp only [dat0]
theorem after0_1 (c : Dev nD) (t : Fin cfg0.N) : (dat0 U c).after 1 t = blk0 U c 1 t := by dsimp only [dat0]
theorem after0_2 (c : Dev nD) (t : Fin cfg0.N) : (dat0 U c).after 2 t = blk0 U c 2 t := by dsimp only [dat0]
theorem after0_3 (c : Dev nD) (t : Fin cfg0.N) : (dat0 U c).after 3 t = blk0 U c 3 t := by dsimp only [dat0]
theorem after0_4 (c : Dev nD) (t : Fin cfg0.N) : (dat0 U c).after 4 t = blk0 U c 4 t := by dsimp only [dat0]
theorem after0_5 (c : Dev nD) (t : Fin cfg0.N) : (dat0 U c).after 5 t = blk0 U c 5 t := by dsimp only [dat0]
theorem after0_6 (c : Dev nD) (t : Fin cfg0.N) : (dat0 U c).after 6 t = blk0 U c 6 t := by dsimp only [dat0]
theorem after0_7 (c : Dev nD) (t : Fin cfg0.N) : (dat0 U c).after 7 t = blk0 U c 7 t := by dsimp only [dat0]
theorem after0_8 (c : Dev nD) (t : Fin cfg0.N) : (dat0 U c).after 8 t = blk0 U c 8 t := by dsimp only [dat0]
theorem after0_9 (c : Dev nD) (t : Fin cfg0.N) : (dat0 U c).after 9 t = hAt U c t := by dsimp only [dat0]
theorem before0_0 (c : Dev nD) (t : Fin cfg0.N) (d) : (dat0 U c).before 0 t d = blk0 U c 0 t :=
  before0_0_of U (dat0 U c) (A0_eq U c 0) (after0_0 U c) t d
theorem before0_1 (c : Dev nD) (t : Fin cfg0.N) (d) : (dat0 U c).before 1 t d = blk0 U c 1 t :=
  before0_1_of U (dat0 U c) (A0_eq U c 1) (after0_1 U c) t d
theorem before0_2 (c : Dev nD) (t : Fin cfg0.N) (d) : (dat0 U c).before 2 t d = blk0 U c 2 t :=
  before0_2_of U (dat0 U c) (A0_eq U c 2) (after0_2 U c) t d
theorem before0_3 (c : Dev nD) (t : Fin cfg0.N) (d) : (dat0 U c).before 3 t d = blk0 U c 3 t :=
  before0_3_of U (dat0 U c) (A0_eq U c 3) (after0_3 U c) t d
theorem before0_4 (c : Dev nD) (t : Fin cfg0.N) (d) : (dat0 U c).before 4 t d = blk0 U c 4 t :=
  before0_4_of U (dat0 U c) (A0_eq U c 4) (after0_4 U c) t d
theorem before0_5 (c : Dev nD) (t : Fin cfg0.N) (d) : (dat0 U c).before 5 t d = blk0 U c 5 t :=
  before0_5_of U (dat0 U c) (A0_eq U c 5) (after0_5 U c) t d
theorem before0_6 (c : Dev nD) (t : Fin cfg0.N) (d) : (dat0 U c).before 6 t d = blk0 U c 6 t :=
  before0_6_of U (dat0 U c) (A0_eq U c 6) (after0_6 U c) t d
theorem before0_7 (c : Dev nD) (t : Fin cfg0.N) (d) : (dat0 U c).before 7 t d = blk0 U c 7 t :=
  before0_7_of U (dat0 U c) (A0_eq U c 7) (after0_7 U c) t d
theorem before0_8 (c : Dev nD) (t : Fin cfg0.N) (d) : (dat0 U c).before 8 t d = blk0 U c 8 t :=
  before0_8_of U (dat0 U c) (A0_eq U c 8) (after0_8 U c) t d

/-- What the body is called with at a point, -/
def bodyPre0 (c : Dev nD) (t : Fin cfg0.N) : sProp 𝕄 :=
  iprop((dat0 U c).Φ t.castSucc ∗ (dat0 U c).owesAt () t.castSucc
    ∗ (∃ d, owns (c : Thread nD τ) (ms0_0 t) fullShare ((dat0 U c).before 0 t d))
    ∗ (∃ d, owns (c : Thread nD τ) (ms0_1 t) fullShare ((dat0 U c).before 1 t d))
    ∗ (∃ d, owns (c : Thread nD τ) (ms0_2 t) fullShare ((dat0 U c).before 2 t d))
    ∗ (∃ d, owns (c : Thread nD τ) (ms0_3 t) fullShare ((dat0 U c).before 3 t d))
    ∗ (∃ d, owns (c : Thread nD τ) (ms0_4 t) fullShare ((dat0 U c).before 4 t d))
    ∗ (∃ d, owns (c : Thread nD τ) (ms0_5 t) fullShare ((dat0 U c).before 5 t d))
    ∗ (∃ d, owns (c : Thread nD τ) (ms0_6 t) fullShare ((dat0 U c).before 6 t d))
    ∗ (∃ d, owns (c : Thread nD τ) (ms0_7 t) fullShare ((dat0 U c).before 7 t d))
    ∗ (∃ d, owns (c : Thread nD τ) (ms0_8 t) fullShare ((dat0 U c).before 8 t d))
    ∗ (∃ d, owns (c : Thread nD τ) (ms0_9 t) fullShare ((dat0 U c).before 9 t d)))

/-- and what it returns. -/
def bodyPost0 (c : Dev nD) (t : Fin cfg0.N) : sProp 𝕄 :=
  iprop((dat0 U c).Φ t.succ ∗ (dat0 U c).owesAt () t.succ
    ∗ owns (c : Thread nD τ) (ms0_0 t) fullShare ((dat0 U c).after 0 t)
    ∗ owns (c : Thread nD τ) (ms0_1 t) fullShare ((dat0 U c).after 1 t)
    ∗ owns (c : Thread nD τ) (ms0_2 t) fullShare ((dat0 U c).after 2 t)
    ∗ owns (c : Thread nD τ) (ms0_3 t) fullShare ((dat0 U c).after 3 t)
    ∗ owns (c : Thread nD τ) (ms0_4 t) fullShare ((dat0 U c).after 4 t)
    ∗ owns (c : Thread nD τ) (ms0_5 t) fullShare ((dat0 U c).after 5 t)
    ∗ owns (c : Thread nD τ) (ms0_6 t) fullShare ((dat0 U c).after 6 t)
    ∗ owns (c : Thread nD τ) (ms0_7 t) fullShare ((dat0 U c).after 7 t)
    ∗ owns (c : Thread nD τ) (ms0_8 t) fullShare ((dat0 U c).after 8 t)
    ∗ owns (c : Thread nD τ) (ms0_9 t) fullShare ((dat0 U c).after 9 t))

set_option maxHeartbeats 4000000 in
/-- The body at any point keeps the invariant and leaves the block of `h`. -/
theorem sound0 (c : Dev nD) (t : Fin cfg0.N) :
    bodyPre0 U c t ⊢ wp frame (wpE (defs₀ (F := F)) Variants.none c none) Set.univ (bodyAt0 t) (fun _ => bodyPost0 U c t) := by
  unfold bodyPre0 bodyPost0
  simp only [before0_0, before0_1, before0_2, before0_3, before0_4, before0_5, before0_6, before0_7, before0_8]
  rw [show (dat0 U c).owesAt () t.succ = (dat0 U c).owesAt () t.castSucc from rfl,
    after0_0, after0_1, after0_2, after0_3, after0_4, after0_5, after0_6, after0_7, after0_8, after0_9]
  rw [show (dat0 U c).Φ t.succ = held0 U c t.val from rfl, Phi0_castSucc U c t]
  by_cases h0 : t.val % 64 = 0
  · refine (sep_mono (inv0_free U c _ _) .rfl).trans ?_
    unfold free0 held0 hAt
    rw [low0_first U c t h0]
    unfold lowOf0
    iintro ⟨⟨⟨S0, S1, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (triple0A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) sc0_0 (Memref.isWhole_whole _) sc0_1 (Memref.isWhole_whole _) sc0_2 (Memref.isWhole_whole _) ((hcond0_0 t).mpr h0) (blk0 U c 0 t) (blk0 U c 1 t) (blk0 U c 2 t) (blk0 U c 3 t) (blk0 U c 4 t) (blk0 U c 5 t) (blk0 U c 6 t) (blk0 U c 7 t) (blk0 U c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    iintro ⟨H0, H1, H2, H3, H4, H5, H6, H7, H8, H9, S0, S1, S2⟩
    isplitl [S0 S1 S2 Hr]
    · isplitr [Hr]
      · isplitl [S0]; · iexact S0
        isplitl [S1]; · iexact S1
        iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv0_pos U c _ _ (fun h => h0 (by rw [h])), show held0 U c (t.val - 1) = held0 U c t.val from by unfold held0; rw [low0_next U c _ h0]]
    unfold held0 hAt
    iintro ⟨⟨⟨S0, S1, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (triple0B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) sc0_0 (Memref.isWhole_whole _) sc0_1 (Memref.isWhole_whole _) sc0_2 (Memref.isWhole_whole _) (fun h => h0 ((hcond0_0 t).mp h)) (blk0 U c 0 t) (blk0 U c 1 t) (blk0 U c 2 t) (blk0 U c 3 t) (blk0 U c 4 t) (blk0 U c 5 t) (blk0 U c 6 t) (blk0 U c 7 t) (blk0 U c 8 t) (low0 U c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    iintro ⟨H0, H1, H2, H3, H4, H5, H6, H7, H8, H9, S0, S1, S2⟩
    isplitl [S0 S1 S2 Hr]
    · isplitr [Hr]
      · isplitl [S0]; · iexact S0
        isplitl [S1]; · iexact S1
        iexact S2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as spelt above. -/
theorem row0 (t : Fin cfg0.N) : defs₀ (F := F) .tc cfg0.body (cfg0.bodyArgs t (cfg0.slots t)) = bodyAt0 t := by
  unfold defs₀; rw [Defs.onTc_tc]

/-- The library's obligation on the body. -/
theorem obligation0 (c : Dev nD) : BodyObligation (dat0 U c) (defs₀ (F := F)) Variants.none () Set.univ := fun t => by
  rw [bigSep_W0, bigSep_W0, row0]
  exact triple_restated (sound0 U c t) rfl .rfl fun _ => .rfl

theorem begin0 (c : Dev nD) : Pipeline.ΦA spec0 c ⊢ (dat0 U c).Φ 0 := by
  rw [show (dat0 U c).Φ 0 = inv0 U c 0 (Nat.zero_le _) from rfl]
  exact .rfl
theorem end0 (c : Dev nD) : (dat0 U c).Φ (Fin.last cfg0.N) ⊢ Pipeline.ΦA spec0 c := by
  rw [show (dat0 U c).Φ (Fin.last cfg0.N) = inv0 U c cfg0.N le_rfl from rfl]
  exact (inv0_free U c _ _).trans (entry0_eq c).2

end Cert.KernelIdeal.Body

end
-- ==== Proof.KernelIdeal.Run1A.lean ====
/- The whole-body run of `cc1_down` in one case of its conditionals: k = 0 and n = 0. -/
module

public import proofs.«01_k».proof.Proof.KernelIdeal.Cond

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc1_down` when k = 0 and n = 0: what its stores leave in each buffer it writes, as the list of stored pieces (last
    first), with the proof that on whole buffers — the inputs at `x·`, a carried scratch at `xs·`, the rest at anything —
    the body runs to those pieces written. The lists are the witness the run finds. -/
noncomputable def run1A (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : cond1_1 i) (hc2 : cond1_2 i) (hc3 : ¬cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) :
    Σ' (L1 : List (View.Piece (Elt F) S512x4096 .bf16)), Σ' (L3 : List (View.Piece (Elt F) S960x128 .f32)), { L4 : List (View.Piece (Elt F) S960x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f L1) ∗ (∃ d, owns (c : Thread nD τ) arg11 fullShare d) ∗ (∃ f, arg12.view.loc (c : Thread nD τ) ↦[arg12.view.set]{fullShare} arg12.view.writes (Elt F) f L3) ∗ (∃ f, arg13.view.loc (c : Thread nD τ) ↦[arg13.view.set]{fullShare} arg13.view.writes (Elt F) f L4)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_down_eq_skeleton]; unfold cc1_down_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _, _; isplitr; swap; · iexact HS0
      ipureintro; rfl
    isplitl [HS1]
    · iexists _; iexact HS1
    isplitl [HS2]
    · iexists _, _; isplitr; swap; · iexact HS2
      ipureintro; rfl
    isplitl [HS3]
    · iexists _; iexact HS3
    iexists _; iexact HS4

end Cert.KernelIdeal.Body

end
-- ==== Proof.KernelIdeal.Run1B.lean ====
/- The whole-body run of `cc1_down` in one case of its conditionals: 0 < k < 3 and n = 0. -/
module

public import proofs.«01_k».proof.Proof.KernelIdeal.Run1A

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc1_down` when 0 < k < 3 and n = 0: what its stores leave in each buffer it writes, as the list of stored pieces (last
    first), with the proof that on whole buffers — the inputs at `x·`, a carried scratch at `xs·`, the rest at anything —
    the body runs to those pieces written. The lists are the witness the run finds. -/
noncomputable def run1B (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32) :
    Σ' (L1 : List (View.Piece (Elt F) S512x4096 .bf16)), Σ' (L3 : List (View.Piece (Elt F) S960x128 .f32)), { L4 : List (View.Piece (Elt F) S960x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ owns (c : Thread nD τ) arg13 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f L1) ∗ (∃ d, owns (c : Thread nD τ) arg11 fullShare d) ∗ (∃ f, arg12.view.loc (c : Thread nD τ) ↦[arg12.view.set]{fullShare} arg12.view.writes (Elt F) f L3) ∗ (∃ f, arg13.view.loc (c : Thread nD τ) ↦[arg13.view.set]{fullShare} arg13.view.writes (Elt F) f L4)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_down_eq_skeleton]; unfold cc1_down_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs3; obtain rfl := harg13.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _, _; isplitr; swap; · iexact HS0
      ipureintro; rfl
    isplitl [HS1]
    · iexists _; iexact HS1
    isplitl [HS2]
    · iexists _, _; isplitr; swap; · iexact HS2
      ipureintro; rfl
    isplitl [HS3]
    · iexists _; iexact HS3
    iexists _; iexact HS4

end Cert.KernelIdeal.Body

end
-- ==== Proof.KernelIdeal.Run1C.lean ====
/- The whole-body run of `cc1_down` in one case of its conditionals: k = 3 and n = 0. -/
module

public import proofs.«01_k».proof.Proof.KernelIdeal.Run1B

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc1_down` when k = 3 and n = 0: what its stores leave in each buffer it writes, as the list of stored pieces (last
    first), with the proof that on whole buffers — the inputs at `x·`, a carried scratch at `xs·`, the rest at anything —
    the body runs to those pieces written. The lists are the witness the run finds. -/
noncomputable def run1C (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : cond1_4 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32) :
    Σ' (L0 : List (View.Piece (Elt F) S960x512 .bf16)), Σ' (L1 : List (View.Piece (Elt F) S512x4096 .bf16)), Σ' (L2 : List (View.Piece (Elt F) S960x128 .bf16)), Σ' (L3 : List (View.Piece (Elt F) S960x128 .f32)), { L4 : List (View.Piece (Elt F) S960x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ owns (c : Thread nD τ) arg13 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3) ∗ (∃ f, arg13.view.loc (c : Thread nD τ) ↦[arg13.view.set]{fullShare} arg13.view.writes (Elt F) f L4)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1_down_eq_skeleton]; unfold cc1_down_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs3; obtain rfl := harg13.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    isplitl [HS1]
    · iexists _; iexact HS1
    isplitl [HS2]
    · iexists _; iexact HS2
    isplitl [HS3]
    · iexists _; iexact HS3
    iexists _; iexact HS4

end Cert.KernelIdeal.Body

end
-- ==== Proof.KernelIdeal.Run1D.lean ====
/- The whole-body run of `cc1_down` in one case of its conditionals: k = 0 and n > 0. -/
module

public import proofs.«01_k».proof.Proof.KernelIdeal.Run1C

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc1_down` when k = 0 and n > 0: what its stores leave in each buffer it writes, as the list of stored pieces (last
    first), with the proof that on whole buffers — the inputs at `x·`, a carried scratch at `xs·`, the rest at anything —
    the body runs to those pieces written. The lists are the witness the run finds. -/
noncomputable def run1D (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : ¬cond1_1 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) :
    Σ' (L1 : List (View.Piece (Elt F) S512x4096 .bf16)), { L4 : List (View.Piece (Elt F) S960x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f L1) ∗ owns (c : Thread nD τ) arg11 fullShare xs2 ∗ (∃ d, owns (c : Thread nD τ) arg12 fullShare d) ∗ (∃ f, arg13.view.loc (c : Thread nD τ) ↦[arg13.view.set]{fullShare} arg13.view.writes (Elt F) f L4)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1_down_eq_skeleton]; unfold cc1_down_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%fs2, %hfs2, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs2
    sl_exec (disch := first | sl_exact hc0 | sl_exact hc1 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _, _; isplitr; swap; · iexact HS0
      ipureintro; rfl
    isplitl [HS1]
    · iexists _; iexact HS1
    isplitl [HS2]
    · iexists _; isplitr; · ipureintro; exact harg11.read_unread _
      iexact HS2
    isplitl [HS3]
    · iexists _, _; isplitr; swap; · iexact HS3
      ipureintro; rfl
    iexists _; iexact HS4

end Cert.KernelIdeal.Body

end
-- ==== Proof.KernelIdeal.Run1E.lean ====
/- The whole-body run of `cc1_down` in one case of its conditionals: 0 < k < 3 and n > 0. -/
module

public import proofs.«01_k».proof.Proof.KernelIdeal.Run1D

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc1_down` when 0 < k < 3 and n > 0: what its stores leave in each buffer it writes, as the list of stored pieces (last
    first), with the proof that on whole buffers — the inputs at `x·`, a carried scratch at `xs·`, the rest at anything —
    the body runs to those pieces written. The lists are the witness the run finds. -/
noncomputable def run1E (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32) :
    Σ' (L1 : List (View.Piece (Elt F) S512x4096 .bf16)), { L4 : List (View.Piece (Elt F) S960x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ owns (c : Thread nD τ) arg13 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f L1) ∗ owns (c : Thread nD τ) arg11 fullShare xs2 ∗ (∃ d, owns (c : Thread nD τ) arg12 fullShare d) ∗ (∃ f, arg13.view.loc (c : Thread nD τ) ↦[arg13.view.set]{fullShare} arg13.view.writes (Elt F) f L4)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1_down_eq_skeleton]; unfold cc1_down_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%fs2, %hfs2, HS2⟩, ⟨%ds3, %fs3, -, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs2; obtain rfl := harg13.eq_unread hfs4
    sl_exec (disch := first | sl_exact hc0 | sl_exact hc1 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _, _; isplitr; swap; · iexact HS0
      ipureintro; rfl
    isplitl [HS1]
    · iexists _; iexact HS1
    isplitl [HS2]
    · iexists _; isplitr; · ipureintro; exact harg11.read_unread _
      iexact HS2
    isplitl [HS3]
    · iexists _, _; isplitr; swap; · iexact HS3
      ipureintro; rfl
    iexists _; iexact HS4

end Cert.KernelIdeal.Body

end
-- ==== Proof.KernelIdeal.Run1F.lean ====
/- The whole-body run of `cc1_down` in one case of its conditionals: k = 3 and n > 0. -/
module

public import proofs.«01_k».proof.Proof.KernelIdeal.Run1E

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- `cc1_down` when k = 3 and n > 0: what its stores leave in each buffer it writes, as the list of stored pieces (last
    first), with the proof that on whole buffers — the inputs at `x·`, a carried scratch at `xs·`, the rest at anything —
    the body runs to those pieces written. The lists are the witness the run finds. -/
noncomputable def run1F (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32) :
    Σ' (L0 : List (View.Piece (Elt F) S960x512 .bf16)), Σ' (L1 : List (View.Piece (Elt F) S512x4096 .bf16)), { L4 : List (View.Piece (Elt F) S960x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ owns (c : Thread nD τ) arg13 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ owns (c : Thread nD τ) arg11 fullShare xs2 ∗ (∃ d, owns (c : Thread nD τ) arg12 fullShare d) ∗ (∃ f, arg13.view.loc (c : Thread nD τ) ↦[arg13.view.set]{fullShare} arg13.view.writes (Elt F) f L4)) -∗ K ⟨⟩))
          ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_down_eq_skeleton]; unfold cc1_down_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%fs2, %hfs2, HS2⟩, ⟨%ds3, %fs3, -, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs2; obtain rfl := harg13.eq_unread hfs4
    sl_exec (disch := first | sl_exact hc0 | sl_exact hc1 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    isplitl [HS1]
    · iexists _; iexact HS1
    isplitl [HS2]
    · iexists _; isplitr; · ipureintro; exact harg11.read_unread _
      iexact HS2
    isplitl [HS3]
    · iexists _, _; isplitr; swap; · iexact HS3
      ipureintro; rfl
    iexists _; iexact HS4

end Cert.KernelIdeal.Body

end
-- ==== Proof.KernelIdeal.Triple1.lean ====
/- What one run of `cc1_down` computes, case by case: the outputs and the carried scratch as functions of the inputs' blocks. -/
module

public import proofs.«01_k».proof.Proof.KernelIdeal.Run1A
public import proofs.«01_k».proof.Proof.KernelIdeal.Run1B
public import proofs.«01_k».proof.Proof.KernelIdeal.Run1C
public import proofs.«01_k».proof.Proof.KernelIdeal.Run1D
public import proofs.«01_k».proof.Proof.KernelIdeal.Run1E
public import proofs.«01_k».proof.Proof.KernelIdeal.Run1F
public import proofs.«01_k».proof.Proof.KernelIdeal.Pieces
public import Idealize.ShloMosaic.Lib.VecWindow
public import proofs.«01_k».proof.Proof.KernelIdeal.Triple0

@[expose] public section

set_option maxRecDepth 16384

noncomputable section

namespace Cert.KernelIdeal.Body

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight's scratch loaded whole after its stores. -/
theorem pieceLoad1 {sp sp1 sp2 : Space} (v : View sig .tc sp S512x4096 .bf16) {m1 : Memref sig .tc sp1 S512x2048 .i8} {m2 : Memref sig .tc sp2 S512x128 .f16}
    (h1 : m1.IsWhole) (h2 : m2.IsWhole) (x1 : Vec F S512x2048 .i8) (x2 : Vec F S512x128 .f16)
    {off : Fin S512x4096.rank → ℕ} (inb : ∀ a, off a + S512x4096.size a ≤ S512x4096.size a) :
    v.readCov (pieces1 (m1.view.read (Elt F) (h1.unread x1)) (m2.view.read (Elt F) (h2.unread x2))) (Rect.unit off S512x4096.size inb).toLoadRect
      = weight1 x1 x2 := by
  rw [h1.read_unread, h2.read_unread]
  exact (View.readAt_full v _ inb).trans (read_pieces1 v _ _ _)

set_option maxHeartbeats 1000000 in
theorem read1A_3 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : cond1_1 i) (hc2 : cond1_2 i) (hc3 : ¬cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16)
    (f : arg12.view.ty.Contents (Elt F)) :
    arg12.view.read (Elt F) (arg12.view.writes (Elt F) f (run1A c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5).2.1) = k1_pay6 x0 x4 := by
  refine (View.read_writes_full arg12.view f _ _ _).trans ?_
  skip
  refine congr (congrArg k1_pay6 ?_) ?_
  · exact wholeLoad harg3 _ _
  · exact wholeLoad harg7 _ _

set_option maxHeartbeats 1000000 in
theorem read1A_4 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : cond1_1 i) (hc2 : cond1_2 i) (hc3 : ¬cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16)
    (f : arg13.view.ty.Contents (Elt F)) :
    arg13.view.read (Elt F) (arg13.view.writes (Elt F) f (run1A c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5).2.2.1) = k1_pay2 (k1_pay4 (F := F)) x0 (weight1 x1 x2) := by
  refine (View.read_writes_full arg13.view f _ _ _).trans ?_
  skip
  refine congr (congr (congrArg k1_pay2 ?_) ?_) ?_
  · exact View.readCov_full arg13.view _ _ _ _
  · exact wholeLoad harg3 _ _
  · exact pieceLoad1 arg10.view harg4 harg5 x1 x2 _

set_option maxHeartbeats 1000000 in
/-- `cc1_down` when k = 0 and n = 0: on whole buffers with the inputs at `x·` the body runs, and its outputs and carried scratch end at the
    values named. -/
theorem triple1A (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : cond1_1 i) (hc2 : cond1_2 i) (hc3 : ¬cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (k1_pay6 x0 x4) ∗ owns (c : Thread nD τ) arg13 fullShare (k1_pay2 (k1_pay4 (F := F)) x0 (weight1 x1 x2))) -∗ K ⟨⟩))
      ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K := by
  refine (?_ : _ ⊢ _).trans ((run1A c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5).2.2.2 E K)
  iintro ⟨H0, H1, H2, H3, H4, H5, G0, G1, G2, G3, G4, Hk⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  iintro ⟨H0, H1, H2, H3, H4, H5, G0, ⟨%f1, G1⟩, G2, ⟨%f3, G3⟩, ⟨%f4, G4⟩⟩
  iapply Hk
  isplitl [H0]; · iexact H0
  isplitl [H1]; · iexact H1
  isplitl [H2]; · iexact H2
  isplitl [H3]; · iexact H3
  isplitl [H4]; · iexact H4
  isplitl [H5]; · iexact H5
  isplitl [G0]
  · iexact G0
  isplitl [G1]
  · unfold owns; iexists _, _; isplitr; swap; · iexact G1
    ipureintro; rfl
  isplitl [G2]
  · iexact G2
  isplitl [G3]
  · unfold owns; iexists _; isplitr; swap; · iexact G3
    ipureintro; exact read1A_3 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 _
  unfold owns; iexists _; isplitr; swap; · iexact G4
  ipureintro; exact read1A_4 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 _

set_option maxHeartbeats 1000000 in
theorem read1B_3 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32)
    (f : arg12.view.ty.Contents (Elt F)) :
    arg12.view.read (Elt F) (arg12.view.writes (Elt F) f (run1B c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.1) = k1_pay7 x0 x4 xs3 := by
  refine (View.read_writes_full arg12.view f _ _ _).trans ?_
  skip
  refine congr (congr (congrArg k1_pay7 ?_) ?_) ?_
  · exact wholeLoad harg3 _ _
  · exact wholeLoad harg7 _ _
  · exact wholeLoad harg12 _ _

set_option maxHeartbeats 1000000 in
theorem read1B_4 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32)
    (f : arg13.view.ty.Contents (Elt F)) :
    arg13.view.read (Elt F) (arg13.view.writes (Elt F) f (run1B c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.2.1) = k1_pay2 xs4 x0 (weight1 x1 x2) := by
  refine (View.read_writes_full arg13.view f _ _ _).trans ?_
  skip
  refine congr (congr (congrArg k1_pay2 ?_) ?_) ?_
  · exact wholeLoad harg13 _ _
  · exact wholeLoad harg3 _ _
  · exact pieceLoad1 arg10.view harg4 harg5 x1 x2 _

set_option maxHeartbeats 1000000 in
/-- `cc1_down` when 0 < k < 3 and n = 0: on whole buffers with the inputs at `x·` the body runs, and its outputs and carried scratch end at the
    values named. -/
theorem triple1B (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : ¬cond1_4 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ owns (c : Thread nD τ) arg13 fullShare xs4
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (k1_pay7 x0 x4 xs3) ∗ owns (c : Thread nD τ) arg13 fullShare (k1_pay2 xs4 x0 (weight1 x1 x2))) -∗ K ⟨⟩))
      ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K := by
  refine (?_ : _ ⊢ _).trans ((run1B c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.2.2 E K)
  iintro ⟨H0, H1, H2, H3, H4, H5, G0, G1, G2, G3, G4, Hk⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  iintro ⟨H0, H1, H2, H3, H4, H5, G0, ⟨%f1, G1⟩, G2, ⟨%f3, G3⟩, ⟨%f4, G4⟩⟩
  iapply Hk
  isplitl [H0]; · iexact H0
  isplitl [H1]; · iexact H1
  isplitl [H2]; · iexact H2
  isplitl [H3]; · iexact H3
  isplitl [H4]; · iexact H4
  isplitl [H5]; · iexact H5
  isplitl [G0]
  · iexact G0
  isplitl [G1]
  · unfold owns; iexists _, _; isplitr; swap; · iexact G1
    ipureintro; rfl
  isplitl [G2]
  · iexact G2
  isplitl [G3]
  · unfold owns; iexists _; isplitr; swap; · iexact G3
    ipureintro; exact read1B_3 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4 _
  unfold owns; iexists _; isplitr; swap; · iexact G4
  ipureintro; exact read1B_4 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4 _

set_option maxHeartbeats 1000000 in
theorem read1C_0 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : cond1_4 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32)
    (f : arg9.view.ty.Contents (Elt F)) :
    arg9.view.read (Elt F) (arg9.view.writes (Elt F) f (run1C c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).1) = k1_pay3 (k1_pay2 xs4 x0 (weight1 x1 x2)) (k1_pay8 (k1_pay7 x0 x4 xs3) x3) x5 := by
  refine (View.read_writes_full arg9.view f _ _ _).trans ?_
  skip
  refine congr (congr (congrArg k1_pay3 ?_) ?_) ?_
  · refine (View.readCov_full arg13.view _ _ _ _).trans ?_
    refine congr (congr (congrArg k1_pay2 ?_) ?_) ?_
    · exact wholeLoad harg13 _ _
    · exact wholeLoad harg3 _ _
    · exact pieceLoad1 arg10.view harg4 harg5 x1 x2 _
  · refine (View.readCov_full arg11.view _ _ _ _).trans ?_
    refine congr (congrArg k1_pay8 ?_) ?_
    · refine (View.readCov_full arg12.view _ _ _ _).trans ?_
      refine congr (congr (congrArg k1_pay7 ?_) ?_) ?_
      · exact wholeLoad harg3 _ _
      · exact wholeLoad harg7 _ _
      · exact wholeLoad harg12 _ _
    · exact wholeLoad harg6 _ _
  · exact wholeLoad harg8 _ _

set_option maxHeartbeats 1000000 in
theorem read1C_2 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : cond1_4 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32)
    (f : arg11.view.ty.Contents (Elt F)) :
    arg11.view.read (Elt F) (arg11.view.writes (Elt F) f (run1C c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.2.1) = k1_pay8 (k1_pay7 x0 x4 xs3) x3 := by
  refine (View.read_writes_full arg11.view f _ _ _).trans ?_
  skip
  refine congr (congrArg k1_pay8 ?_) ?_
  · refine (View.readCov_full arg12.view _ _ _ _).trans ?_
    refine congr (congr (congrArg k1_pay7 ?_) ?_) ?_
    · exact wholeLoad harg3 _ _
    · exact wholeLoad harg7 _ _
    · exact wholeLoad harg12 _ _
  · exact wholeLoad harg6 _ _

set_option maxHeartbeats 1000000 in
theorem read1C_3 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : cond1_4 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32)
    (f : arg12.view.ty.Contents (Elt F)) :
    arg12.view.read (Elt F) (arg12.view.writes (Elt F) f (run1C c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.2.2.1) = k1_pay7 x0 x4 xs3 := by
  refine (View.read_writes_full arg12.view f _ _ _).trans ?_
  skip
  refine congr (congr (congrArg k1_pay7 ?_) ?_) ?_
  · exact wholeLoad harg3 _ _
  · exact wholeLoad harg7 _ _
  · exact wholeLoad harg12 _ _

set_option maxHeartbeats 1000000 in
theorem read1C_4 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : cond1_4 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32)
    (f : arg13.view.ty.Contents (Elt F)) :
    arg13.view.read (Elt F) (arg13.view.writes (Elt F) f (run1C c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.2.2.2.1) = k1_pay2 xs4 x0 (weight1 x1 x2) := by
  refine (View.read_writes_full arg13.view f _ _ _).trans ?_
  skip
  refine congr (congr (congrArg k1_pay2 ?_) ?_) ?_
  · exact wholeLoad harg13 _ _
  · exact wholeLoad harg3 _ _
  · exact pieceLoad1 arg10.view harg4 harg5 x1 x2 _

set_option maxHeartbeats 1000000 in
/-- `cc1_down` when k = 3 and n = 0: on whole buffers with the inputs at `x·` the body runs, and its outputs and carried scratch end at the
    values named. -/
theorem triple1C (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : cond1_1 i) (hc2 : ¬cond1_2 i) (hc3 : cond1_3 i) (hc4 : cond1_4 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs3 : Vec F S960x128 .f32) (xs4 : Vec F S960x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ owns (c : Thread nD τ) arg13 fullShare xs4
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k1_pay3 (k1_pay2 xs4 x0 (weight1 x1 x2)) (k1_pay8 (k1_pay7 x0 x4 xs3) x3) x5) ∗ (∃ d, owns (c : Thread nD τ) arg10 fullShare d) ∗ owns (c : Thread nD τ) arg11 fullShare (k1_pay8 (k1_pay7 x0 x4 xs3) x3) ∗ owns (c : Thread nD τ) arg12 fullShare (k1_pay7 x0 x4 xs3) ∗ owns (c : Thread nD τ) arg13 fullShare (k1_pay2 xs4 x0 (weight1 x1 x2))) -∗ K ⟨⟩))
      ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K := by
  refine (?_ : _ ⊢ _).trans ((run1C c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4).2.2.2.2.2 E K)
  iintro ⟨H0, H1, H2, H3, H4, H5, G0, G1, G2, G3, G4, Hk⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  iintro ⟨H0, H1, H2, H3, H4, H5, ⟨%f0, G0⟩, ⟨%f1, G1⟩, ⟨%f2, G2⟩, ⟨%f3, G3⟩, ⟨%f4, G4⟩⟩
  iapply Hk
  isplitl [H0]; · iexact H0
  isplitl [H1]; · iexact H1
  isplitl [H2]; · iexact H2
  isplitl [H3]; · iexact H3
  isplitl [H4]; · iexact H4
  isplitl [H5]; · iexact H5
  isplitl [G0]
  · unfold owns; iexists _; isplitr; swap; · iexact G0
    ipureintro; exact read1C_0 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4 _
  isplitl [G1]
  · unfold owns; iexists _, _; isplitr; swap; · iexact G1
    ipureintro; rfl
  isplitl [G2]
  · unfold owns; iexists _; isplitr; swap; · iexact G2
    ipureintro; exact read1C_2 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4 _
  isplitl [G3]
  · unfold owns; iexists _; isplitr; swap; · iexact G3
    ipureintro; exact read1C_3 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4 _
  unfold owns; iexists _; isplitr; swap; · iexact G4
  ipureintro; exact read1C_4 c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs3 xs4 _

set_option maxHeartbeats 1000000 in
theorem read1D_4 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : ¬cond1_1 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16)
    (f : arg13.view.ty.Contents (Elt F)) :
    arg13.view.read (Elt F) (arg13.view.writes (Elt F) f (run1D c i arg3 harg3 arg4 harg4 arg5 harg5 arg6 harg6 arg7 harg7 arg8 harg8 arg9 harg9 arg10 harg10 arg11 harg11 arg12 harg12 arg13 harg13 hc0 hc1 hc5 x0 x1 x2 x3 x4 x5 xs2).2.1) = k1_pay2 (k1_pay4 (F := F)) x0 (weight1 x1 x2) := by
  refine (View.read_writes_full arg13.view f _ _ _).trans ?_
  skip
  refine congr (congr (congrArg k1_pay2 ?_) ?_) ?_
  · exact View.readCov_full arg13.view _ _ _ _
  · exact wholeLoad harg3 _ _
  · exact pieceLoad1 arg10.view harg4 harg5 x1 x2 _

set_option maxHeartbeats 1000000 in
/-- `cc1_down` when k = 0 and n > 0: on whole buffers with the inputs at `x·` the body runs, and its outputs and carried scratch end at the
    values named. -/
theorem triple1D (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : cond1_0 i) (hc1 : ¬cond1_1 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ owns (c : Thread nD τ) arg13 fullShare (k1_pay2 (k1_pay4 (F := F)) x0 (weight1 x1 x2))) -∗ K ⟨⟩))
      ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K := by
  refine (?_ : _ ⊢ _).trans ((run1D c i arg3 harg3 arg4 harg4 arg5 harg5 arg6 harg6 arg7 harg7 arg8 harg8 arg9 harg9 arg10 harg10 arg11 harg11 arg12 harg12 arg13 harg13 hc0 hc1 hc5 x0 x1 x2 x3 x4 x5 xs2).2.2 E K)
  iintro ⟨H0, H1, H2, H3, H4, H5, G0, G1, G2, G3, G4, Hk⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  iintro ⟨H0, H1, H2, H3, H4, H5, G0, ⟨%f1, G1⟩, G2, G3, ⟨%f4, G4⟩⟩
  iapply Hk
  isplitl [H0]; · iexact H0
  isplitl [H1]; · iexact H1
  isplitl [H2]; · iexact H2
  isplitl [H3]; · iexact H3
  isplitl [H4]; · iexact H4
  isplitl [H5]; · iexact H5
  isplitl [G0]
  · iexact G0
  isplitl [G1]
  · unfold owns; iexists _, _; isplitr; swap; · iexact G1
    ipureintro; rfl
  isplitl [G2]
  · iexact G2
  isplitl [G3]
  · iexact G3
  unfold owns; iexists _; isplitr; swap; · iexact G4
  ipureintro; exact read1D_4 c i arg3 harg3 arg4 harg4 arg5 harg5 arg6 harg6 arg7 harg7 arg8 harg8 arg9 harg9 arg10 harg10 arg11 harg11 arg12 harg12 arg13 harg13 hc0 hc1 hc5 x0 x1 x2 x3 x4 x5 xs2 _

set_option maxHeartbeats 1000000 in
theorem read1E_4 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32)
    (f : arg13.view.ty.Contents (Elt F)) :
    arg13.view.read (Elt F) (arg13.view.writes (Elt F) f (run1E c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4).2.1) = k1_pay2 xs4 x0 (weight1 x1 x2) := by
  refine (View.read_writes_full arg13.view f _ _ _).trans ?_
  skip
  refine congr (congr (congrArg k1_pay2 ?_) ?_) ?_
  · exact wholeLoad harg13 _ _
  · exact wholeLoad harg3 _ _
  · exact pieceLoad1 arg10.view harg4 harg5 x1 x2 _

set_option maxHeartbeats 1000000 in
/-- `cc1_down` when 0 < k < 3 and n > 0: on whole buffers with the inputs at `x·` the body runs, and its outputs and carried scratch end at the
    values named. -/
theorem triple1E (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : ¬cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ owns (c : Thread nD τ) arg13 fullShare xs4
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ owns (c : Thread nD τ) arg13 fullShare (k1_pay2 xs4 x0 (weight1 x1 x2))) -∗ K ⟨⟩))
      ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K := by
  refine (?_ : _ ⊢ _).trans ((run1E c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4).2.2 E K)
  iintro ⟨H0, H1, H2, H3, H4, H5, G0, G1, G2, G3, G4, Hk⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  iintro ⟨H0, H1, H2, H3, H4, H5, G0, ⟨%f1, G1⟩, G2, G3, ⟨%f4, G4⟩⟩
  iapply Hk
  isplitl [H0]; · iexact H0
  isplitl [H1]; · iexact H1
  isplitl [H2]; · iexact H2
  isplitl [H3]; · iexact H3
  isplitl [H4]; · iexact H4
  isplitl [H5]; · iexact H5
  isplitl [G0]
  · iexact G0
  isplitl [G1]
  · unfold owns; iexists _, _; isplitr; swap; · iexact G1
    ipureintro; rfl
  isplitl [G2]
  · iexact G2
  isplitl [G3]
  · iexact G3
  unfold owns; iexists _; isplitr; swap; · iexact G4
  ipureintro; exact read1E_4 c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4 _

set_option maxHeartbeats 1000000 in
theorem read1F_0 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32)
    (f : arg9.view.ty.Contents (Elt F)) :
    arg9.view.read (Elt F) (arg9.view.writes (Elt F) f (run1F c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4).1) = k1_pay3 (k1_pay2 xs4 x0 (weight1 x1 x2)) (xs2) x5 := by
  refine (View.read_writes_full arg9.view f _ _ _).trans ?_
  skip
  refine congr (congr (congrArg k1_pay3 ?_) ?_) ?_
  · refine (View.readCov_full arg13.view _ _ _ _).trans ?_
    refine congr (congr (congrArg k1_pay2 ?_) ?_) ?_
    · exact wholeLoad harg13 _ _
    · exact wholeLoad harg3 _ _
    · exact pieceLoad1 arg10.view harg4 harg5 x1 x2 _
  · exact wholeLoad harg11 _ _
  · exact wholeLoad harg8 _ _

set_option maxHeartbeats 1000000 in
theorem read1F_4 (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32)
    (f : arg13.view.ty.Contents (Elt F)) :
    arg13.view.read (Elt F) (arg13.view.writes (Elt F) f (run1F c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4).2.2.1) = k1_pay2 xs4 x0 (weight1 x1 x2) := by
  refine (View.read_writes_full arg13.view f _ _ _).trans ?_
  skip
  refine congr (congr (congrArg k1_pay2 ?_) ?_) ?_
  · exact wholeLoad harg13 _ _
  · exact wholeLoad harg3 _ _
  · exact pieceLoad1 arg10.view harg4 harg5 x1 x2 _

set_option maxHeartbeats 1000000 in
/-- `cc1_down` when k = 3 and n > 0: on whole buffers with the inputs at `x·` the body runs, and its outputs and carried scratch end at the
    values named. -/
theorem triple1F (c : Dev nD) (i : grid1.Coords) (arg3 : Memref sig .tc .vmem S960x4096 .bf16) (harg3 : arg3.IsWhole) (arg4 : Memref sig .tc .vmem S512x2048 .i8) (harg4 : arg4.IsWhole) (arg5 : Memref sig .tc .vmem S512x128 .f16) (harg5 : arg5.IsWhole) (arg6 : Memref sig .tc .vmem S960x128 .f32) (harg6 : arg6.IsWhole) (arg7 : Memref sig .tc .vmem S4096x128 .bf16) (harg7 : arg7.IsWhole) (arg8 : Memref sig .tc .vmem S128x512 .bf16) (harg8 : arg8.IsWhole) (arg9 : Memref sig .tc .vmem S960x512 .bf16) (harg9 : arg9.IsWhole) (arg10 : Memref sig .tc .vmem S512x4096 .bf16) (harg10 : arg10.IsWhole) (arg11 : Memref sig .tc .vmem S960x128 .bf16) (harg11 : arg11.IsWhole) (arg12 : Memref sig .tc .vmem S960x128 .f32) (harg12 : arg12.IsWhole) (arg13 : Memref sig .tc .vmem S960x512 .f32) (harg13 : arg13.IsWhole) (hc0 : ¬cond1_0 i) (hc1 : ¬cond1_1 i) (hc5 : cond1_5 i)
    (x0 : Vec F S960x4096 .bf16) (x1 : Vec F S512x2048 .i8) (x2 : Vec F S512x128 .f16) (x3 : Vec F S960x128 .f32) (x4 : Vec F S4096x128 .bf16) (x5 : Vec F S128x512 .bf16) (xs2 : Vec F S960x128 .bf16) (xs4 : Vec F S960x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d) ∗ owns (c : Thread nD τ) arg13 fullShare xs4
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k1_pay3 (k1_pay2 xs4 x0 (weight1 x1 x2)) (xs2) x5) ∗ (∃ d, owns (c : Thread nD τ) arg10 fullShare d) ∗ owns (c : Thread nD τ) arg11 fullShare xs2 ∗ (∃ d, owns (c : Thread nD τ) arg12 fullShare d) ∗ owns (c : Thread nD τ) arg13 fullShare (k1_pay2 xs4 x0 (weight1 x1 x2))) -∗ K ⟨⟩))
      ⊢ wp frame (wpE (defs₀ (F := F)) Variants.none c none) E (cc1_down i arg3 harg3 arg4 harg4 arg5 harg5 arg6 harg6 arg7 harg7 arg8 harg8 arg9 harg9 arg10 harg10 arg11 harg11 arg12 harg12 arg13 harg13) K := by
  refine (?_ : _ ⊢ _).trans ((run1F c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4).2.2.2 E K)
  iintro ⟨H0, H1, H2, H3, H4, H5, G0, G1, G2, G3, G4, Hk⟩
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  isplitl [G4]; · iexact G4
  iintro ⟨H0, H1, H2, H3, H4, H5, ⟨%f0, G0⟩, ⟨%f1, G1⟩, G2, G3, ⟨%f4, G4⟩⟩
  iapply Hk
  isplitl [H0]; · iexact H0
  isplitl [H1]; · iexact H1
  isplitl [H2]; · iexact H2
  isplitl [H3]; · iexact H3
  isplitl [H4]; · iexact H4
  isplitl [H5]; · iexact H5
  isplitl [G0]
  · unfold owns; iexists _; isplitr; swap; · iexact G0
    ipureintro; exact read1F_0 c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4 _
  isplitl [G1]
  · unfold owns; iexists _, _; isplitr; swap; · iexact G1
    ipureintro; rfl
  isplitl [G2]
  · iexact G2
  isplitl [G3]
  · iexact G3
  unfold owns; iexists _; isplitr; swap; · iexact G4
  ipureintro; exact read1F_4 c i arg3 harg3 arg4 harg4 arg5 harg5 arg6 harg6 arg7 harg7 arg8 harg8 arg9 harg9 arg10 harg10 arg11 harg11 arg12 harg12 arg13 harg13 hc0 hc1 hc5 x0 x1 x2 x3 x4 x5 xs2 xs4 _

end Cert.KernelIdeal.Body
-- ==== Proof.KernelIdeal.Region1.lean ====
/- The second call, point by point: what its buffers hold before and after each, and that its body keeps it so. -/
module

public import proofs.«01_k».proof.Proof.KernelIdeal.Triple1
public import Idealize.ShloMosaic.Lib.Pipeline.RegionArraysS
public import Idealize.ShloMosaic.Lib.Claim

@[expose] public section

set_option maxRecDepth 16384

noncomputable section

namespace Cert.KernelIdeal.Body

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (U : Dev nD → Valuation τ sig (Elt F))

/-- Window `w`'s block at point `t` of call 1, read off its array in the contents `U` the call finds. -/
def blk1 (c : Dev nD) (w : Fin cfg1.W) (t : Fin cfg1.N) : ((cfg1.win w).xblock (cfg1.grid.coords t)).Idx → Elt F (cfg1.win w).elt :=
  ((cfg1.win w).blk t).view.read (Elt F) (U c (Pipeline.arrRef spec1 w))

theorem before1_0_of {c : Dev nD} (dat : Dat τ (Elt F) Unit ℕ (UR sig nD τ) ℕ cfg1 c) (hA : dat.A 0 = U c (Pipeline.arrRef spec1 0))
    (hafter : ∀ t, dat.after 0 t = blk1 U c 0 t) (t : Fin cfg1.N) (d) : dat.before 0 t d = blk1 U c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = U c (Pipeline.arrRef spec1 1))
    (hafter : ∀ t, dat.after 1 t = blk1 U c 1 t) (t : Fin cfg1.N) (d) : dat.before 1 t d = blk1 U c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = U c (Pipeline.arrRef spec1 2))
    (hafter : ∀ t, dat.after 2 t = blk1 U c 2 t) (t : Fin cfg1.N) (d) : dat.before 2 t d = blk1 U c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = U c (Pipeline.arrRef spec1 3))
    (hafter : ∀ t, dat.after 3 t = blk1 U c 3 t) (t : Fin cfg1.N) (d) : dat.before 3 t d = blk1 U c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = U c (Pipeline.arrRef spec1 4))
    (hafter : ∀ t, dat.after 4 t = blk1 U c 4 t) (t : Fin cfg1.N) (d) : dat.before 4 t d = blk1 U c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = U c (Pipeline.arrRef spec1 5))
    (hafter : ∀ t, dat.after 5 t = blk1 U c 5 t) (t : Fin cfg1.N) (d) : dat.before 5 t d = blk1 U c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

abbrev ms1_0 (t : Fin cfg1.N) : Memref sig .tc .vmem S960x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S960x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S960x512 .bf16 := win1_6.stage (cfg1.slots t 6)
abbrev hs1_6 (t : Fin cfg1.N) : (ms1_6 t).IsWhole := hstage1_6 ((cfg1.slots t 6).cast nbuf1_6)
abbrev sc1_0 : Memref sig .tc .vmem S512x4096 .bf16 := Memref.whole cc1_scratch0
abbrev sc1_1 : Memref sig .tc .vmem S960x128 .bf16 := Memref.whole cc1_scratch1
abbrev sc1_2 : Memref sig .tc .vmem S960x128 .f32 := Memref.whole cc1_scratch2
abbrev sc1_3 : Memref sig .tc .vmem S960x512 .f32 := Memref.whole cc1_scratch3

/-- The other buffers of the core, and the generator register: nothing here touches them. -/
def others1 (c : Dev nD) : sProp 𝕄 :=
  iprop(Pipeline.scopedRestBut (Ix := Unit) (Name := ℕ) (U := UR sig nD τ) (Lvl := ℕ) (Val := Elt F) spec1 c [cc1_scratch0, cc1_scratch1, cc1_scratch2, cc1_scratch3] ∗ (∃ r, prngReg c r))

/-- The scratch at anything. -/
def free1 (c : Dev nD) : sProp 𝕄 :=
  iprop(((∃ d, owns (c : Thread nD τ) sc1_0 fullShare d) ∗ (∃ d, owns (c : Thread nD τ) sc1_1 fullShare d) ∗ (∃ d, owns (c : Thread nD τ) sc1_2 fullShare d) ∗ (∃ d, owns (c : Thread nD τ) sc1_3 fullShare d)) ∗ others1 (F := F) c)

theorem entry1_eq (c : Dev nD) : (Pipeline.ΦA spec1 c : sProp 𝕄) ⊣⊢ free1 (F := F) c := by
  unfold Pipeline.ΦA free1 others1
  rw [Pipeline.scopedRest_split_of_list spec1 c [cc1_scratch0, cc1_scratch1, cc1_scratch2, cc1_scratch3] (by decide) (by decide)]
  simp only [owns_whole, bigSepL]
  exact sep_assoc

/-- Point `n` of the grid. -/
def pt1 (n : ℕ) : Fin cfg1.N := ⟨n % 384, lt_of_lt_of_eq (Nat.mod_lt _ (by decide)) N_1.symm⟩
theorem pt1_val (t : Fin cfg1.N) : pt1 t.val = t := Fin.ext (Nat.mod_eq_of_lt (lt_of_lt_of_eq t.isLt N_1))

/-- The sum over the blocks of `k` from point `b` on: `h @ w`, accumulated. -/
def acc (c : Dev nD) (b : ℕ) : ℕ → Vec F S960x512 .f32
  | 0 => k1_pay2 (k1_pay4 (F := F)) (blk1 U c 0 (pt1 b)) (weight1 (blk1 U c 1 (pt1 b)) (blk1 U c 2 (pt1 b)))
  | k + 1 => k1_pay2 (acc c b k) (blk1 U c 0 (pt1 (b + (k + 1)))) (weight1 (blk1 U c 1 (pt1 (b + (k + 1)))) (blk1 U c 2 (pt1 (b + (k + 1)))))
/-- and that of `h @ a`. -/
def tacc (c : Dev nD) (b : ℕ) : ℕ → Vec F S960x128 .f32
  | 0 => k1_pay6 (blk1 U c 0 (pt1 b)) (blk1 U c 4 (pt1 b))
  | k + 1 => k1_pay7 (blk1 U c 0 (pt1 (b + (k + 1)))) (blk1 U c 4 (pt1 (b + (k + 1)))) (tacc c b k)

/-- The accumulators after point `n`. -/
def accAt (c : Dev nD) (n : ℕ) : Vec F S960x512 .f32 := acc U c (n / 4 * 4) (n % 4)
def taccAt (c : Dev nD) (n : ℕ) : Vec F S960x128 .f32 := tacc U c (n / 48 * 48) (n % 48)
/-- `t` of point `n`'s row block: the whole sum masked, rounded, doubled. -/
def low1 (c : Dev nD) (n : ℕ) : Vec F S960x128 .bf16 := k1_pay8 (tacc U c (n / 48 * 48) 3) (blk1 U c 3 (pt1 (n / 48 * 48 + 3)))
/-- The block of `y` stored at a point. -/
def yAt (c : Dev nD) (t : Fin cfg1.N) : Vec F S960x512 .bf16 := k1_pay3 (accAt U c t.val) (low1 U c t.val) (blk1 U c 5 t)

theorem accAt_first (c : Dev nD) (t : Fin cfg1.N) (h : t.val % 4 = 0) :
    accAt U c t.val = k1_pay2 (k1_pay4 (F := F)) (blk1 U c 0 t) (weight1 (blk1 U c 1 t) (blk1 U c 2 t)) := by
  unfold accAt
  rw [h, show t.val / 4 * 4 = t.val from by omega]
  show k1_pay2 (k1_pay4 (F := F)) (blk1 U c 0 (pt1 t.val)) (weight1 (blk1 U c 1 (pt1 t.val)) (blk1 U c 2 (pt1 t.val))) = _
  rw [pt1_val]
theorem accAt_next (c : Dev nD) (t : Fin cfg1.N) (h : ¬ t.val % 4 = 0) :
    accAt U c t.val = k1_pay2 (accAt U c (t.val - 1)) (blk1 U c 0 t) (weight1 (blk1 U c 1 t) (blk1 U c 2 t)) := by
  unfold accAt
  rw [show (t.val - 1) / 4 * 4 = t.val / 4 * 4 from by omega]
  obtain ⟨k, hk⟩ : ∃ k, t.val % 4 = k + 1 := ⟨t.val % 4 - 1, by omega⟩
  rw [show (t.val - 1) % 4 = k from by omega, hk]
  show k1_pay2 (acc U c (t.val / 4 * 4) k) (blk1 U c 0 (pt1 (t.val / 4 * 4 + (k + 1)))) (weight1 (blk1 U c 1 (pt1 (t.val / 4 * 4 + (k + 1)))) (blk1 U c 2 (pt1 (t.val / 4 * 4 + (k + 1))))) = _
  rw [show t.val / 4 * 4 + (k + 1) = t.val from by omega, pt1_val]
theorem taccAt_first (c : Dev nD) (t : Fin cfg1.N) (h : t.val % 48 = 0) :
    taccAt U c t.val = k1_pay6 (blk1 U c 0 t) (blk1 U c 4 t) := by
  unfold taccAt
  rw [h, show t.val / 48 * 48 = t.val from by omega]
  show k1_pay6 (blk1 U c 0 (pt1 t.val)) (blk1 U c 4 (pt1 t.val)) = _
  rw [pt1_val]
theorem taccAt_next (c : Dev nD) (t : Fin cfg1.N) (h : ¬ t.val % 48 = 0) :
    taccAt U c t.val = k1_pay7 (blk1 U c 0 t) (blk1 U c 4 t) (taccAt U c (t.val - 1)) := by
  unfold taccAt
  rw [show (t.val - 1) / 48 * 48 = t.val / 48 * 48 from by omega]
  obtain ⟨k, hk⟩ : ∃ k, t.val % 48 = k + 1 := ⟨t.val % 48 - 1, by omega⟩
  rw [show (t.val - 1) % 48 = k from by omega, hk]
  show k1_pay7 (blk1 U c 0 (pt1 (t.val / 48 * 48 + (k + 1)))) (blk1 U c 4 (pt1 (t.val / 48 * 48 + (k + 1)))) (tacc U c (t.val / 48 * 48) k) = _
  rw [show t.val / 48 * 48 + (k + 1) = t.val from by omega, pt1_val]
theorem low1_first (c : Dev nD) (t : Fin cfg1.N) (h : t.val % 48 = 3) :
    low1 U c t.val = k1_pay8 (taccAt U c t.val) (blk1 U c 3 t) := by
  unfold low1 taccAt
  rw [h, show t.val / 48 * 48 + 3 = t.val from by omega, pt1_val]
theorem low1_next (c : Dev nD) (n : ℕ) (h : ¬ n % 48 = 0) : low1 U c (n - 1) = low1 U c n := by
  unfold low1
  rw [show (n - 1) / 48 * 48 = n / 48 * 48 from by omega]

/-- Between points, while the first tile of outputs is under way: both accumulators known. -/
def early1 (c : Dev nD) (n : ℕ) : sProp 𝕄 :=
  iprop(((∃ d, owns (c : Thread nD τ) sc1_0 fullShare d) ∗ (∃ d, owns (c : Thread nD τ) sc1_1 fullShare d) ∗ owns (c : Thread nD τ) sc1_2 fullShare (taccAt U c n) ∗ owns (c : Thread nD τ) sc1_3 fullShare (accAt U c n)) ∗ others1 (F := F) c)
/-- Later: `t` and the accumulator known. -/
def late1 (c : Dev nD) (n : ℕ) : sProp 𝕄 :=
  iprop(((∃ d, owns (c : Thread nD τ) sc1_0 fullShare d) ∗ owns (c : Thread nD τ) sc1_1 fullShare (low1 U c n) ∗ (∃ d, owns (c : Thread nD τ) sc1_2 fullShare d) ∗ owns (c : Thread nD τ) sc1_3 fullShare (accAt U c n)) ∗ others1 (F := F) c)
def held1 (c : Dev nD) (n : ℕ) : sProp 𝕄 := if n % 48 < 3 then early1 U c n else late1 U c n
def inv1 (c : Dev nD) : (n : ℕ) → n ≤ cfg1.N → sProp 𝕄
  | 0, _ => Pipeline.ΦA spec1 c
  | n + 1, _ => held1 U c n

theorem inv1_pos (c : Dev nD) (n : ℕ) (h : n ≤ cfg1.N) (hz : n ≠ 0) : inv1 U c n h = held1 U c (n - 1) := by
  cases n with
  | zero => exact absurd rfl hz
  | succ n => rfl
theorem held1_early (c : Dev nD) (n : ℕ) (h : n % 48 < 3) : held1 U c n = early1 U c n := if_pos h
theorem held1_late (c : Dev nD) (n : ℕ) (h : ¬ n % 48 < 3) : held1 U c n = late1 U c n := if_neg h

theorem inv1_free (c : Dev nD) (n : ℕ) (h : n ≤ cfg1.N) : inv1 U c n h ⊢ free1 (F := F) c := by
  cases n with
  | zero => exact (entry1_eq c).1
  | succ n =>
    show held1 U c n ⊢ _
    by_cases he : n % 48 < 3
    · rw [held1_early U c n he]
      unfold early1 free1
      iintro ⟨⟨H0, H1, H2, H3⟩, Hr⟩
      isplitr [Hr]
      · isplitl [H0]; · iexact H0
        isplitl [H1]; · iexact H1
        isplitl [H2]; · iexists _; iexact H2
        iexists _; iexact H3
      iexact Hr
    · rw [held1_late U c n he]
      unfold late1 free1
      iintro ⟨⟨H0, H1, H2, H3⟩, Hr⟩
      isplitr [Hr]
      · isplitl [H0]; · iexact H0
        isplitl [H1]; · iexists _; iexact H1
        isplitl [H2]; · iexact H2
        iexists _; iexact H3
      iexact Hr

/-- The proof data of call 1 on core `c`. -/
def dat1 (c : Dev nD) : Dat τ (Elt F) Unit ℕ (UR sig nD τ) ℕ cfg1 c where
  A w := U c (Pipeline.arrRef spec1 w)
  after w t := match w with
    | ⟨0, _⟩ => blk1 U c 0 t
    | ⟨1, _⟩ => blk1 U c 1 t
    | ⟨2, _⟩ => blk1 U c 2 t
    | ⟨3, _⟩ => blk1 U c 3 t
    | ⟨4, _⟩ => blk1 U c 4 t
    | ⟨5, _⟩ => blk1 U c 5 t
    | ⟨6, _⟩ => yAt U c t
  Φ t := inv1 U c t.val (Nat.le_of_lt_succ t.isLt)
  q _ := fullShare
  owed _ := 0
  recorded _ := Set.univ

theorem A1_eq (c : Dev nD) (w : Fin cfg1.W) : (dat1 U c).A w = U c (Pipeline.arrRef spec1 w) := by
  dsimp only [dat1]
theorem Phi1_castSucc (c : Dev nD) (t : Fin cfg1.N) : (dat1 U c).Φ t.castSucc = inv1 U c t.val (Nat.le_of_lt t.isLt) := by
  dsimp only [dat1]; exact Pipeline.Dat.Φ_castSucc (inv1 U c) t
theorem after1_0 (c : Dev nD) (t : Fin cfg1.N) : (dat1 U c).after 0 t = blk1 U c 0 t := by dsimp only [dat1]
theorem after1_1 (c : Dev nD) (t : Fin cfg1.N) : (dat1 U c).after 1 t = blk1 U c 1 t := by dsimp only [dat1]
theorem after1_2 (c : Dev nD) (t : Fin cfg1.N) : (dat1 U c).after 2 t = blk1 U c 2 t := by dsimp only [dat1]
theorem after1_3 (c : Dev nD) (t : Fin cfg1.N) : (dat1 U c).after 3 t = blk1 U c 3 t := by dsimp only [dat1]
theorem after1_4 (c : Dev nD) (t : Fin cfg1.N) : (dat1 U c).after 4 t = blk1 U c 4 t := by dsimp only [dat1]
theorem after1_5 (c : Dev nD) (t : Fin cfg1.N) : (dat1 U c).after 5 t = blk1 U c 5 t := by dsimp only [dat1]
theorem after1_6 (c : Dev nD) (t : Fin cfg1.N) : (dat1 U c).after 6 t = yAt U c t := by dsimp only [dat1]
theorem before1_0 (c : Dev nD) (t : Fin cfg1.N) (d) : (dat1 U c).before 0 t d = blk1 U c 0 t :=
  before1_0_of U (dat1 U c) (A1_eq U c 0) (after1_0 U c) t d
theorem before1_1 (c : Dev nD) (t : Fin cfg1.N) (d) : (dat1 U c).before 1 t d = blk1 U c 1 t :=
  before1_1_of U (dat1 U c) (A1_eq U c 1) (after1_1 U c) t d
theorem before1_2 (c : Dev nD) (t : Fin cfg1.N) (d) : (dat1 U c).before 2 t d = blk1 U c 2 t :=
  before1_2_of U (dat1 U c) (A1_eq U c 2) (after1_2 U c) t d
theorem before1_3 (c : Dev nD) (t : Fin cfg1.N) (d) : (dat1 U c).before 3 t d = blk1 U c 3 t :=
  before1_3_of U (dat1 U c) (A1_eq U c 3) (after1_3 U c) t d
theorem before1_4 (c : Dev nD) (t : Fin cfg1.N) (d) : (dat1 U c).before 4 t d = blk1 U c 4 t :=
  before1_4_of U (dat1 U c) (A1_eq U c 4) (after1_4 U c) t d
theorem before1_5 (c : Dev nD) (t : Fin cfg1.N) (d) : (dat1 U c).before 5 t d = blk1 U c 5 t :=
  before1_5_of U (dat1 U c) (A1_eq U c 5) (after1_5 U c) t d

/-- The output's window is idle at the points that do not store it, -/
theorem idle1_6 (t : Fin cfg1.N) (h : ¬ t.val % 4 = 3) : cfg1.idle 6 (grid1.coords t) = true := by
  have := mt (hcond1_5 t).mp h
  show (!(k1_cond6 (grid1.coords t) == 1#1)) = true
  rw [Bool.not_eq_true', beq_eq_false_iff_ne]
  exact this
theorem live1_6 (t : Fin cfg1.N) (h : t.val % 4 = 3) : cfg1.idle 6 (grid1.coords t) = false := by
  have := (hcond1_5 t).mpr h
  show (!(k1_cond6 (grid1.coords t) == 1#1)) = false
  rw [Bool.not_eq_false', beq_iff_eq]
  exact this

/-- so its buffer holds anything when the body starts. -/
theorem before1_6 (c : Dev nD) (d) : ∀ (n : ℕ) (t : Fin cfg1.N), t.val = n → (dat1 U c).before 6 t d = d := by
  intro n
  induction n with
  | zero =>
    intro t ht
    unfold Dat.before
    rw [if_neg (show ¬ (cfg1.win 6).fetch t = true from Bool.false_ne_true), if_pos ht]
  | succ n ih =>
    intro t ht
    rw [Dat.before_of_pos (dat1 U c) 6 t (by omega) rfl]
    by_cases hf : (cfg1.win 6).flush ⟨t.val - 1, Nat.lt_of_le_of_lt (Nat.sub_le _ _) t.isLt⟩ = true
    · rw [if_pos hf]
    · rw [if_neg hf]
      unfold Dat.left
      rw [idle1_6 _ (fun h => hf ((flush1_6 _).mpr h))]
      exact ih _ (by show t.val - 1 = n; omega)

/-- What the body returns in the output's buffer: its block where it stores it, else anything. -/
def left1 (c : Dev nD) (t : Fin cfg1.N) : sProp 𝕄 :=
  if t.val % 4 = 3 then owns (c : Thread nD τ) (ms1_6 t) fullShare (yAt U c t) else iprop(∃ d, owns (c : Thread nD τ) (ms1_6 t) fullShare d)

/-- What the body is called with at a point, -/
def bodyPre1 (c : Dev nD) (t : Fin cfg1.N) : sProp 𝕄 :=
  iprop((dat1 U c).Φ t.castSucc ∗ (dat1 U c).owesAt () t.castSucc
    ∗ (∃ d, owns (c : Thread nD τ) (ms1_0 t) fullShare ((dat1 U c).before 0 t d))
    ∗ (∃ d, owns (c : Thread nD τ) (ms1_1 t) fullShare ((dat1 U c).before 1 t d))
    ∗ (∃ d, owns (c : Thread nD τ) (ms1_2 t) fullShare ((dat1 U c).before 2 t d))
    ∗ (∃ d, owns (c : Thread nD τ) (ms1_3 t) fullShare ((dat1 U c).before 3 t d))
    ∗ (∃ d, owns (c : Thread nD τ) (ms1_4 t) fullShare ((dat1 U c).before 4 t d))
    ∗ (∃ d, owns (c : Thread nD τ) (ms1_5 t) fullShare ((dat1 U c).before 5 t d))
    ∗ (∃ d, owns (c : Thread nD τ) (ms1_6 t) fullShare ((dat1 U c).before 6 t d)))

/-- and what it returns. -/
def bodyPost1 (c : Dev nD) (t : Fin cfg1.N) : sProp 𝕄 :=
  iprop((dat1 U c).Φ t.succ ∗ (dat1 U c).owesAt () t.succ
    ∗ owns (c : Thread nD τ) (ms1_0 t) fullShare ((dat1 U c).after 0 t)
    ∗ owns (c : Thread nD τ) (ms1_1 t) fullShare ((dat1 U c).after 1 t)
    ∗ owns (c : Thread nD τ) (ms1_2 t) fullShare ((dat1 U c).after 2 t)
    ∗ owns (c : Thread nD τ) (ms1_3 t) fullShare ((dat1 U c).after 3 t)
    ∗ owns (c : Thread nD τ) (ms1_4 t) fullShare ((dat1 U c).after 4 t)
    ∗ owns (c : Thread nD τ) (ms1_5 t) fullShare ((dat1 U c).after 5 t)
    ∗ left1 U c t)

set_option maxHeartbeats 4000000 in
theorem sound1A (c : Dev nD) (t : Fin cfg1.N) (h : t.val % 48 = 0) :
    bodyPre1 U c t ⊢ wp frame (wpE (defs₀ (F := F)) Variants.none c none) Set.univ (bodyAt1 t) (fun _ => bodyPost1 U c t) := by
  unfold bodyPre1 bodyPost1 left1
  simp only [before1_0, before1_1, before1_2, before1_3, before1_4, before1_5]
  rw [show (dat1 U c).owesAt () t.succ = (dat1 U c).owesAt () t.castSucc from rfl,
    after1_0, after1_1, after1_2, after1_3, after1_4, after1_5]
  rw [show (dat1 U c).Φ t.succ = held1 U c t.val from rfl, Phi1_castSucc U c t]
  refine (sep_mono (inv1_free U c _ _) .rfl).trans ?_
  rw [held1_early U c t.val (by omega), if_neg (show ¬ t.val % 4 = 3 by omega)]
  unfold free1 early1
  rw [taccAt_first U c t (by omega), accAt_first U c t (by omega)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (triple1A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) ((hcond1_0 t).mpr (by omega)) ((hcond1_1 t).mpr (by omega)) ((hcond1_2 t).mpr (by omega)) (fun h => absurd ((hcond1_3 t).mp h) (by omega)) (fun h => absurd ((hcond1_4 t).mp h) (by omega)) (fun h => absurd ((hcond1_5 t).mp h) (by omega)) (blk1 U c 0 t) (blk1 U c 1 t) (blk1 U c 2 t) (blk1 U c 3 t) (blk1 U c 4 t) (blk1 U c 5 t)  Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound1B (c : Dev nD) (t : Fin cfg1.N) (h : (t.val % 48 = 1 ∨ t.val % 48 = 2)) :
    bodyPre1 U c t ⊢ wp frame (wpE (defs₀ (F := F)) Variants.none c none) Set.univ (bodyAt1 t) (fun _ => bodyPost1 U c t) := by
  unfold bodyPre1 bodyPost1 left1
  simp only [before1_0, before1_1, before1_2, before1_3, before1_4, before1_5]
  rw [show (dat1 U c).owesAt () t.succ = (dat1 U c).owesAt () t.castSucc from rfl,
    after1_0, after1_1, after1_2, after1_3, after1_4, after1_5]
  rw [show (dat1 U c).Φ t.succ = held1 U c t.val from rfl, Phi1_castSucc U c t]
  rw [inv1_pos U c _ _ (by omega), held1_early U c _ (by omega)]
  rw [held1_early U c t.val (by omega), if_neg (show ¬ t.val % 4 = 3 by omega)]
  unfold early1
  rw [taccAt_next U c t (by omega), accAt_next U c t (by omega)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (triple1B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) (fun h => absurd ((hcond1_0 t).mp h) (by omega)) ((hcond1_1 t).mpr (by omega)) (fun h => absurd ((hcond1_2 t).mp h) (by omega)) ((hcond1_3 t).mpr (by omega)) (fun h => absurd ((hcond1_4 t).mp h) (by omega)) (fun h => absurd ((hcond1_5 t).mp h) (by omega)) (blk1 U c 0 t) (blk1 U c 1 t) (blk1 U c 2 t) (blk1 U c 3 t) (blk1 U c 4 t) (blk1 U c 5 t) (taccAt U c (t.val - 1)) (accAt U c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound1C (c : Dev nD) (t : Fin cfg1.N) (h : t.val % 48 = 3) :
    bodyPre1 U c t ⊢ wp frame (wpE (defs₀ (F := F)) Variants.none c none) Set.univ (bodyAt1 t) (fun _ => bodyPost1 U c t) := by
  unfold bodyPre1 bodyPost1 left1
  simp only [before1_0, before1_1, before1_2, before1_3, before1_4, before1_5]
  rw [show (dat1 U c).owesAt () t.succ = (dat1 U c).owesAt () t.castSucc from rfl,
    after1_0, after1_1, after1_2, after1_3, after1_4, after1_5]
  rw [show (dat1 U c).Φ t.succ = held1 U c t.val from rfl, Phi1_castSucc U c t]
  rw [inv1_pos U c _ _ (by omega), held1_early U c _ (by omega)]
  rw [held1_late U c t.val (by omega), if_pos (show t.val % 4 = 3 by omega)]
  unfold early1 late1 yAt
  rw [low1_first U c t (by omega), taccAt_next U c t (by omega), accAt_next U c t (by omega)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (triple1C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) (fun h => absurd ((hcond1_0 t).mp h) (by omega)) ((hcond1_1 t).mpr (by omega)) (fun h => absurd ((hcond1_2 t).mp h) (by omega)) ((hcond1_3 t).mpr (by omega)) ((hcond1_4 t).mpr (by omega)) ((hcond1_5 t).mpr (by omega)) (blk1 U c 0 t) (blk1 U c 1 t) (blk1 U c 2 t) (blk1 U c 3 t) (blk1 U c 4 t) (blk1 U c 5 t) (taccAt U c (t.val - 1)) (accAt U c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexists _; iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound1D (c : Dev nD) (t : Fin cfg1.N) (h : (3 < t.val % 48 ∧ t.val % 4 = 0)) :
    bodyPre1 U c t ⊢ wp frame (wpE (defs₀ (F := F)) Variants.none c none) Set.univ (bodyAt1 t) (fun _ => bodyPost1 U c t) := by
  unfold bodyPre1 bodyPost1 left1
  simp only [before1_0, before1_1, before1_2, before1_3, before1_4, before1_5]
  rw [show (dat1 U c).owesAt () t.succ = (dat1 U c).owesAt () t.castSucc from rfl,
    after1_0, after1_1, after1_2, after1_3, after1_4, after1_5]
  rw [show (dat1 U c).Φ t.succ = held1 U c t.val from rfl, Phi1_castSucc U c t]
  rw [inv1_pos U c _ _ (by omega), held1_late U c _ (by omega)]
  rw [held1_late U c t.val (by omega), if_neg (show ¬ t.val % 4 = 3 by omega)]
  unfold late1
  rw [← low1_next U c t.val (by omega), accAt_first U c t (by omega)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (triple1D c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) ((hcond1_0 t).mpr (by omega)) (fun h => absurd ((hcond1_1 t).mp h) (by omega)) (fun h => absurd ((hcond1_5 t).mp h) (by omega)) (blk1 U c 0 t) (blk1 U c 1 t) (blk1 U c 2 t) (blk1 U c 3 t) (blk1 U c 4 t) (blk1 U c 5 t) (low1 U c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexists _; iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound1E (c : Dev nD) (t : Fin cfg1.N) (h : (3 < t.val % 48 ∧ ¬ t.val % 4 = 0 ∧ ¬ t.val % 4 = 3)) :
    bodyPre1 U c t ⊢ wp frame (wpE (defs₀ (F := F)) Variants.none c none) Set.univ (bodyAt1 t) (fun _ => bodyPost1 U c t) := by
  unfold bodyPre1 bodyPost1 left1
  simp only [before1_0, before1_1, before1_2, before1_3, before1_4, before1_5]
  rw [show (dat1 U c).owesAt () t.succ = (dat1 U c).owesAt () t.castSucc from rfl,
    after1_0, after1_1, after1_2, after1_3, after1_4, after1_5]
  rw [show (dat1 U c).Φ t.succ = held1 U c t.val from rfl, Phi1_castSucc U c t]
  rw [inv1_pos U c _ _ (by omega), held1_late U c _ (by omega)]
  rw [held1_late U c t.val (by omega), if_neg (show ¬ t.val % 4 = 3 by omega)]
  unfold late1
  rw [← low1_next U c t.val (by omega), accAt_next U c t (by omega)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (triple1E c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) (fun h => absurd ((hcond1_0 t).mp h) (by omega)) (fun h => absurd ((hcond1_1 t).mp h) (by omega)) (fun h => absurd ((hcond1_5 t).mp h) (by omega)) (blk1 U c 0 t) (blk1 U c 1 t) (blk1 U c 2 t) (blk1 U c 3 t) (blk1 U c 4 t) (blk1 U c 5 t) (low1 U c (t.val - 1)) (accAt U c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound1F (c : Dev nD) (t : Fin cfg1.N) (h : (3 < t.val % 48 ∧ t.val % 4 = 3)) :
    bodyPre1 U c t ⊢ wp frame (wpE (defs₀ (F := F)) Variants.none c none) Set.univ (bodyAt1 t) (fun _ => bodyPost1 U c t) := by
  unfold bodyPre1 bodyPost1 left1
  simp only [before1_0, before1_1, before1_2, before1_3, before1_4, before1_5]
  rw [show (dat1 U c).owesAt () t.succ = (dat1 U c).owesAt () t.castSucc from rfl,
    after1_0, after1_1, after1_2, after1_3, after1_4, after1_5]
  rw [show (dat1 U c).Φ t.succ = held1 U c t.val from rfl, Phi1_castSucc U c t]
  rw [inv1_pos U c _ _ (by omega), held1_late U c _ (by omega)]
  rw [held1_late U c t.val (by omega), if_pos (show t.val % 4 = 3 by omega)]
  unfold late1 yAt
  rw [← low1_next U c t.val (by omega), accAt_next U c t (by omega)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  iapply (triple1F c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) sc1_2 (Memref.isWhole_whole _) sc1_3 (Memref.isWhole_whole _) (fun h => absurd ((hcond1_0 t).mp h) (by omega)) (fun h => absurd ((hcond1_1 t).mp h) (by omega)) ((hcond1_5 t).mpr (by omega)) (blk1 U c 0 t) (blk1 U c 1 t) (blk1 U c 2 t) (blk1 U c 3 t) (blk1 U c 4 t) (blk1 U c 5 t) (low1 U c (t.val - 1)) (accAt U c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hr]
  · isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound1 (c : Dev nD) (t : Fin cfg1.N) :
    bodyPre1 U c t ⊢ wp frame (wpE (defs₀ (F := F)) Variants.none c none) Set.univ (bodyAt1 t) (fun _ => bodyPost1 U c t) := by
  by_cases hA : t.val % 48 = 0; · exact sound1A U c t hA
  by_cases hB : t.val % 48 = 1 ∨ t.val % 48 = 2; · exact sound1B U c t hB
  by_cases hC : t.val % 48 = 3; · exact sound1C U c t hC
  by_cases hD : t.val % 4 = 0; · exact sound1D U c t ⟨by omega, hD⟩
  by_cases hF : t.val % 4 = 3; · exact sound1F U c t ⟨by omega, hF⟩
  exact sound1E U c t ⟨by omega, hD, hF⟩

/-- The body table's row at point `t`'s slots is the body as spelt above. -/
theorem row1 (t : Fin cfg1.N) : defs₀ (F := F) .tc cfg1.body (cfg1.bodyArgs t (cfg1.slots t)) = bodyAt1 t := by
  unfold defs₀; rw [Defs.onTc_tc]

/-- The output's buffer as the library's obligation asks it back. -/
theorem left1_eq (c : Dev nD) (t : Fin cfg1.N) :
    left1 U c t ⊢ (match cfg1.idle 6 (cfg1.grid.coords t) with
      | true =>
        match (cfg1.win 6).flush t with
        | false => iprop(∃ d, owns (c : Thread nD τ) ((cfg1.win 6).stage (cfg1.slots t 6)) fullShare ((dat1 U c).before 6 t d))
        | true => owns (c : Thread nD τ) ((cfg1.win 6).stage (cfg1.slots t 6)) fullShare ((dat1 U c).after 6 t)
      | false => owns (c : Thread nD τ) ((cfg1.win 6).stage (cfg1.slots t 6)) fullShare ((dat1 U c).after 6 t)) := by
  unfold left1
  by_cases h : t.val % 4 = 3
  · rw [if_pos h, live1_6 t h, after1_6]
  · rw [if_neg h, idle1_6 t h, show (cfg1.win 6).flush t = false from Bool.eq_false_iff.mpr fun e => h ((flush1_6 t).mp e)]
    iintro ⟨%d, H⟩
    iexists d
    rw [before1_6 U c d t.val t rfl]
    iexact H

/-- The library's obligation on the body. -/
theorem obligation1 (c : Dev nD) : BodyObligation (dat1 U c) (defs₀ (F := F)) Variants.none () Set.univ := fun t => by
  rw [bigSep_W1, bigSep_W1, row1]
  refine triple_restated (sound1 U c t) rfl .rfl fun _ => ?_
  unfold bodyPost1
  exact sep_mono .rfl (sep_mono .rfl (sep_mono .rfl (sep_mono .rfl (sep_mono .rfl (sep_mono .rfl (sep_mono .rfl (sep_mono .rfl (left1_eq U c t))))))))

theorem begin1 (c : Dev nD) : Pipeline.ΦA spec1 c ⊢ (dat1 U c).Φ 0 := by
  rw [show (dat1 U c).Φ 0 = inv1 U c 0 (Nat.zero_le _) from rfl]
  exact .rfl
theorem end1 (c : Dev nD) : (dat1 U c).Φ (Fin.last cfg1.N) ⊢ Pipeline.ΦA spec1 c := by
  rw [show (dat1 U c).Φ (Fin.last cfg1.N) = inv1 U c cfg1.N le_rfl from rfl]
  exact (inv1_free U c _ _).trans (entry1_eq c).2

end Cert.KernelIdeal.Body

end
-- ==== Proof.KernelIdeal.Run.lean ====
/- The whole run: the two calls chained with the operations around them. Every argument ends as launched, and the two results hold what the last valuation says. -/
module

public import proofs.«01_k».proof.Proof.KernelIdeal.Region0
public import proofs.«01_k».proof.Proof.KernelIdeal.Region1
public import proofs.«01_k».proof.Proof.Gen.KernelIdeal.Regions

@[expose] public section

set_option maxRecDepth 16384

noncomputable section

namespace Cert.KernelIdeal.Body

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg afterRegion ucRefs)

variable {F : FTy → Type} [FloatOps F]

local notation "𝕄" => MT nD τ sig Unit (Elt F) ℕ (UR sig nD τ) ℕ

variable (m : (ℓ : Loc nD τ sig) → Buf (Elt F) ℓ)

/-- The contents between the two calls: `h` as the first call leaves it, the rest as before it. -/
def mid (c : Dev nD) : Valuation τ sig (Elt F) :=
  Function.update (V14 m c) main_v28 (afterRegion (dat0 (V14 m) c) (V14 m c) main_v28)

/-- What each call leaves in its result's array. -/
def outs : Outs (F := F) := fun J r c =>
  match J with
  | 15 => afterRegion (dat0 (V14 m) c) (V14 m c) r
  | _ => afterRegion (dat1 (mid m) c) (mid m c) r

theorem mid_eq (c : Dev nD) : V15 m (outs m) c = mid m c := rfl

/-- The two calls' proof data. -/
def pdats : (p : Fin 2) → (c : Dev nD) → Dat τ (Elt F) Unit ℕ (UR sig nD τ) ℕ (cfgs p) c
  | ⟨0, _⟩ => fun c => dat0 (V14 m) c
  | ⟨1, _⟩ => fun c => dat1 (mid m) c

/-- No level matters: nothing is owed. -/
def levels (g : GSem nD τ sig) : Finset Unit := if g.1.2 = .tc then {()} else ∅
def level (_ : GSem nD τ sig) (_ : Unit) : ℕ := 0

theorem cut (p : Fin 2) : Pipeline.LevelCut (nD := nD) (τ := τ) (pcfgs (F := F)) adm () levels level p 0 (fun _ => 0) where
  hι _ _ _ := Finset.mem_singleton.mpr rfl
  hιb _ _ _ := le_rfl
  hD _ _ _ h := absurd h (Nat.not_lt_zero _)

/-- What rides beside the buffers: the core owes nothing; the generator register. -/
def ride (c : Dev nD) : sProp 𝕄 := iprop((∃ W, owes (c : Thread nD τ) (0 : CellTallies nD τ sig Unit) W) ∗ (∃ r, prngReg c r) ∗ emp)

/-- The record of call 0. -/
def rec0 : RegionSeg (pcfgs (F := F)) adm (pdats m) () defs₀ Variants.none levels level 0 :=
  RegionSeg.ofHeldIn (pcfgs (F := F)) adm (pdats m) () defs₀ Variants.none levels level 0 0 (ucRefs τ sig)
    (fun c => iprop(∃ r, prngReg c r)) (fun c => iprop(∃ r, prngReg c r)) launch0.toP rfl
    (fun c => (obligation0 (V14 m) c).loose) (fun _ _ => rfl) (fun _ => rfl) (fun c w => (dat0 (V14 m) c).share_full (fun _ => rfl) w)
    (fun c => begin0 (V14 m) c) (fun c => end0 (V14 m) c) (fun _ => 0) (cut 0) (fun _ => iprop(emp)) (V14 m)
    (fun c w => (show (dat0 (V14 m) c).arrAt w 0 = (dat0 (V14 m) c).A w from rfl).trans (A0_eq (V14 m) c w))

theorem sub0 : Pipeline.arrRefs (τ := τ) (pcfgs (F := F) 0).spec ⊆ ucRefs τ sig :=
  Pipeline.arrRefs_sub_ucRefs spec0 (by decide)

theorem left0_rest (c : Dev nD) (r : Ref sig .tc) (h : r ≠ main_v28) :
    afterRegion (dat0 (V14 m) c) (V14 m c) (Proc.devRef .tc r) = V14 m c (Proc.devRef .tc r) := by
  refine Pipeline.afterRegion_keeps (dat0 (V14 m) c) (V14 m c) winFacts0.arr_inj (A0_eq (V14 m) c) r fun w e => ?_
  subst e
  revert w
  decide

/-- The record of call 1. -/
def rec1 : RegionSeg (pcfgs (F := F)) adm (pdats m) () defs₀ Variants.none levels level 1 :=
  RegionSeg.ofHeldIn (pcfgs (F := F)) adm (pdats m) () defs₀ Variants.none levels level 1 0 (ucRefs τ sig)
    (fun c => iprop(∃ r, prngReg c r)) (fun c => iprop(∃ r, prngReg c r)) launch1.toP rfl
    (fun c => (obligation1 (mid m) c).loose) (fun _ _ => rfl) (fun _ => rfl) (fun c w => (dat1 (mid m) c).share_full (fun _ => rfl) w)
    (fun c => begin1 (mid m) c) (fun c => end1 (mid m) c) (fun _ => 0) (cut 1) (fun _ => iprop(emp)) (mid m)
    (fun c w => (show (dat1 (mid m) c).arrAt w 0 = (dat1 (mid m) c).A w from rfl).trans (A1_eq (mid m) c w))

theorem sub1 : Pipeline.arrRefs (τ := τ) (pcfgs (F := F) 1).spec ⊆ ucRefs τ sig :=
  Pipeline.arrRefs_sub_ucRefs spec1 (by decide)

theorem left1_rest (c : Dev nD) (r : Ref sig .tc) (h : r ≠ main_v29) :
    afterRegion (dat1 (mid m) c) (mid m c) (Proc.devRef .tc r) = mid m c (Proc.devRef .tc r) := by
  refine Pipeline.afterRegion_keeps (dat1 (mid m) c) (mid m c) winFacts1.arr_inj (A1_eq (mid m) c) r fun w e => ?_
  subst e
  revert w
  decide

theorem enter0 (c : Dev nD) : iprop(StableHlo.held (c : Thread nD τ) (ucRefs τ sig) (V14 m c) ∗ ride (F := F) c) ⊢ (rec0 m).pre c := by
  refine (?_ : _ ⊢ _).trans (RegionSeg.ofHeldIn_pre (sub0 (F := F)) c)
  exact sep_mono .rfl .rfl

theorem exit0 (c : Dev nD) : (rec0 m).post c ⊢ iprop(StableHlo.held (c : Thread nD τ) (ucRefs τ sig) (V15 m (outs m) c) ∗ ride (F := F) c) := by
  refine (RegionSeg.ofHeldIn_post (sub0 (F := F)) c).trans (sep_mono ?_ .rfl)
  rw [StableHlo.held_congr (c : Thread nD τ) (S := ucRefs τ sig) (V := afterRegion (pdats m 0 c) (V14 m c)) (V' := V15 m (outs m) c) fun b hb => ?_]
  obtain ⟨hb, -⟩ := Finset.mem_filter.mp hb
  obtain ⟨r, -, rfl⟩ := Finset.mem_map.mp hb
  by_cases hr : r = main_v28
  · subst hr
    show _ = V15 m (outs m) c (Proc.devRef .tc main_v28)
    exact (Function.update_self (f := V14 m c) (Proc.devRef (τ := τ) .tc main_v28) (outs m 15 main_v28 c)).symm
  · exact (left0_rest m c r hr).trans (Function.update_of_ne (StableHlo.devRef_ne_of_ne hr) _ _).symm

theorem enter1 (c : Dev nD) : iprop(StableHlo.held (c : Thread nD τ) (ucRefs τ sig) (mid m c) ∗ ride (F := F) c) ⊢ (rec1 m).pre c := by
  refine (?_ : _ ⊢ _).trans (RegionSeg.ofHeldIn_pre (sub1 (F := F)) c)
  exact sep_mono .rfl .rfl

theorem exit1 (c : Dev nD) : (rec1 m).post c ⊢ iprop(StableHlo.held (c : Thread nD τ) (ucRefs τ sig) (V16 m (outs m) c) ∗ ride (F := F) c) := by
  refine (RegionSeg.ofHeldIn_post (sub1 (F := F)) c).trans (sep_mono ?_ .rfl)
  rw [StableHlo.held_congr (c : Thread nD τ) (S := ucRefs τ sig) (V := afterRegion (pdats m 1 c) (mid m c)) (V' := V16 m (outs m) c) fun b hb => ?_]
  obtain ⟨hb, -⟩ := Finset.mem_filter.mp hb
  obtain ⟨r, -, rfl⟩ := Finset.mem_map.mp hb
  by_cases hr : r = main_v29
  · subst hr
    show _ = V16 m (outs m) c (Proc.devRef .tc main_v29)
    exact (Function.update_self (f := V15 m (outs m) c) (Proc.devRef (τ := τ) .tc main_v29) (outs m 16 main_v29 c)).symm
  · exact (left1_rest m c r hr).trans (Function.update_of_ne (StableHlo.devRef_ne_of_ne hr) _ _).symm

theorem ride_end (c : Dev nD) : ride (F := F) c ⊢ (iprop(∃ W, owes (c : Thread nD τ) (0 : CellTallies nD τ sig Unit) W) : sProp 𝕄) := by
  unfold ride
  iintro ⟨H, -⟩
  iexact H

set_option backward.isDefEq.respectTransparency.types false in
/-- The run: every buffer of the core ends at the last valuation, every counter at zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = V17 m (outs m) c (Proc.devRef .tc b)) ∧ r.2.sem = fun _ => 0) := by
  refine Pipeline.θ_run_regions_kit_dev_sems (pcfgs (F := F)) adm (pdats m) () cellOf_inj emb₁ defs₀ Variants.none levels level m ρ main
    (segs m (outs m) Variants.none levels level (fun _ => ride) () (pdats m) (rec0 m) (rec1 m))
    (fun c Q => by
      rewrite [main_chain c, Seg.run_eq_chain,
        show (segs m (outs m) Variants.none levels level (fun _ => ride) () (pdats m) (rec0 m) (rec1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (O₀ := 0) (hL := fun g h => if_neg h) (G := fun _ => iprop(emp)) (u₀ := initOf (Pipeline.cells cfgs cellOf_inj) (Pipeline.launchToks cfgs cellOf_inj)) (hu₀ := ?_)
    (T₀ := fun c => iprop(StableHlo.held (c : Thread nD τ) (Pipeline.ucRefs τ sig) (V0 m c) ∗ ride c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, enter0 m c, (exit0 m c).trans (enter1 m c), exit1 m c, sep_mono .rfl (ride_end c)⟩)
    (hinit := ?_) (QY := fun c s => ∀ b ∈ ucRefs τ sig, s.mem ((c : Thread nD τ).1, b) = V17 m (outs m) c b)
    (hfin := fun c s' => ?_) (hQ := fun _ h hz => ⟨fun c r hr => h c (Proc.devRef .tc r) (Pipeline.devRef_mem_ucRefs hr), funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach levels level fun c => ?_
    rw [show unscopedBufs c (fun b => m ((c.tc : Thread nD τ).loc b)) = StableHlo.held (c.tc : Thread nD τ) (ucRefs τ sig) (V0 m c)
        from Pipeline.unscopedBufs_held (Ix := Unit) (Name := ℕ) (U := UR sig nD τ) (Lvl := ℕ) c (V0 m c)]
    unfold ride
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (ucRefs τ sig) (fun b => ((c : Thread nD τ).1, b)) (V17 m (outs m) c) s') $$ [Hh HSI]
    · isplitl [Hh] <;> iassumption
    imodintro; iexact Hr

/-- The frame: every argument ends as launched, every counter at zero. -/
theorem frame_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (run_main m ρ).mono fun r ⟨h, hz⟩ => ⟨fun c => ⟨(h c main_arg0 rfl).trans (V17_main_arg0 m (outs m) c),
    (h c main_arg1 rfl).trans (V17_main_arg1 m (outs m) c),
    (h c main_arg2 rfl).trans (V17_main_arg2 m (outs m) c),
    (h c main_arg3 rfl).trans (V17_main_arg3 m (outs m) c),
    (h c main_arg4 rfl).trans (V17_main_arg4 m (outs m) c),
    (h c main_arg5 rfl).trans (V17_main_arg5 m (outs m) c),
    (h c main_arg6 rfl).trans (V17_main_arg6 m (outs m) c),
    (h c main_arg7 rfl).trans (V17_main_arg7 m (outs m) c),
    (h c main_arg8 rfl).trans (V17_main_arg8 m (outs m) c),
    (h c main_arg9 rfl).trans (V17_main_arg9 m (outs m) c),
    (h c main_arg10 rfl).trans (V17_main_arg10 m (outs m) c),
    (h c main_arg11 rfl).trans (V17_main_arg11 m (outs m) c),
    (h c main_arg12 rfl).trans (V17_main_arg12 m (outs m) c),
    (h c main_arg13 rfl).trans (V17_main_arg13 m (outs m) c)⟩, hz⟩

end Cert.KernelIdeal.Body

end
-- ==== Proof.Same.lean ====
/- The kernel and its idealization are the same program text, so what is proved of one at every float type holds of the other. -/
module

public import proofs.«01_k».proof.Proof.KernelIdeal.Run
public import proofs.«01_k».proof.Proof.Gen.Kernel

@[expose] public section

set_option maxRecDepth 100000
set_option maxHeartbeats 0

noncomputable section

namespace Cert.Same

open Idealize.ShloMosaic Idealize.SL.Sem Idealize.ShloMosaic.TcCoe

variable {F : FTy → Type} [FloatOps F]

theorem main_eq : Cert.Kernel.main (F := F) = Cert.KernelIdeal.main (F := F) := rfl

/-- The two calls' bodies. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => exact funext fun ⟨t, s⟩ => rfl
  | 1 => exact funext fun ⟨t, s⟩ => rfl

theorem defs_eq : Cert.Kernel.defs (F := F) = Cert.KernelIdeal.defs (F := F) :=
  congrArg (Pipeline.defs (Cert.KernelIdeal.pcfgs (F := F))) bodies_eq

/-- A run of the idealization is a run of the kernel. -/
theorem run_of (m : (ℓ : Loc Cert.KernelIdeal.nD Cert.KernelIdeal.τ Cert.KernelIdeal.sig) → Buf (Elt F) ℓ) (ρ : Dev Cert.KernelIdeal.nD → PrngReg)
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq]
  exact main_eq (F := F) ▸ h

end Cert.Same
-- ==== Proof.KernelIdeal.Entry.lean ====
/- What the two calls find: the arguments, and what the lines before the calls make of them. -/
module

public import proofs.«01_k».proof.Proof.KernelIdeal.Run
public import Idealize.ShloMosaic.Lib.StableHlo.ReadAt
public import Idealize.ShloMosaic.Lib.Pointwise

@[expose] public section

set_option maxRecDepth 16384

noncomputable section

namespace Cert.KernelIdeal.Body

open Cert.KernelIdeal.Gen
open Idealize.ShloMosaic
open Idealize.ShloMosaic.TcCoe
open Idealize.SL.Sem

variable {F : FTy → Type} [FloatOps F]

variable (m : (ℓ : Loc nD τ sig) → Buf (Elt F) ℓ) (c : Dev nD)

/-! ### The lines before the calls, as terms -/

/-- Each lane over sixteen, rounded down, the division spelled as the program spells it. -/
def lanesBy (lane : IVec S128 32) (d : IVec S_ 32) : IVec S128 32 :=
  let quo : IVec S128 32 := Host.divsi lane (broadcastInDim S128 ![] bcast_S_S128 d)
  let off : IVec S128 1 := andi (cmpi .ne (signi lane) (broadcastInDim S128 ![] bcast_S_S128 (signi d)))
    (cmpi .ne (Host.remsi lane (broadcastInDim S128 ![] bcast_S_S128 d)) (broadcastInDim S128 ![] bcast_S_S128 (constantI S_ 32 0#32)))
  select off (subi quo (broadcastInDim S128 ![] bcast_S_S128 (constantI S_ 32 1#32))) quo

def lane16 : IVec S128 32 := lanesBy (iotaInDim S128 32 0) (constantI S_ 32 16#32)

/-- Which lanes a row keeps: the sixteen of its adapter. -/
def mask (ids : IVec S7680 32) : FVec F S7680x128 .f32 :=
  uitofp .f32 (cmpi .eq
    (broadcastInDim S7680x128 ![0, 1] bcast_S7680x1_S7680x128_0_1 (broadcastInDim S7680x1 ![0] bcast_S7680_S7680x1_0
      (shapeCast S7680 (broadcastInDim S7680x1 ![0] bcast_S7680_S7680x1_0 ids) shapeCasts_S7680x1_S7680)))
    (broadcastInDim S7680x128 ![0, 1] bcast_S1x128_S7680x128_0_1 (broadcastInDim S1x128 ![1] bcast_S128_S1x128_1 lane16)))
/-- The mask twice side by side. -/
def mask2 (ids : IVec S7680 32) : FVec F S7680x256 .f32 :=
  concatenate S7680x256 1 [⟨S7680x128, mask ids⟩, ⟨S7680x128, mask ids⟩] concatenates_S7680x128_S7680x128_S7680x256_d1

/-- The first factors of all adapters side by side, padded with zeros to 128 lanes, -/
def flatA0 (a : FVec F S7x6144x16 .bf16) : FVec F S6144x128 .bf16 :=
  pad S6144x128 ![0, 0] ![0, 16] ![0, 0] (shapeCast S6144x112 (transpose S6144x7x16 [1, 0, 2] a transposes_S7x6144x16_S6144x7x16_1_0_2) shapeCasts_S6144x7x16_S6144x112)
    (sitofp .bf16 (constantI S_ 32 0#32)) pads_S6144x112_S6144x128_000_0160 h_S_
def flatA1 (a : FVec F S7x16384x16 .bf16) : FVec F S16384x128 .bf16 :=
  pad S16384x128 ![0, 0] ![0, 16] ![0, 0] (shapeCast S16384x112 (transpose S16384x7x16 [1, 0, 2] a transposes_S7x16384x16_S16384x7x16_1_0_2) shapeCasts_S16384x7x16_S16384x112)
    (sitofp .bf16 (constantI S_ 32 0#32)) pads_S16384x112_S16384x128_000_0160 h_S_
/-- and the second factors, padded with zeros to 128 rows. -/
def flatB0 (b : FVec F S7x16x16384 .bf16) : FVec F S128x16384 .bf16 :=
  pad S128x16384 ![0, 0] ![16, 0] ![0, 0] (shapeCast S112x16384 b shapeCasts_S7x16x16384_S112x16384) (sitofp .bf16 (constantI S_ 32 0#32)) pads_S112x16384_S128x16384_0160_000 h_S_
def flatB1 (b : FVec F S7x16x6144 .bf16) : FVec F S128x6144 .bf16 :=
  pad S128x6144 ![0, 0] ![16, 0] ![0, 0] (shapeCast S112x6144 b shapeCasts_S7x16x6144_S112x6144) (sitofp .bf16 (constantI S_ 32 0#32)) pads_S112x6144_S128x6144_0160_000 h_S_
/-- The gate's and the up projection's first factors side by side. -/
def bothA (a a' : FVec F S7x6144x16 .bf16) : FVec F S6144x256 .bf16 :=
  concatenate S6144x256 1 [⟨S6144x128, flatA0 a⟩, ⟨S6144x128, flatA0 a'⟩] concatenates_S6144x128_S6144x128_S6144x256_d1

/-! ### The arguments -/

theorem arg0_14 : V14 m c (Proc.devRef .tc main_arg0) = m ((c.tc : Thread nD τ).loc main_arg0) :=
  (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem arg1_14 : V14 m c (Proc.devRef .tc main_arg1) = m ((c.tc : Thread nD τ).loc main_arg1) :=
  (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem arg2_14 : V14 m c (Proc.devRef .tc main_arg2) = m ((c.tc : Thread nD τ).loc main_arg2) :=
  (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem arg3_14 : V14 m c (Proc.devRef .tc main_arg3) = m ((c.tc : Thread nD τ).loc main_arg3) :=
  (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
theorem arg4_14 : V14 m c (Proc.devRef .tc main_arg4) = m ((c.tc : Thread nD τ).loc main_arg4) :=
  (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem arg5_14 : V14 m c (Proc.devRef .tc main_arg5) = m ((c.tc : Thread nD τ).loc main_arg5) :=
  (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem arg6_14 : V14 m c (Proc.devRef .tc main_arg6) = m ((c.tc : Thread nD τ).loc main_arg6) :=
  (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem arg7_14 : V14 m c (Proc.devRef .tc main_arg7) = m ((c.tc : Thread nD τ).loc main_arg7) :=
  (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
theorem arg8_14 : V14 m c (Proc.devRef .tc main_arg8) = m ((c.tc : Thread nD τ).loc main_arg8) :=
  (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem arg9_14 : V14 m c (Proc.devRef .tc main_arg9) = m ((c.tc : Thread nD τ).loc main_arg9) :=
  (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
theorem arg10_14 : V14 m c (Proc.devRef .tc main_arg10) = m ((c.tc : Thread nD τ).loc main_arg10) :=
  (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl
theorem arg11_14 : V14 m c (Proc.devRef .tc main_arg11) = m ((c.tc : Thread nD τ).loc main_arg11) :=
  (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl
theorem arg12_14 : V14 m c (Proc.devRef .tc main_arg12) = m ((c.tc : Thread nD τ).loc main_arg12) :=
  (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans <| rfl
theorem arg13_14 : V14 m c (Proc.devRef .tc main_arg13) = m ((c.tc : Thread nD τ).loc main_arg13) :=
  (V14_of m c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans <| rfl

/-! ### The stretches, one by one -/

theorem x_1 : V1 m c (Proc.devRef .tc main_v0) = shapeCast S7680x6144 (m ((c.tc : Thread nD τ).loc main_arg0)) shapeCasts_S7680x1x6144_S7680x6144 := by
  show StableHlo.after hostOps0 (V0 m c) (Proc.devRef .tc main_v0) = _
  after_reads_simp
  try simp -implicitDefEqProofs only [StableHlo.TRef.toBuf, StableHlo.TRef.ofBuf, cast_cast, cast_eq]
  try rw [(rfl : V0 m c (Proc.devRef .tc main_arg0) = m ((c.tc : Thread nD τ).loc main_arg0))]
  try rfl

theorem ids_1 : V1 m c (Proc.devRef .tc main_v2) = shapeCast S7680 (broadcastInDim S7680x1 ![0] bcast_S7680_S7680x1_0 (m ((c.tc : Thread nD τ).loc main_arg7))) shapeCasts_S7680x1_S7680 := by
  show StableHlo.after hostOps0 (V0 m c) (Proc.devRef .tc main_v2) = _
  after_reads_simp
  try simp -implicitDefEqProofs only [StableHlo.TRef.toBuf, StableHlo.TRef.ofBuf, cast_cast, cast_eq]
  try rw [(rfl : V0 m c (Proc.devRef .tc main_arg7) = m ((c.tc : Thread nD τ).loc main_arg7))]
  try rfl

theorem iota_1 : V1 m c (Proc.devRef .tc main_v3) = iotaInDim S128 32 0 := by
  show StableHlo.after hostOps0 (V0 m c) (Proc.devRef .tc main_v3) = _
  after_reads_simp
  try simp -implicitDefEqProofs only [StableHlo.TRef.toBuf, StableHlo.TRef.ofBuf, cast_cast, cast_eq]
  try rw []
  try rfl

theorem sixteen_1 : V1 m c (Proc.devRef .tc main_c) = constantI S_ 32 16#32 := by
  show StableHlo.after hostOps0 (V0 m c) (Proc.devRef .tc main_c) = _
  after_reads_simp
  try simp -implicitDefEqProofs only [StableHlo.TRef.toBuf, StableHlo.TRef.ofBuf, cast_cast, cast_eq]
  try rw []
  try rfl

theorem lanes_read (V : Valuation τ sig (Elt F)) : StableHlo.after hostOps0_1 V (Proc.devRef .tc main_v4) = lanesBy (V (Proc.devRef .tc main_v3)) (V (Proc.devRef .tc main_c)) := by
  after_reads_simp
  simp -implicitDefEqProofs only [StableHlo.TRef.toBuf, StableHlo.TRef.ofBuf, cast_cast, cast_eq]
  simp only [id_eq]
  unfold lanesBy
  with_reducible rfl

theorem lane16_2 : V2 m c (Proc.devRef .tc main_v4) = lane16 :=
  (lanes_read (V1 m c)).trans (congr (congrArg lanesBy (iota_1 m c)) (sixteen_1 m c))

theorem ids_2 : V2 m c (Proc.devRef .tc main_v2) = shapeCast S7680 (broadcastInDim S7680x1 ![0] bcast_S7680_S7680x1_0 (m ((c.tc : Thread nD τ).loc main_arg7))) shapeCasts_S7680x1_S7680 :=
  (V2_of m c main_v2 (by decide)).trans <| ids_1 m c

theorem mask_3 : V3 m c (Proc.devRef .tc main_v10) = mask (m ((c.tc : Thread nD τ).loc main_arg7)) := by
  show StableHlo.after hostOps0_2 (V2 m c) (Proc.devRef .tc main_v10) = _
  after_reads_simp
  try simp -implicitDefEqProofs only [StableHlo.TRef.toBuf, StableHlo.TRef.ofBuf, cast_cast, cast_eq]
  try rw [ids_2 m c, lane16_2 m c]
  try rfl

theorem mask2_3 : V3 m c (Proc.devRef .tc main_v11) = mask2 (m ((c.tc : Thread nD τ).loc main_arg7)) := by
  show StableHlo.after hostOps0_2 (V2 m c) (Proc.devRef .tc main_v11) = _
  have e1 := ids_2 m c
  have e2 := lane16_2 m c
  generalize V2 m c = V at e1 e2 ⊢
  have h : StableHlo.upto hostOps0_2 V 6 (Proc.devRef .tc main_v10) = mask (m ((c.tc : Thread nD τ).loc main_arg7)) := by
    after_reads_simp
    try simp -implicitDefEqProofs only [StableHlo.TRef.toBuf, StableHlo.TRef.ofBuf, cast_cast, cast_eq]
    rw [e1, e2]
    rfl
  after_reads_simp
  try simp -implicitDefEqProofs only [StableHlo.TRef.toBuf, StableHlo.TRef.ofBuf, cast_cast, cast_eq]
  rw [h]
  rfl

theorem ag_3 : V3 m c (Proc.devRef .tc main_v13) = shapeCast S6144x112 (transpose S6144x7x16 [1, 0, 2] (m ((c.tc : Thread nD τ).loc main_arg8)) transposes_S7x6144x16_S6144x7x16_1_0_2) shapeCasts_S6144x7x16_S6144x112 := by
  show StableHlo.after hostOps0_2 (V2 m c) (Proc.devRef .tc main_v13) = _
  after_reads_simp
  try simp -implicitDefEqProofs only [StableHlo.TRef.toBuf, StableHlo.TRef.ofBuf, cast_cast, cast_eq]
  try rw [((V2_of m c main_arg8 (by decide)).trans <| (V1_of m c main_arg8 (by decide)).trans <| rfl : V2 m c (Proc.devRef .tc main_arg8) = m ((c.tc : Thread nD τ).loc main_arg8))]
  try rfl

theorem agz_3 : V3 m c (Proc.devRef .tc main_c_0) = constantI S_ 32 0#32 := by
  show StableHlo.after hostOps0_2 (V2 m c) (Proc.devRef .tc main_c_0) = _
  after_reads_simp
  try simp -implicitDefEqProofs only [StableHlo.TRef.toBuf, StableHlo.TRef.ofBuf, cast_cast, cast_eq]
  try rw []
  try rfl

theorem ag_4 : V4 m c (Proc.devRef .tc main_v14) = flatA0 (m ((c.tc : Thread nD τ).loc main_arg8)) := by
  show StableHlo.after hostOps0_3 (V3 m c) (Proc.devRef .tc main_v14) = _
  after_reads_simp
  try simp -implicitDefEqProofs only [StableHlo.TRef.toBuf, StableHlo.TRef.ofBuf, cast_cast, cast_eq]
  try rw [ag_3 m c, agz_3 m c]
  try rfl

theorem au_5 : V5 m c (Proc.devRef .tc main_v16) = shapeCast S6144x112 (transpose S6144x7x16 [1, 0, 2] (m ((c.tc : Thread nD τ).loc main_arg10)) transposes_S7x6144x16_S6144x7x16_1_0_2) shapeCasts_S6144x7x16_S6144x112 := by
  show StableHlo.after hostOps0_4 (V4 m c) (Proc.devRef .tc main_v16) = _
  after_reads_simp
  try simp -implicitDefEqProofs only [StableHlo.TRef.toBuf, StableHlo.TRef.ofBuf, cast_cast, cast_eq]
  try rw [((V4_of m c main_arg10 (by decide)).trans <| (V3_of m c main_arg10 (by decide)).trans <| (V2_of m c main_arg10 (by decide)).trans <| (V1_of m c main_arg10 (by decide)).trans <| rfl : V4 m c (Proc.devRef .tc main_arg10) = m ((c.tc : Thread nD τ).loc main_arg10))]
  try rfl

theorem auz_5 : V5 m c (Proc.devRef .tc main_c_1) = constantI S_ 32 0#32 := by
  show StableHlo.after hostOps0_4 (V4 m c) (Proc.devRef .tc main_c_1) = _
  after_reads_simp
  try simp -implicitDefEqProofs only [StableHlo.TRef.toBuf, StableHlo.TRef.ofBuf, cast_cast, cast_eq]
  try rw []
  try rfl

theorem au_6 : V6 m c (Proc.devRef .tc main_v17) = flatA0 (m ((c.tc : Thread nD τ).loc main_arg10)) := by
  show StableHlo.after hostOps0_5 (V5 m c) (Proc.devRef .tc main_v17) = _
  after_reads_simp
  try simp -implicitDefEqProofs only [StableHlo.TRef.toBuf, StableHlo.TRef.ofBuf, cast_cast, cast_eq]
  try rw [au_5 m c, auz_5 m c]
  try rfl

theorem ag_6 : V6 m c (Proc.devRef .tc main_v14) = flatA0 (m ((c.tc : Thread nD τ).loc main_arg8)) :=
  (V6_of m c main_v14 (by decide)).trans <| (V5_of m c main_v14 (by decide)).trans <| ag_4 m c

theorem both_7 : V7 m c (Proc.devRef .tc main_v18) = bothA (m ((c.tc : Thread nD τ).loc main_arg8)) (m ((c.tc : Thread nD τ).loc main_arg10)) := by
  show StableHlo.after hostOps0_6 (V6 m c) (Proc.devRef .tc main_v18) = _
  after_reads_simp
  try simp -implicitDefEqProofs only [StableHlo.TRef.toBuf, StableHlo.TRef.ofBuf, cast_cast, cast_eq]
  try rw [ag_6 m c, au_6 m c]
  try rfl

theorem bg_7 : V7 m c (Proc.devRef .tc main_v19) = shapeCast S112x16384 (m ((c.tc : Thread nD τ).loc main_arg9)) shapeCasts_S7x16x16384_S112x16384 := by
  show StableHlo.after hostOps0_6 (V6 m c) (Proc.devRef .tc main_v19) = _
  after_reads_simp
  try simp -implicitDefEqProofs only [StableHlo.TRef.toBuf, StableHlo.TRef.ofBuf, cast_cast, cast_eq]
  try rw [((V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl : V6 m c (Proc.devRef .tc main_arg9) = m ((c.tc : Thread nD τ).loc main_arg9))]
  try rfl

theorem bgz_7 : V7 m c (Proc.devRef .tc main_c_2) = constantI S_ 32 0#32 := by
  show StableHlo.after hostOps0_6 (V6 m c) (Proc.devRef .tc main_c_2) = _
  after_reads_simp
  try simp -implicitDefEqProofs only [StableHlo.TRef.toBuf, StableHlo.TRef.ofBuf, cast_cast, cast_eq]
  try rw []
  try rfl

theorem bg_8 : V8 m c (Proc.devRef .tc main_v20) = flatB0 (m ((c.tc : Thread nD τ).loc main_arg9)) := by
  show StableHlo.after hostOps0_7 (V7 m c) (Proc.devRef .tc main_v20) = _
  after_reads_simp
  try simp -implicitDefEqProofs only [StableHlo.TRef.toBuf, StableHlo.TRef.ofBuf, cast_cast, cast_eq]
  try rw [bg_7 m c, bgz_7 m c]
  try rfl

theorem bu_9 : V9 m c (Proc.devRef .tc main_v21) = shapeCast S112x16384 (m ((c.tc : Thread nD τ).loc main_arg11)) shapeCasts_S7x16x16384_S112x16384 := by
  show StableHlo.after hostOps0_8 (V8 m c) (Proc.devRef .tc main_v21) = _
  after_reads_simp
  try simp -implicitDefEqProofs only [StableHlo.TRef.toBuf, StableHlo.TRef.ofBuf, cast_cast, cast_eq]
  try rw [((V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl : V8 m c (Proc.devRef .tc main_arg11) = m ((c.tc : Thread nD τ).loc main_arg11))]
  try rfl

theorem buz_9 : V9 m c (Proc.devRef .tc main_c_3) = constantI S_ 32 0#32 := by
  show StableHlo.after hostOps0_8 (V8 m c) (Proc.devRef .tc main_c_3) = _
  after_reads_simp
  try simp -implicitDefEqProofs only [StableHlo.TRef.toBuf, StableHlo.TRef.ofBuf, cast_cast, cast_eq]
  try rw []
  try rfl

theorem bu_10 : V10 m c (Proc.devRef .tc main_v22) = flatB0 (m ((c.tc : Thread nD τ).loc main_arg11)) := by
  show StableHlo.after hostOps0_9 (V9 m c) (Proc.devRef .tc main_v22) = _
  after_reads_simp
  try simp -implicitDefEqProofs only [StableHlo.TRef.toBuf, StableHlo.TRef.ofBuf, cast_cast, cast_eq]
  try rw [bu_9 m c, buz_9 m c]
  try rfl

theorem bd_11 : V11 m c (Proc.devRef .tc main_v23) = shapeCast S112x6144 (m ((c.tc : Thread nD τ).loc main_arg13)) shapeCasts_S7x16x6144_S112x6144 := by
  show StableHlo.after hostOps0_10 (V10 m c) (Proc.devRef .tc main_v23) = _
  after_reads_simp
  try simp -implicitDefEqProofs only [StableHlo.TRef.toBuf, StableHlo.TRef.ofBuf, cast_cast, cast_eq]
  try rw [((V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans <| rfl : V10 m c (Proc.devRef .tc main_arg13) = m ((c.tc : Thread nD τ).loc main_arg13))]
  try rfl

theorem bdz_11 : V11 m c (Proc.devRef .tc main_c_4) = constantI S_ 32 0#32 := by
  show StableHlo.after hostOps0_10 (V10 m c) (Proc.devRef .tc main_c_4) = _
  after_reads_simp
  try simp -implicitDefEqProofs only [StableHlo.TRef.toBuf, StableHlo.TRef.ofBuf, cast_cast, cast_eq]
  try rw []
  try rfl

theorem bd_12 : V12 m c (Proc.devRef .tc main_v24) = flatB1 (m ((c.tc : Thread nD τ).loc main_arg13)) := by
  show StableHlo.after hostOps0_11 (V11 m c) (Proc.devRef .tc main_v24) = _
  after_reads_simp
  try simp -implicitDefEqProofs only [StableHlo.TRef.toBuf, StableHlo.TRef.ofBuf, cast_cast, cast_eq]
  try rw [bd_11 m c, bdz_11 m c]
  try rfl

theorem ad_13 : V13 m c (Proc.devRef .tc main_v26) = shapeCast S16384x112 (transpose S16384x7x16 [1, 0, 2] (m ((c.tc : Thread nD τ).loc main_arg12)) transposes_S7x16384x16_S16384x7x16_1_0_2) shapeCasts_S16384x7x16_S16384x112 := by
  show StableHlo.after hostOps0_12 (V12 m c) (Proc.devRef .tc main_v26) = _
  after_reads_simp
  try simp -implicitDefEqProofs only [StableHlo.TRef.toBuf, StableHlo.TRef.ofBuf, cast_cast, cast_eq]
  try rw [((V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans <| rfl : V12 m c (Proc.devRef .tc main_arg12) = m ((c.tc : Thread nD τ).loc main_arg12))]
  try rfl

theorem adz_13 : V13 m c (Proc.devRef .tc main_c_5) = constantI S_ 32 0#32 := by
  show StableHlo.after hostOps0_12 (V12 m c) (Proc.devRef .tc main_c_5) = _
  after_reads_simp
  try simp -implicitDefEqProofs only [StableHlo.TRef.toBuf, StableHlo.TRef.ofBuf, cast_cast, cast_eq]
  try rw []
  try rfl

theorem ad_14 : V14 m c (Proc.devRef .tc main_v27) = flatA1 (m ((c.tc : Thread nD τ).loc main_arg12)) := by
  show StableHlo.after hostOps0_13 (V13 m c) (Proc.devRef .tc main_v27) = _
  after_reads_simp
  try simp -implicitDefEqProofs only [StableHlo.TRef.toBuf, StableHlo.TRef.ofBuf, cast_cast, cast_eq]
  try rw [ad_13 m c, adz_13 m c]
  try rfl

/-! ### What the calls find -/

theorem x_14 : V14 m c (Proc.devRef .tc main_v0) = shapeCast S7680x6144 (m ((c.tc : Thread nD τ).loc main_arg0)) shapeCasts_S7680x1x6144_S7680x6144 :=
  (V14_of m c main_v0 (by decide)).trans <| (V13_of m c main_v0 (by decide)).trans <| (V12_of m c main_v0 (by decide)).trans <| (V11_of m c main_v0 (by decide)).trans <| (V10_of m c main_v0 (by decide)).trans <| (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide)).trans <| x_1 m c

theorem mask_14 : V14 m c (Proc.devRef .tc main_v10) = mask (m ((c.tc : Thread nD τ).loc main_arg7)) :=
  (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide)).trans <| (V8_of m c main_v10 (by decide)).trans <| (V7_of m c main_v10 (by decide)).trans <| (V6_of m c main_v10 (by decide)).trans <| (V5_of m c main_v10 (by decide)).trans <| (V4_of m c main_v10 (by decide)).trans <| mask_3 m c

theorem mask2_14 : V14 m c (Proc.devRef .tc main_v11) = mask2 (m ((c.tc : Thread nD τ).loc main_arg7)) :=
  (V14_of m c main_v11 (by decide)).trans <| (V13_of m c main_v11 (by decide)).trans <| (V12_of m c main_v11 (by decide)).trans <| (V11_of m c main_v11 (by decide)).trans <| (V10_of m c main_v11 (by decide)).trans <| (V9_of m c main_v11 (by decide)).trans <| (V8_of m c main_v11 (by decide)).trans <| (V7_of m c main_v11 (by decide)).trans <| (V6_of m c main_v11 (by decide)).trans <| (V5_of m c main_v11 (by decide)).trans <| (V4_of m c main_v11 (by decide)).trans <| mask2_3 m c

theorem both_14 : V14 m c (Proc.devRef .tc main_v18) = bothA (m ((c.tc : Thread nD τ).loc main_arg8)) (m ((c.tc : Thread nD τ).loc main_arg10)) :=
  (V14_of m c main_v18 (by decide)).trans <| (V13_of m c main_v18 (by decide)).trans <| (V12_of m c main_v18 (by decide)).trans <| (V11_of m c main_v18 (by decide)).trans <| (V10_of m c main_v18 (by decide)).trans <| (V9_of m c main_v18 (by decide)).trans <| (V8_of m c main_v18 (by decide)).trans <| both_7 m c

theorem bg_14 : V14 m c (Proc.devRef .tc main_v20) = flatB0 (m ((c.tc : Thread nD τ).loc main_arg9)) :=
  (V14_of m c main_v20 (by decide)).trans <| (V13_of m c main_v20 (by decide)).trans <| (V12_of m c main_v20 (by decide)).trans <| (V11_of m c main_v20 (by decide)).trans <| (V10_of m c main_v20 (by decide)).trans <| (V9_of m c main_v20 (by decide)).trans <| bg_8 m c

theorem bu_14 : V14 m c (Proc.devRef .tc main_v22) = flatB0 (m ((c.tc : Thread nD τ).loc main_arg11)) :=
  (V14_of m c main_v22 (by decide)).trans <| (V13_of m c main_v22 (by decide)).trans <| (V12_of m c main_v22 (by decide)).trans <| (V11_of m c main_v22 (by decide)).trans <| bu_10 m c

theorem bd_14 : V14 m c (Proc.devRef .tc main_v24) = flatB1 (m ((c.tc : Thread nD τ).loc main_arg13)) :=
  (V14_of m c main_v24 (by decide)).trans <| (V13_of m c main_v24 (by decide)).trans <| bd_12 m c

end Cert.KernelIdeal.Body
-- ==== Proof.KernelIdeal.Math.lean ====
/- The arithmetic the two programs share: a packed weight's two readings, the sums' orders, the adapters' lanes. -/
module

public import Idealize.ShloMosaic.PureOps.Ideal
public import Idealize.ShloMosaic.Lib.IdealHost
public import Idealize.ShloMosaic.Lib.Pointwise

@[expose] public section

noncomputable section

namespace Cert.Math

open Idealize.ShloMosaic

/-! ### The constants -/

theorem two_f32 : Ideal.ofBits .f32 0x40000000#32 = ((2 : ℝ) : EReal) := by
  simp [Ideal.ofBits, Ideal.ieee, -EReal.coe_mul]; norm_num
theorem two_bf16 : Ideal.ofBits .bf16 0x4000#16 = ((2 : ℝ) : EReal) := by
  simp [Ideal.ofBits, Ideal.ieee, -EReal.coe_mul]; norm_num
theorem eight_f32 : Ideal.ofBits .f32 0x41000000#32 = ((8 : ℝ) : EReal) := by
  simp [Ideal.ofBits, Ideal.ieee, -EReal.coe_mul]; norm_num
theorem sixteenth_f32 : Ideal.ofBits .f32 0x3D800000#32 = (((1 : ℝ) / 16 : ℝ) : EReal) := by
  simp [Ideal.ofBits, Ideal.ieee, -EReal.coe_mul]; norm_num

/-! ### One weight

The kernel holds a nibble in the upper half of a byte, its top bit flipped: as a signed byte that is sixteen times the nibble less eight,
and the kernel multiplies by a sixteenth of the scale. -/

/-- The low nibble as the kernel's byte, -/
def codeLow (b : BitVec 8) : BitVec 8 := (b <<< 4) ^^^ 0x80#8
/-- and the high nibble. -/
def codeHigh (b : BitVec 8) : BitVec 8 := (b &&& 0xF0#8) ^^^ 0x80#8

theorem codeLow_toInt : ∀ b : BitVec 8, (codeLow b).toInt = 16 * (IntOp.andi (BitVec.setWidth 32 b) 15#32).toInt - 128 := by decide +kernel
theorem codeHigh_toInt : ∀ b : BitVec 8, (codeHigh b).toInt = 16 * (IntOp.shrsi ArithUnit.host (BitVec.setWidth 32 b) 4#32).toInt - 128 := by decide +kernel

/-- Sixteen times a number times a sixteenth of the scale. -/
theorem sixteenth (c n : ℤ) (s : EReal) (h : c = 16 * n - 128) :
    (((c : ℝ)) : EReal) * (s * Ideal.ofBits .f32 0x3D800000#32) = (((n : ℝ) : EReal) - Ideal.ofBits .f32 0x41000000#32) * s := by
  rw [sixteenth_f32, eight_f32, mul_comm s, ← mul_assoc, ← EReal.coe_mul, ← EReal.coe_sub, h]
  congr 2
  push_cast
  ring

theorem low_eq (b : BitVec 8) (s : EReal) :
    (((codeLow b).toInt : ℝ) : EReal) * (s * Ideal.ofBits .f32 0x3D800000#32)
      = ((((IntOp.andi (BitVec.setWidth 32 b) 15#32).toInt : ℝ) : EReal) - Ideal.ofBits .f32 0x41000000#32) * s :=
  sixteenth _ _ _ (codeLow_toInt b)
theorem high_eq (b : BitVec 8) (s : EReal) :
    (((codeHigh b).toInt : ℝ) : EReal) * (s * Ideal.ofBits .f32 0x3D800000#32)
      = ((((IntOp.shrsi ArithUnit.host (BitVec.setWidth 32 b) 4#32).toInt : ℝ) : EReal) - Ideal.ofBits .f32 0x41000000#32) * s :=
  sixteenth _ _ _ (codeHigh_toInt b)

/-- The kernel's weight of column `k`: groups of 32 columns share 16 bytes, whose low nibbles are the first 16 columns. -/
def weightAt {D H G : ℕ} (hH : H = G * 16) (hD : D = G * 32) (Q : Fin H → BitVec 8) (S : Fin G → EReal) (k : Fin D) : EReal :=
  let b : BitVec 8 := Q ⟨k.val / 32 * 16 + k.val % 16, by have := k.isLt; omega⟩
  ((((if k.val % 32 < 16 then codeLow b else codeHigh b).toInt : ℝ)) : EReal) * (S ⟨k.val / 32, by have := k.isLt; omega⟩ * Ideal.ofBits .f32 0x3D800000#32)

/-! ### Orders of summation -/

/-- A sum over blocks of equal length. -/
theorem sum_blocks {N B K : ℕ} (h : N = B * K) (f : Fin N → EReal) :
    ∑ k, f k = ∑ b : Fin B, ∑ k : Fin K, f ⟨b.val * K + k.val, by
      have h1 : b.val + 1 ≤ B := b.isLt
      have h2 := Nat.mul_le_mul_right K h1
      have h3 := k.isLt
      rw [h]; rw [Nat.add_mul, Nat.one_mul] at h2; omega⟩ := by
  subst h
  rw [← Fintype.sum_prod_type', ← Equiv.sum_comp finProdFinEquiv]
  refine Finset.sum_congr rfl fun p _ => congrArg f (Fin.ext ?_)
  show p.2.val + K * p.1.val = p.1.val * K + p.2.val
  rw [Nat.add_comm, Nat.mul_comm]

/-- A sum over groups of 32 as the sum of the groups' first halves and the sum of their second halves. -/
theorem sum_halves {N G : ℕ} (h : N = G * 32) (f : Fin N → EReal) :
    ∑ k, f k = (∑ g : Fin G, ∑ i : Fin 16, f ⟨g.val * 32 + i.val, by have := g.isLt; have := i.isLt; omega⟩)
      + ∑ g : Fin G, ∑ i : Fin 16, f ⟨g.val * 32 + 16 + i.val, by have := g.isLt; have := i.isLt; omega⟩ := by
  rw [sum_blocks h f, ← Finset.sum_add_distrib]
  refine Finset.sum_congr rfl fun g _ => ?_
  rw [show (∑ k : Fin 32, f ⟨g.val * 32 + k.val, _⟩) = _ from Fin.sum_univ_add (a := 16) (b := 16) fun k => f ⟨g.val * 32 + k.val, by have := g.isLt; have := k.isLt; omega⟩]
  refine congrArg₂ (· + ·) rfl (Finset.sum_congr rfl fun i _ => congrArg f (Fin.ext ?_))
  show g.val * 32 + (16 + i.val) = g.val * 32 + 16 + i.val
  omega

/-- A sum over 128 lanes of which the last 16 hold nothing, as seven adapters of rank 16. -/
theorem sum_lanes (f : Fin 128 → EReal) (h : ∀ l, 112 ≤ l.val → f l = 0) :
    ∑ l, f l = ∑ r : Fin 7, ∑ i : Fin 16, f ⟨r.val * 16 + i.val, by have := r.isLt; have := i.isLt; omega⟩ := by
  rw [sum_blocks (B := 8) (K := 16) rfl f, Fin.sum_univ_castSucc (n := 7)]
  rw [show (∑ k : Fin 16, f ⟨(Fin.last 7).val * 16 + k.val, _⟩) = 0 from Finset.sum_eq_zero fun i _ => h _ (by show 112 ≤ 7 * 16 + i.val; omega), add_zero]
  rfl

/-- The kernel's quantised product is the reference's. -/
theorem product {D H G : ℕ} (hH : H = G * 16) (hD : D = G * 32) (X : Fin D → EReal) (Q : Fin H → BitVec 8) (S : Fin G → EReal) :
    ∑ k, X k * weightAt hH hD Q S k
      = (∑ g : Fin G, ∑ i : Fin 16, X ⟨g.val * 32 + i.val, by have := g.isLt; have := i.isLt; omega⟩
          * (((((IntOp.andi (BitVec.setWidth 32 (Q ⟨g.val * 16 + i.val, by have := g.isLt; have := i.isLt; omega⟩)) 15#32).toInt : ℝ) : EReal)
              - Ideal.ofBits .f32 0x41000000#32) * S g))
        + ∑ g : Fin G, ∑ i : Fin 16, X ⟨g.val * 32 + 16 + i.val, by have := g.isLt; have := i.isLt; omega⟩
          * (((((IntOp.shrsi ArithUnit.host (BitVec.setWidth 32 (Q ⟨g.val * 16 + i.val, by have := g.isLt; have := i.isLt; omega⟩)) 4#32).toInt : ℝ) : EReal)
              - Ideal.ofBits .f32 0x41000000#32) * S g) := by
  rw [sum_halves hD]
  refine congrArg₂ (· + ·) ?_ ?_
  · refine Finset.sum_congr rfl fun g _ => Finset.sum_congr rfl fun i _ => congrArg (X _ * ·) ?_
    have h1 : (⟨(g.val * 32 + i.val) / 32 * 16 + (g.val * 32 + i.val) % 16, by have := g.isLt; have := i.isLt; omega⟩ : Fin H) = ⟨g.val * 16 + i.val, by have := g.isLt; have := i.isLt; omega⟩ :=
      Fin.ext (by have := i.isLt; show (g.val * 32 + i.val) / 32 * 16 + (g.val * 32 + i.val) % 16 = g.val * 16 + i.val; omega)
    have h2 : (⟨(g.val * 32 + i.val) / 32, by have := g.isLt; have := i.isLt; omega⟩ : Fin G) = g :=
      Fin.ext (by have := i.isLt; show (g.val * 32 + i.val) / 32 = g.val; omega)
    have h3 : (g.val * 32 + i.val) % 32 < 16 := by have := i.isLt; omega
    unfold weightAt
    simp only [h1, h2, h3, if_true]
    exact low_eq _ _
  · refine Finset.sum_congr rfl fun g _ => Finset.sum_congr rfl fun i _ => congrArg (X _ * ·) ?_
    have h1 : (⟨(g.val * 32 + 16 + i.val) / 32 * 16 + (g.val * 32 + 16 + i.val) % 16, by have := g.isLt; have := i.isLt; omega⟩ : Fin H) = ⟨g.val * 16 + i.val, by have := g.isLt; have := i.isLt; omega⟩ :=
      Fin.ext (by have := i.isLt; show (g.val * 32 + 16 + i.val) / 32 * 16 + (g.val * 32 + 16 + i.val) % 16 = g.val * 16 + i.val; omega)
    have h2 : (⟨(g.val * 32 + 16 + i.val) / 32, by have := g.isLt; have := i.isLt; omega⟩ : Fin G) = g :=
      Fin.ext (by have := i.isLt; show (g.val * 32 + 16 + i.val) / 32 = g.val; omega)
    have h3 : ¬ (g.val * 32 + 16 + i.val) % 32 < 16 := by have := i.isLt; omega
    unfold weightAt
    simp only [h1, h2, h3, if_false]
    exact high_eq _ _

/-- Twice a sum over adapters and ranks, the factor moved inside. -/
theorem twice (t b : Fin 7 → Fin 16 → EReal) :
    (∑ r, ∑ i, t r i * Ideal.ofBits .bf16 0x4000#16 * b r i) = Ideal.ofBits .f32 0x40000000#32 * ∑ r, ∑ i, t r i * b r i := by
  have hd : ∀ {ι : Type} (s : Finset ι) (f : ι → EReal), ((2 : ℝ) : EReal) * ∑ k ∈ s, f k = ∑ k ∈ s, ((2 : ℝ) : EReal) * f k := by
    intro ι s f
    classical
    induction s using Finset.induction_on with
    | empty => simp
    | insert a s ha ih =>
      rw [Finset.sum_insert ha, Finset.sum_insert ha, ← ih]
      exact EReal.left_distrib_of_nonneg_of_ne_top (by exact_mod_cast (by norm_num : (0 : ℝ) ≤ 2)) (EReal.coe_ne_top 2) _ _
  rw [two_f32, two_bf16, hd]
  refine Finset.sum_congr rfl fun r _ => ?_
  rw [hd]
  refine Finset.sum_congr rfl fun i _ => ?_
  rw [mul_comm (t r i), mul_assoc]

end Cert.Math
-- ==== Proof.KernelIdeal.Spec.lean ====
/- What one element of each result is, written once for both programs. -/
module

public import proofs.«01_k».proof.Proof.KernelIdeal.Math

@[expose] public section

noncomputable section

namespace Cert.Math

open Idealize.ShloMosaic

/-- The sum against the weights of one row. -/
def proj {D H G : ℕ} (hH : H = G * 16) (hD : D = G * 32) (X : Fin D → EReal) (Q : Fin H → BitVec 8) (S : Fin G → EReal) : EReal :=
  ∑ k, X k * weightAt hH hD Q S k

/-- Twice the adapters' product. -/
def adapter {D : ℕ} (X : Fin D → EReal) (o : Fin 7 → EReal) (A : Fin 7 → Fin D → Fin 16 → EReal) (B : Fin 7 → Fin 16 → EReal) : EReal :=
  Ideal.ofBits .f32 0x40000000#32 * ∑ r, ∑ i, (∑ k, X k * A r k i) * o r * B r i

/-- The activation. -/
def gate (g u : EReal) : EReal := g * Ideal.logistic g * u

/-- Whether a row takes an adapter, as a number. -/
def hot (id : BitVec 32) (r : ℕ) : EReal := FloatOps.uitofp (F := Ideal) .f32 (IntOp.cmpi .eq id (BitVec.ofNat 32 r))

/-- One element of the hidden activation. -/
def hiddenAt (X : Fin 6144 → EReal) (gq uq : Fin 3072 → BitVec 8) (gs us : Fin 192 → EReal) (o : Fin 7 → EReal)
    (ag au : Fin 7 → Fin 6144 → Fin 16 → EReal) (bg bu : Fin 7 → Fin 16 → EReal) : EReal :=
  gate (proj (G := 192) rfl rfl X gq gs + adapter X o ag bg) (proj (G := 192) rfl rfl X uq us + adapter X o au bu)

/-- One element of the result. -/
def resultAt (X : Fin 16384 → EReal) (dq : Fin 8192 → BitVec 8) (ds : Fin 512 → EReal) (o : Fin 7 → EReal)
    (ad : Fin 7 → Fin 16384 → Fin 16 → EReal) (bd : Fin 7 → Fin 16 → EReal) : EReal :=
  proj (G := 512) rfl rfl X dq ds + adapter X o ad bd

/-- The adapters' product as the kernel sums it: over 128 lanes, sixteen for each adapter, the last sixteen zero. -/
theorem adapter_lanes {D : ℕ} (X : Fin D → EReal) (o : Fin 7 → EReal) (A : Fin 7 → Fin D → Fin 16 → EReal) (B : Fin 7 → Fin 16 → EReal)
    (T L : Fin 128 → EReal)
    (hT : ∀ (r : Fin 7) (i : Fin 16), T ⟨r.val * 16 + i.val, by have := r.isLt; have := i.isLt; omega⟩ = (∑ k, X k * A r k i) * o r * Ideal.ofBits .bf16 0x4000#16)
    (hL : ∀ (r : Fin 7) (i : Fin 16), L ⟨r.val * 16 + i.val, by have := r.isLt; have := i.isLt; omega⟩ = B r i)
    (hz : ∀ l : Fin 128, 112 ≤ l.val → L l = 0) :
    ∑ l, T l * L l = adapter X o A B := by
  rw [sum_lanes _ fun l hl => by rw [hz l hl, mul_zero]]
  unfold adapter
  rw [← twice (fun r i => (∑ k, X k * A r k i) * o r) B]
  exact Finset.sum_congr rfl fun r _ => Finset.sum_congr rfl fun i _ => congrArg₂ (· * ·) (hT r i) (hL r i)

/-- A weight of one block of columns is the row's own. -/
theorem weightAt_block (Q : Fin 8192 → BitVec 8) (S : Fin 512 → EReal) (b : Fin 4) (k : Fin 4096) :
    weightAt (D := 4096) (H := 2048) (G := 128) rfl rfl (fun x => Q ⟨b.val * 2048 + x.val, by have := b.isLt; have := x.isLt; omega⟩) (fun g => S ⟨b.val * 128 + g.val, by have := b.isLt; have := g.isLt; omega⟩) k
      = weightAt (D := 16384) (H := 8192) (G := 512) rfl rfl Q S ⟨b.val * 4096 + k.val, by have := b.isLt; have := k.isLt; omega⟩ := by
  have hb := b.isLt
  have hk := k.isLt
  have e1 : (b.val * 4096 + k.val) % 32 = k.val % 32 := by omega
  have e2 : (⟨b.val * 2048 + (k.val / 32 * 16 + k.val % 16), by omega⟩ : Fin 8192) = ⟨(b.val * 4096 + k.val) / 32 * 16 + (b.val * 4096 + k.val) % 16, by omega⟩ :=
    Fin.ext (by show b.val * 2048 + (k.val / 32 * 16 + k.val % 16) = (b.val * 4096 + k.val) / 32 * 16 + (b.val * 4096 + k.val) % 16; omega)
  have e3 : (⟨b.val * 128 + k.val / 32, by omega⟩ : Fin 512) = ⟨(b.val * 4096 + k.val) / 32, by omega⟩ :=
    Fin.ext (by show b.val * 128 + k.val / 32 = (b.val * 4096 + k.val) / 32; omega)
  unfold weightAt
  dsimp only
  rw [e1, e2, e3]

end Cert.Math
-- ==== Proof.KernelIdeal.Elems.lean ====
/- Elements of what the lines before the calls make of the arguments. -/
module

public import proofs.«01_k».proof.Proof.KernelIdeal.Entry
public import proofs.«01_k».proof.Proof.KernelIdeal.Spec
public import Idealize.ShloMosaic.PureOps.Ideal
public import Idealize.ShloMosaic.Lib.Pointwise

@[expose] public section

set_option maxRecDepth 16384

noncomputable section

namespace Cert.KernelIdeal.Body

open Cert.KernelIdeal.Gen
open Idealize.ShloMosaic

variable {F : FTy → Type} [FloatOps F]

theorem lane16_at (l : Fin 128) : lane16 (ix1 l) = BitVec.ofNat 32 (l.val / 16) := by
  pointwise [lane16, lanesBy]
  revert l
  decide +kernel

/-- The mask at one of an adapter's lanes: whether the row takes that adapter. -/
theorem mask_at (ids : IVec S7680 32) (row : Fin 7680) (r : Fin 7) (i : Fin 16) (l : Fin 128) (hl : l.val = r.val * 16 + i.val) :
    mask (F := Ideal) ids (ix2 row l) = Math.hot (ids (ix1 row)) r.val := by
  pointwise [mask]
  show FloatOps.uitofp .f32 (IntOp.cmpi .eq (ids (ix1 row)) (lane16 (ix1 l))) = _
  rw [lane16_at]
  have := i.isLt
  rw [show l.val / 16 = r.val by omega]
  rfl

theorem mask2_left (ids : IVec S7680 32) (row : Fin 7680) (l : Fin 128) (l' : Fin 256) (h : l'.val = l.val) :
    mask2 (F := Ideal) ids (ix2 row l') = mask (F := Ideal) ids (ix2 row l) := by
  have h0 : l'.val < 128 := by have := l.isLt; omega
  have h1 : (⟨l'.val, h0⟩ : Fin 128) = l := Fin.ext h
  pointwise [mask2]
  rw [dif_pos h0, h1]

theorem mask2_right (ids : IVec S7680 32) (row : Fin 7680) (l : Fin 128) (l' : Fin 256) (h : l'.val = 128 + l.val) :
    mask2 (F := Ideal) ids (ix2 row l') = mask (F := Ideal) ids (ix2 row l) := by
  have h0 : ¬ l'.val < 128 := by omega
  have h1 : (⟨l'.val - 128, by have := l'.isLt; omega⟩ : Fin 128) = l := Fin.ext (by show l'.val - 128 = l.val; omega)
  pointwise [mask2]
  rw [dif_neg h0, h1]

/-- Zero as the padding spells it. -/
theorem zero_pad : FloatOps.sitofp (F := Ideal) .bf16 (0#32) = (0 : EReal) := by
  show (((0#32).toInt : ℝ) : EReal) = 0
  simp

theorem flatA0_at (a : FVec Ideal S7x6144x16 .bf16) (k : Fin 6144) (r : Fin 7) (i : Fin 16) (l : Fin 128) (hl : l.val = r.val * 16 + i.val) :
    flatA0 a (ix2 k l) = a (ix3 r k i) := by
  have hi := i.isLt
  have hr := r.isLt
  have h0 : l.val < 112 := by omega
  have h1 : (⟨l.val / 16, by omega⟩ : Fin 7) = r := Fin.ext (by show l.val / 16 = r.val; omega)
  have h2 : (⟨l.val % 16, by omega⟩ : Fin 16) = i := Fin.ext (by show l.val % 16 = i.val; omega)
  pointwise [flatA0]
  rw [dif_pos h0, h1, h2]

theorem flatA1_at (a : FVec Ideal S7x16384x16 .bf16) (k : Fin 16384) (r : Fin 7) (i : Fin 16) (l : Fin 128) (hl : l.val = r.val * 16 + i.val) :
    flatA1 a (ix2 k l) = a (ix3 r k i) := by
  have hi := i.isLt
  have hr := r.isLt
  have h0 : l.val < 112 := by omega
  have h1 : (⟨l.val / 16, by omega⟩ : Fin 7) = r := Fin.ext (by show l.val / 16 = r.val; omega)
  have h2 : (⟨l.val % 16, by omega⟩ : Fin 16) = i := Fin.ext (by show l.val % 16 = i.val; omega)
  pointwise [flatA1]
  rw [dif_pos h0, h1, h2]

theorem flatB0_at (b : FVec Ideal S7x16x16384 .bf16) (n : Fin 16384) (r : Fin 7) (i : Fin 16) (l : Fin 128) (hl : l.val = r.val * 16 + i.val) :
    flatB0 b (ix2 l n) = b (ix3 r i n) := by
  have hi := i.isLt
  have hr := r.isLt
  have h0 : l.val < 112 := by omega
  have h1 : (⟨l.val / 16, by omega⟩ : Fin 7) = r := Fin.ext (by show l.val / 16 = r.val; omega)
  have h2 : (⟨l.val % 16, by omega⟩ : Fin 16) = i := Fin.ext (by show l.val % 16 = i.val; omega)
  pointwise [flatB0]
  rw [dif_pos h0, h1, h2]

theorem flatB0_zero (b : FVec Ideal S7x16x16384 .bf16) (n : Fin 16384) (l : Fin 128) (hl : 112 ≤ l.val) : flatB0 b (ix2 l n) = (0 : EReal) := by
  have h0 : ¬ l.val < 112 := by omega
  pointwise [flatB0]
  rw [dif_neg h0]
  exact zero_pad

theorem flatB1_at (b : FVec Ideal S7x16x6144 .bf16) (n : Fin 6144) (r : Fin 7) (i : Fin 16) (l : Fin 128) (hl : l.val = r.val * 16 + i.val) :
    flatB1 b (ix2 l n) = b (ix3 r i n) := by
  have hi := i.isLt
  have hr := r.isLt
  have h0 : l.val < 112 := by omega
  have h1 : (⟨l.val / 16, by omega⟩ : Fin 7) = r := Fin.ext (by show l.val / 16 = r.val; omega)
  have h2 : (⟨l.val % 16, by omega⟩ : Fin 16) = i := Fin.ext (by show l.val % 16 = i.val; omega)
  pointwise [flatB1]
  rw [dif_pos h0, h1, h2]

theorem flatB1_zero (b : FVec Ideal S7x16x6144 .bf16) (n : Fin 6144) (l : Fin 128) (hl : 112 ≤ l.val) : flatB1 b (ix2 l n) = (0 : EReal) := by
  have h0 : ¬ l.val < 112 := by omega
  pointwise [flatB1]
  rw [dif_neg h0]
  exact zero_pad

theorem bothA_left (a a' : FVec Ideal S7x6144x16 .bf16) (k : Fin 6144) (l : Fin 128) (l' : Fin 256) (h : l'.val = l.val) :
    bothA a a' (ix2 k l') = flatA0 a (ix2 k l) := by
  have h0 : l'.val < 128 := by have := l.isLt; omega
  have h1 : (⟨l'.val, h0⟩ : Fin 128) = l := Fin.ext h
  pointwise [bothA]
  rw [dif_pos h0, h1]

theorem bothA_right (a a' : FVec Ideal S7x6144x16 .bf16) (k : Fin 6144) (l : Fin 128) (l' : Fin 256) (h : l'.val = 128 + l.val) :
    bothA a a' (ix2 k l') = flatA0 a' (ix2 k l) := by
  have h0 : ¬ l'.val < 128 := by omega
  have h1 : (⟨l'.val - 128, by have := l'.isLt; omega⟩ : Fin 128) = l := Fin.ext (by show l'.val - 128 = l.val; omega)
  pointwise [bothA]
  rw [dif_neg h0, h1]

/-- The reshaped activation at an element. -/
theorem x_at (x : FVec Ideal S7680x1x6144 .bf16) (row : Fin 7680) (k : Fin 6144) :
    shapeCast S7680x6144 x shapeCasts_S7680x1x6144_S7680x6144 (ix2 row k) = x (ix3 row 0 k) := by
  pointwise []

end Cert.KernelIdeal.Body
-- ==== Proof.KernelIdeal.Code.lean ====
/- A half chunk of a dequantised weight at an element: the code of the lane's packed byte times the scale of its group. -/
module

public import proofs.«01_k».proof.Proof.KernelIdeal.Chunk
public import proofs.«01_k».proof.Proof.KernelIdeal.Math
public import Idealize.ShloMosaic.Lib.BitcastFour
public import Idealize.ShloMosaic.Lib.Pointwise

@[expose] public section

set_option maxRecDepth 16384

noncomputable section

namespace Cert.KernelIdeal.Body

open Cert.KernelIdeal.Gen
open Idealize.ShloMosaic

variable {F : FTy → Type} [FloatOps F]

/-- One byte of a word through the shift, the mask and the flip of the top bits: the word shifted by four, -/
theorem byte_low (w : BitVec 32) (b : BitVec 8) (ρ : Fin 4) (h : ∀ q : Fin 8, w.getLsbD (8 * ρ.val + q.val) = b.getLsbD q.val) (i : Fin 8) :
    (IntOp.xori (IntOp.andi (IntOp.shli .vector w 4#32) 4042322160#32) 2155905152#32).getLsbD (8 * ρ.val + i.val) = (Math.codeLow b).getLsbD i.val := by
  have h0 := h 0
  have h1 := h 1
  have h2 := h 2
  have h3 := h 3
  clear h
  fin_cases ρ <;> fin_cases i <;> simp_all [IntOp.xori, IntOp.andi, IntOp.shli, Math.codeLow]
/-- and the word as it is. -/
theorem byte_high (w : BitVec 32) (b : BitVec 8) (ρ : Fin 4) (h : ∀ q : Fin 8, w.getLsbD (8 * ρ.val + q.val) = b.getLsbD q.val) (i : Fin 8) :
    (IntOp.xori (IntOp.andi (IntOp.shli .vector w 0#32) 4042322160#32) 2155905152#32).getLsbD (8 * ρ.val + i.val) = (Math.codeHigh b).getLsbD i.val := by
  have h0 := h 4
  have h1 := h 5
  have h2 := h 6
  have h3 := h 7
  clear h
  fin_cases ρ <;> fin_cases i <;> simp_all [IntOp.xori, IntOp.andi, IntOp.shli, Math.codeHigh]

/-! ### 256 rows -/

/-- The lane whose word a lane takes. -/
theorem src0_at (H : Fin 2) (r : Fin 64) (l : Fin 128) :
    (src0 (BitVec.ofNat 32 (64 * H.val)) (ix2 r l)).toNat % 128 = 64 * H.val + 16 * (l.val / 32) + l.val % 16 := by
  rw [show src0 (BitVec.ofNat 32 (64 * H.val)) (ix2 r l) = src0 (BitVec.ofNat 32 (64 * H.val)) (ix2 0 l) from rfl]
  revert H l
  decide +kernel
/-- Whether a lane holds a low or a high nibble. -/
theorem shift0_at (r : Fin 64) (l : Fin 128) : shift0 (ix2 r l) = if l.val % 32 < 16 then 4#32 else 0#32 := by
  rw [show shift0 (ix2 r l) = shift0 (ix2 0 l) from rfl]
  revert l
  decide +kernel
/-- The lane whose scale a lane takes. -/
theorem grp0_at (g : Fin 32) (r : Fin 256) (l : Fin 128) :
    (grp0 (BitVec.ofNat 32 (4 * g.val)) (ix2 r l)).toNat % 128 = 4 * g.val + l.val / 32 := by
  rw [show grp0 (BitVec.ofNat 32 (4 * g.val)) (ix2 r l) = grp0 (BitVec.ofNat 32 (4 * g.val)) (ix2 0 l) from rfl]
  revert g l
  decide +kernel

/-- Rows four at a time share a word: byte `ρ` of the word of row `r / 4`, where `ρ = r % 4`, is row `r`'s. -/
theorem word0_at (q : IVec S256x128 8) (r : Fin 256) (l : Fin 128) (x : Fin 8) :
    (bitcast S64x128 32 q bitcasts_S256x128_w8_S64x128_w32 (ix2 ⟨r.val / 4, by have := r.isLt; omega⟩ l)).getLsbD (8 * (r.val % 4) + x.val) = (q (ix2 r l)).getLsbD x.val := by
  rw [ix2_eq_valueIdx, ix2_eq_valueIdx, bitcast_8_32_getLsbD_ix2 q bitcasts_S256x128_w8_S64x128_w32 _ l _ (by have := x.isLt; omega) r
    (by have := x.isLt; show r.val = 4 * (r.val / 4) + (8 * (r.val % 4) + x.val) / 8; omega)]
  rw [show (8 * (r.val % 4) + x.val) % 8 = x.val from by have := x.isLt; omega]

theorem bytes0_at (w : IVec S64x128 32) (r : Fin 256) (l : Fin 128) (x : Nat) (hx : x < 8) :
    (bitcast S256x128 8 w bitcasts_S64x128_w32_S256x128_w8 (ix2 r l)).getLsbD x = (w (ix2 ⟨r.val / 4, by have := r.isLt; omega⟩ l)).getLsbD (8 * (r.val % 4) + x) := by
  have hr : S256x128.row (ix2 r l) = r.val := rfl
  rw [bitcast_getLsbD _ _ _ _ hx (by decide)]
  have e : (S256x128.row (ix2 r l) * 8 + x) / 32 = r.val / 4 := by rw [hr]; omega
  have e' : (S256x128.row (ix2 r l) * 8 + x) % 32 = 8 * (r.val % 4) + x := by rw [hr]; omega
  rw [e']
  congr 2
  funext c
  match c with
  | ⟨0, _⟩ => exact Fin.ext ((Shape.Bitcasts.srcIdx_row _ _ _ _ ⟨0, Nat.zero_lt_two⟩ rfl).trans e)
  | ⟨1, _⟩ => exact Fin.ext (Shape.Bitcasts.srcIdx_other _ _ _ _ ⟨1, Nat.one_lt_two⟩ (by show ¬ 1 + 2 = 2; omega))

/-- A lane's code, from its packed byte. -/
theorem code0_at (H : Fin 2) (q : Vec F S256x128 .i8) (r : Fin 256) (l : Fin 128) :
    code0 (F := F) (BitVec.ofNat 32 (64 * H.val)) q (ix2 r l)
      = if l.val % 32 < 16 then Math.codeLow (q (ix2 r ⟨64 * H.val + 16 * (l.val / 32) + l.val % 16, by have := H.isLt; have := l.isLt; omega⟩))
        else Math.codeHigh (q (ix2 r ⟨64 * H.val + 16 * (l.val / 32) + l.val % 16, by have := H.isLt; have := l.isLt; omega⟩)) := by
  apply BitVec.eq_of_getLsbD_eq
  intro i hi
  unfold code0
  rw [bytes0_at _ r l i hi]
  have hw : dynamicGather 1 (bitcast S64x128 32 q bitcasts_S256x128_w8_S64x128_w32)
      (shapeCast S64x128 (shapeCast S64x128x1 (src0 (BitVec.ofNat 32 (64 * H.val))) shapeCasts_S64x128_S64x128x1) shapeCasts_S64x128x1_S64x128) (ix2 ⟨r.val / 4, by have := r.isLt; omega⟩ l)
      = bitcast S64x128 32 q bitcasts_S256x128_w8_S64x128_w32 (ix2 ⟨r.val / 4, by have := r.isLt; omega⟩ ⟨64 * H.val + 16 * (l.val / 32) + l.val % 16, by have := H.isLt; have := l.isLt; omega⟩) := by
    rw [dynamicGather_apply]
    refine congrArg _ ?_
    funext b
    match b with
    | ⟨0, _⟩ => rfl
    | ⟨1, _⟩ =>
      refine Fin.ext ?_
      show (shapeCast S64x128 (shapeCast S64x128x1 (src0 (BitVec.ofNat 32 (64 * H.val))) shapeCasts_S64x128_S64x128x1) shapeCasts_S64x128x1_S64x128 (ix2 ⟨r.val / 4, _⟩ l)).toNat % 128 = _
      refine Eq.trans ?_ (src0_at H ⟨r.val / 4, by have := r.isLt; omega⟩ l)
      refine congrArg (fun z : BitVec 32 => z.toNat % 128) ?_
      pointwise
  have hb := fun x : Fin 8 => word0_at q r ⟨64 * H.val + 16 * (l.val / 32) + l.val % 16, by have := H.isLt; have := l.isLt; omega⟩ x
  rw [← hw] at hb
  refine (show _ = (IntOp.xori (IntOp.andi (IntOp.shli .vector (dynamicGather 1 (bitcast S64x128 32 q bitcasts_S256x128_w8_S64x128_w32)
      (shapeCast S64x128 (shapeCast S64x128x1 (src0 (BitVec.ofNat 32 (64 * H.val))) shapeCasts_S64x128_S64x128x1) shapeCasts_S64x128x1_S64x128) (ix2 ⟨r.val / 4, by have := r.isLt; omega⟩ l))
      (shift0 (ix2 ⟨r.val / 4, by have := r.isLt; omega⟩ l))) 4042322160#32) 2155905152#32).getLsbD (8 * (r.val % 4) + i) from rfl).trans ?_
  rw [shift0_at]
  by_cases hl : l.val % 32 < 16
  · simp only [if_pos hl]
    exact byte_low _ _ ⟨r.val % 4, by omega⟩ hb ⟨i, hi⟩
  · simp only [if_neg hl]
    exact byte_high _ _ ⟨r.val % 4, by omega⟩ hb ⟨i, hi⟩

/-- Half a chunk at an element: the lane's code times the scale of its group. -/
theorem chunk0_at (H : Fin 2) (g : Fin 32) (q : Vec Ideal S256x128 .i8) (s : FVec Ideal S256x128 .f32) (r : Fin 256) (l : Fin 128) :
    chunk0 (BitVec.ofNat 32 (64 * H.val)) (BitVec.ofNat 32 (4 * g.val)) q s (ix2 r l)
      = ((((if l.val % 32 < 16 then Math.codeLow (q (ix2 r ⟨64 * H.val + 16 * (l.val / 32) + l.val % 16, by have := H.isLt; have := l.isLt; omega⟩))
            else Math.codeHigh (q (ix2 r ⟨64 * H.val + 16 * (l.val / 32) + l.val % 16, by have := H.isLt; have := l.isLt; omega⟩))).toInt : ℝ)) : EReal)
        * s (ix2 r ⟨4 * g.val + l.val / 32, by have := g.isLt; have := l.isLt; omega⟩) := by
  have hs : dynamicGather 1 s (shapeCast S256x128 (shapeCast S256x128x1 (grp0 (BitVec.ofNat 32 (4 * g.val))) shapeCasts_S256x128_S256x128x1) shapeCasts_S256x128x1_S256x128) (ix2 r l)
      = s (ix2 r ⟨4 * g.val + l.val / 32, by have := g.isLt; have := l.isLt; omega⟩) := by
    rw [dynamicGather_apply]
    refine congrArg _ ?_
    funext b
    match b with
    | ⟨0, _⟩ => rfl
    | ⟨1, _⟩ =>
      refine Fin.ext ?_
      show (shapeCast S256x128 (shapeCast S256x128x1 (grp0 (BitVec.ofNat 32 (4 * g.val))) shapeCasts_S256x128_S256x128x1) shapeCasts_S256x128x1_S256x128 (ix2 r l)).toNat % 128 = _
      refine Eq.trans ?_ (grp0_at g r l)
      refine congrArg (fun z : BitVec 32 => z.toNat % 128) ?_
      pointwise
  rw [← hs, ← code0_at H q r l]
  unfold chunk0
  rw [shapeCast_self]
  rfl

/-! ### 512 rows -/

/-- The lane whose word a lane takes. -/
theorem src1_at (H : Fin 2) (r : Fin 128) (l : Fin 128) :
    (src1 (BitVec.ofNat 32 (64 * H.val)) (ix2 r l)).toNat % 128 = 64 * H.val + 16 * (l.val / 32) + l.val % 16 := by
  rw [show src1 (BitVec.ofNat 32 (64 * H.val)) (ix2 r l) = src1 (BitVec.ofNat 32 (64 * H.val)) (ix2 0 l) from rfl]
  revert H l
  decide +kernel
/-- Whether a lane holds a low or a high nibble. -/
theorem shift1_at (r : Fin 128) (l : Fin 128) : shift1 (ix2 r l) = if l.val % 32 < 16 then 4#32 else 0#32 := by
  rw [show shift1 (ix2 r l) = shift1 (ix2 0 l) from rfl]
  revert l
  decide +kernel
/-- The lane whose scale a lane takes. -/
theorem grp1_at (g : Fin 32) (r : Fin 512) (l : Fin 128) :
    (grp1 (BitVec.ofNat 32 (4 * g.val)) (ix2 r l)).toNat % 128 = 4 * g.val + l.val / 32 := by
  rw [show grp1 (BitVec.ofNat 32 (4 * g.val)) (ix2 r l) = grp1 (BitVec.ofNat 32 (4 * g.val)) (ix2 0 l) from rfl]
  revert g l
  decide +kernel

/-- Rows four at a time share a word: byte `ρ` of the word of row `r / 4`, where `ρ = r % 4`, is row `r`'s. -/
theorem word1_at (q : IVec S512x128 8) (r : Fin 512) (l : Fin 128) (x : Fin 8) :
    (bitcast S128x128 32 q bitcasts_S512x128_w8_S128x128_w32 (ix2 ⟨r.val / 4, by have := r.isLt; omega⟩ l)).getLsbD (8 * (r.val % 4) + x.val) = (q (ix2 r l)).getLsbD x.val := by
  rw [ix2_eq_valueIdx, ix2_eq_valueIdx, bitcast_8_32_getLsbD_ix2 q bitcasts_S512x128_w8_S128x128_w32 _ l _ (by have := x.isLt; omega) r
    (by have := x.isLt; show r.val = 4 * (r.val / 4) + (8 * (r.val % 4) + x.val) / 8; omega)]
  rw [show (8 * (r.val % 4) + x.val) % 8 = x.val from by have := x.isLt; omega]

theorem bytes1_at (w : IVec S128x128 32) (r : Fin 512) (l : Fin 128) (x : Nat) (hx : x < 8) :
    (bitcast S512x128 8 w bitcasts_S128x128_w32_S512x128_w8 (ix2 r l)).getLsbD x = (w (ix2 ⟨r.val / 4, by have := r.isLt; omega⟩ l)).getLsbD (8 * (r.val % 4) + x) := by
  have hr : S512x128.row (ix2 r l) = r.val := rfl
  rw [bitcast_getLsbD _ _ _ _ hx (by decide)]
  have e : (S512x128.row (ix2 r l) * 8 + x) / 32 = r.val / 4 := by rw [hr]; omega
  have e' : (S512x128.row (ix2 r l) * 8 + x) % 32 = 8 * (r.val % 4) + x := by rw [hr]; omega
  rw [e']
  congr 2
  funext c
  match c with
  | ⟨0, _⟩ => exact Fin.ext ((Shape.Bitcasts.srcIdx_row _ _ _ _ ⟨0, Nat.zero_lt_two⟩ rfl).trans e)
  | ⟨1, _⟩ => exact Fin.ext (Shape.Bitcasts.srcIdx_other _ _ _ _ ⟨1, Nat.one_lt_two⟩ (by show ¬ 1 + 2 = 2; omega))

/-- A lane's code, from its packed byte. -/
theorem code1_at (H : Fin 2) (q : Vec F S512x128 .i8) (r : Fin 512) (l : Fin 128) :
    code1 (F := F) (BitVec.ofNat 32 (64 * H.val)) q (ix2 r l)
      = if l.val % 32 < 16 then Math.codeLow (q (ix2 r ⟨64 * H.val + 16 * (l.val / 32) + l.val % 16, by have := H.isLt; have := l.isLt; omega⟩))
        else Math.codeHigh (q (ix2 r ⟨64 * H.val + 16 * (l.val / 32) + l.val % 16, by have := H.isLt; have := l.isLt; omega⟩)) := by
  apply BitVec.eq_of_getLsbD_eq
  intro i hi
  unfold code1
  rw [bytes1_at _ r l i hi]
  have hw : dynamicGather 1 (bitcast S128x128 32 q bitcasts_S512x128_w8_S128x128_w32)
      (shapeCast S128x128 (shapeCast S128x128x1 (src1 (BitVec.ofNat 32 (64 * H.val))) shapeCasts_S128x128_S128x128x1) shapeCasts_S128x128x1_S128x128) (ix2 ⟨r.val / 4, by have := r.isLt; omega⟩ l)
      = bitcast S128x128 32 q bitcasts_S512x128_w8_S128x128_w32 (ix2 ⟨r.val / 4, by have := r.isLt; omega⟩ ⟨64 * H.val + 16 * (l.val / 32) + l.val % 16, by have := H.isLt; have := l.isLt; omega⟩) := by
    rw [dynamicGather_apply]
    refine congrArg _ ?_
    funext b
    match b with
    | ⟨0, _⟩ => rfl
    | ⟨1, _⟩ =>
      refine Fin.ext ?_
      show (shapeCast S128x128 (shapeCast S128x128x1 (src1 (BitVec.ofNat 32 (64 * H.val))) shapeCasts_S128x128_S128x128x1) shapeCasts_S128x128x1_S128x128 (ix2 ⟨r.val / 4, _⟩ l)).toNat % 128 = _
      refine Eq.trans ?_ (src1_at H ⟨r.val / 4, by have := r.isLt; omega⟩ l)
      refine congrArg (fun z : BitVec 32 => z.toNat % 128) ?_
      pointwise
  have hb := fun x : Fin 8 => word1_at q r ⟨64 * H.val + 16 * (l.val / 32) + l.val % 16, by have := H.isLt; have := l.isLt; omega⟩ x
  rw [← hw] at hb
  refine (show _ = (IntOp.xori (IntOp.andi (IntOp.shli .vector (dynamicGather 1 (bitcast S128x128 32 q bitcasts_S512x128_w8_S128x128_w32)
      (shapeCast S128x128 (shapeCast S128x128x1 (src1 (BitVec.ofNat 32 (64 * H.val))) shapeCasts_S128x128_S128x128x1) shapeCasts_S128x128x1_S128x128) (ix2 ⟨r.val / 4, by have := r.isLt; omega⟩ l))
      (shift1 (ix2 ⟨r.val / 4, by have := r.isLt; omega⟩ l))) 4042322160#32) 2155905152#32).getLsbD (8 * (r.val % 4) + i) from rfl).trans ?_
  rw [shift1_at]
  by_cases hl : l.val % 32 < 16
  · simp only [if_pos hl]
    exact byte_low _ _ ⟨r.val % 4, by omega⟩ hb ⟨i, hi⟩
  · simp only [if_neg hl]
    exact byte_high _ _ ⟨r.val % 4, by omega⟩ hb ⟨i, hi⟩

/-- Half a chunk at an element: the lane's code times the scale of its group. -/
theorem chunk1_at (H : Fin 2) (g : Fin 32) (q : Vec Ideal S512x128 .i8) (s : FVec Ideal S512x128 .f32) (r : Fin 512) (l : Fin 128) :
    chunk1 (BitVec.ofNat 32 (64 * H.val)) (BitVec.ofNat 32 (4 * g.val)) q s (ix2 r l)
      = ((((if l.val % 32 < 16 then Math.codeLow (q (ix2 r ⟨64 * H.val + 16 * (l.val / 32) + l.val % 16, by have := H.isLt; have := l.isLt; omega⟩))
            else Math.codeHigh (q (ix2 r ⟨64 * H.val + 16 * (l.val / 32) + l.val % 16, by have := H.isLt; have := l.isLt; omega⟩))).toInt : ℝ)) : EReal)
        * s (ix2 r ⟨4 * g.val + l.val / 32, by have := g.isLt; have := l.isLt; omega⟩) := by
  have hs : dynamicGather 1 s (shapeCast S512x128 (shapeCast S512x128x1 (grp1 (BitVec.ofNat 32 (4 * g.val))) shapeCasts_S512x128_S512x128x1) shapeCasts_S512x128x1_S512x128) (ix2 r l)
      = s (ix2 r ⟨4 * g.val + l.val / 32, by have := g.isLt; have := l.isLt; omega⟩) := by
    rw [dynamicGather_apply]
    refine congrArg _ ?_
    funext b
    match b with
    | ⟨0, _⟩ => rfl
    | ⟨1, _⟩ =>
      refine Fin.ext ?_
      show (shapeCast S512x128 (shapeCast S512x128x1 (grp1 (BitVec.ofNat 32 (4 * g.val))) shapeCasts_S512x128_S512x128x1) shapeCasts_S512x128x1_S512x128 (ix2 r l)).toNat % 128 = _
      refine Eq.trans ?_ (grp1_at g r l)
      refine congrArg (fun z : BitVec 32 => z.toNat % 128) ?_
      pointwise
  rw [← hs, ← code1_at H q r l]
  unfold chunk1
  rw [shapeCast_self]
  rfl

end Cert.KernelIdeal.Body
-- ==== Proof.KernelIdeal.Weight.lean ====
/- A dequantised weight at an element. -/
module

public import proofs.«01_k».proof.Proof.KernelIdeal.Code
public import proofs.«01_k».proof.Proof.KernelIdeal.Pieces

@[expose] public section

set_option maxRecDepth 16384

noncomputable section

namespace Cert.KernelIdeal.Body

open Cert.KernelIdeal.Gen
open Idealize.ShloMosaic

variable {F : FTy → Type} [FloatOps F]

/-! ### 256 rows -/

/-- The scales of a chunk at an element. -/
theorem scales0_at (S : Vec Ideal S256x192 .f16) (c : Fin 24) (h : Fin 2) (r : Fin 256) (a : Fin 4) :
    scales0 S c (ix2 r ⟨4 * ((2 * c.val + h.val) % 32) + a.val, by have := a.isLt; omega⟩)
      = S (ix2 r ⟨8 * c.val + 4 * h.val + a.val, by have := a.isLt; have := c.isLt; have := h.isLt; omega⟩) * Ideal.ofBits .f32 0x3D800000#32 := by
  have ha := a.isLt
  have hh := h.isLt
  have hc := c.isLt
  by_cases h16 : c.val < 16
  · unfold scales0
    rw [if_pos h16]
    pointwise [scale0]
    refine congrArg (fun z => S z * Ideal.ofBits .f32 0x3D800000#32) ?_
    funext b
    match b with
    | ⟨0, _⟩ => exact Fin.ext (by show r.val = r.val; rfl)
    | ⟨1, _⟩ => exact Fin.ext (by show (4 * ((2 * c.val + h.val) % 32) + a.val) = 8 * c.val + 4 * h.val + a.val; omega)
  · unfold scales0
    rw [if_neg h16]
    have hl : 4 * ((2 * c.val + h.val) % 32) + a.val < 64 := by omega
    generalize hx : (⟨4 * ((2 * c.val + h.val) % 32) + a.val, by omega⟩ : Fin 128) = x
    have hx' : x.val = 4 * ((2 * c.val + h.val) % 32) + a.val := by rw [← hx]
    rw [← hx'] at hl
    pointwise [scaleTail, hl]
    refine congrArg (fun z => S z * Ideal.ofBits .f32 0x3D800000#32) ?_
    funext b
    match b with
    | ⟨0, _⟩ => exact Fin.ext (by show r.val = r.val; rfl)
    | ⟨1, _⟩ => exact Fin.ext (by show 128 + x.val = 8 * c.val + 4 * h.val + a.val; omega)

/-- A piece of the weight at an element. -/
theorem piece0_at (X : Vec Ideal S256x3072 .i8) (S : Vec Ideal S256x192 .f16) (c : Fin 24) (h : Fin 2) (r : Fin 256) (l : Fin 128) :
    (piece0 X S c h).2 (ix2 r l)
      = Math.weightAt (D := 6144) (H := 3072) (G := 192) rfl rfl (fun b => X (ix2 r b)) (fun g => S (ix2 r g)) ⟨256 * c.val + 128 * h.val + l.val, by have := c.isLt; have := h.isLt; have := l.isLt; omega⟩ := by
  have hl := l.isLt
  have hh := h.isLt
  have hc := c.isLt
  have hg : (8 * c.val + 4 * h.val) % 128 = 4 * ((2 * c.val + h.val) % 32) := by omega
  have hp : (piece0 X S c h).2 (ix2 r l) = chunk0 (BitVec.ofNat 32 (64 * h.val)) (BitVec.ofNat 32 (4 * ((2 * c.val + h.val) % 32))) (bytes0 X c) (scales0 S c) (ix2 r l) := by
    rw [← hg]; rfl
  rw [hp, chunk0_at h ⟨(2 * c.val + h.val) % 32, by omega⟩, scales0_at S c h r ⟨l.val / 32, by omega⟩]
  have hb : bytes0 X c (ix2 r ⟨64 * h.val + 16 * (l.val / 32) + l.val % 16, by omega⟩) = X (ix2 r ⟨(256 * c.val + 128 * h.val + l.val) / 32 * 16 + (256 * c.val + 128 * h.val + l.val) % 16, by omega⟩) := by
    unfold bytes0
    refine congrArg X ?_
    funext b
    match b with
    | ⟨0, _⟩ => exact Fin.ext (by show 0 + 1 * r.val = r.val; omega)
    | ⟨1, _⟩ => exact Fin.ext (by
        show 128 * c.val + 1 * (64 * h.val + 16 * (l.val / 32) + l.val % 16) = (256 * c.val + 128 * h.val + l.val) / 32 * 16 + (256 * c.val + 128 * h.val + l.val) % 16
        omega)
  rw [hb]
  have e1 : (256 * c.val + 128 * h.val + l.val) % 32 = l.val % 32 := by omega
  have e2 : (⟨8 * c.val + 4 * h.val + l.val / 32, by omega⟩ : Fin 192) = ⟨(256 * c.val + 128 * h.val + l.val) / 32, by omega⟩ := Fin.ext (by show 8 * c.val + 4 * h.val + l.val / 32 = (256 * c.val + 128 * h.val + l.val) / 32; omega)
  unfold Math.weightAt
  dsimp only
  rw [e1, ← e2]

/-- The weight at an element. -/
theorem weight0_at (X : Vec Ideal S256x3072 .i8) (S : Vec Ideal S256x192 .f16) (r : Fin 256) (k : Fin 6144) :
    weight0 X S (ix2 r k) = Math.weightAt (D := 6144) (H := 3072) (G := 192) rfl rfl (fun b => X (ix2 r b)) (fun g => S (ix2 r g)) k := by
  have hk := k.isLt
  have hp : weight0 X S (ix2 r k) = (piece0 X S ⟨k.val / 256, by omega⟩ ⟨k.val / 128 % 2, by omega⟩).2 (lane0 (ix2 r k)) := rfl
  have hl : lane0 (ix2 r k) = ix2 r ⟨k.val % 128, by omega⟩ := by
    funext b
    match b with
    | ⟨0, _⟩ => rfl
    | ⟨1, _⟩ => rfl
  rw [hp, hl, piece0_at]
  refine congrArg _ (Fin.ext ?_)
  show 256 * (k.val / 256) + 128 * (k.val / 128 % 2) + k.val % 128 = k.val
  omega

/-! ### 512 rows -/

/-- The scales of a chunk at an element. -/
theorem scales1_at (S : Vec Ideal S512x128 .f16) (c : Fin 16) (h : Fin 2) (r : Fin 512) (a : Fin 4) :
    scales1 S (ix2 r ⟨4 * ((2 * c.val + h.val) % 32) + a.val, by have := a.isLt; omega⟩)
      = S (ix2 r ⟨8 * c.val + 4 * h.val + a.val, by have := a.isLt; have := c.isLt; have := h.isLt; omega⟩) * Ideal.ofBits .f32 0x3D800000#32 := by
  have ha := a.isLt
  have hh := h.isLt
  have hc := c.isLt
  pointwise [scales1, scale1]
  refine congrArg (fun z => S z * Ideal.ofBits .f32 0x3D800000#32) ?_
  funext b
  match b with
  | ⟨0, _⟩ => exact Fin.ext (by show r.val = r.val; rfl)
  | ⟨1, _⟩ => exact Fin.ext (by show (4 * ((2 * c.val + h.val) % 32) + a.val) = 8 * c.val + 4 * h.val + a.val; omega)

/-- A piece of the weight at an element. -/
theorem piece1_at (X : Vec Ideal S512x2048 .i8) (S : Vec Ideal S512x128 .f16) (c : Fin 16) (h : Fin 2) (r : Fin 512) (l : Fin 128) :
    (piece1 X S c h).2 (ix2 r l)
      = Math.weightAt (D := 4096) (H := 2048) (G := 128) rfl rfl (fun b => X (ix2 r b)) (fun g => S (ix2 r g)) ⟨256 * c.val + 128 * h.val + l.val, by have := c.isLt; have := h.isLt; have := l.isLt; omega⟩ := by
  have hl := l.isLt
  have hh := h.isLt
  have hc := c.isLt
  have hg : (8 * c.val + 4 * h.val) % 128 = 4 * ((2 * c.val + h.val) % 32) := by omega
  have hp : (piece1 X S c h).2 (ix2 r l) = chunk1 (BitVec.ofNat 32 (64 * h.val)) (BitVec.ofNat 32 (4 * ((2 * c.val + h.val) % 32))) (bytes1 X c) (scales1 S) (ix2 r l) := by
    rw [← hg]; rfl
  rw [hp, chunk1_at h ⟨(2 * c.val + h.val) % 32, by omega⟩, scales1_at S c h r ⟨l.val / 32, by omega⟩]
  have hb : bytes1 X c (ix2 r ⟨64 * h.val + 16 * (l.val / 32) + l.val % 16, by omega⟩) = X (ix2 r ⟨(256 * c.val + 128 * h.val + l.val) / 32 * 16 + (256 * c.val + 128 * h.val + l.val) % 16, by omega⟩) := by
    unfold bytes1
    refine congrArg X ?_
    funext b
    match b with
    | ⟨0, _⟩ => exact Fin.ext (by show 0 + 1 * r.val = r.val; omega)
    | ⟨1, _⟩ => exact Fin.ext (by
        show 128 * c.val + 1 * (64 * h.val + 16 * (l.val / 32) + l.val % 16) = (256 * c.val + 128 * h.val + l.val) / 32 * 16 + (256 * c.val + 128 * h.val + l.val) % 16
        omega)
  rw [hb]
  have e1 : (256 * c.val + 128 * h.val + l.val) % 32 = l.val % 32 := by omega
  have e2 : (⟨8 * c.val + 4 * h.val + l.val / 32, by omega⟩ : Fin 128) = ⟨(256 * c.val + 128 * h.val + l.val) / 32, by omega⟩ := Fin.ext (by show 8 * c.val + 4 * h.val + l.val / 32 = (256 * c.val + 128 * h.val + l.val) / 32; omega)
  unfold Math.weightAt
  dsimp only
  rw [e1, ← e2]

/-- The weight at an element. -/
theorem weight1_at (X : Vec Ideal S512x2048 .i8) (S : Vec Ideal S512x128 .f16) (r : Fin 512) (k : Fin 4096) :
    weight1 X S (ix2 r k) = Math.weightAt (D := 4096) (H := 2048) (G := 128) rfl rfl (fun b => X (ix2 r b)) (fun g => S (ix2 r g)) k := by
  have hk := k.isLt
  have hp : weight1 X S (ix2 r k) = (piece1 X S ⟨k.val / 256, by omega⟩ ⟨k.val / 128 % 2, by omega⟩).2 (lane1 (ix2 r k)) := rfl
  have hl : lane1 (ix2 r k) = ix2 r ⟨k.val % 128, by omega⟩ := by
    funext b
    match b with
    | ⟨0, _⟩ => rfl
    | ⟨1, _⟩ => rfl
  rw [hp, hl, piece1_at]
  refine congrArg _ (Fin.ext ?_)
  show 256 * (k.val / 256) + 128 * (k.val / 128 % 2) + k.val % 128 = k.val
  omega

end Cert.KernelIdeal.Body
-- ==== Proof.KernelIdeal.Blocks.lean ====
/- The windows' blocks at an element of their arrays. -/
module

public import proofs.«01_k».proof.Proof.KernelIdeal.Region0
public import proofs.«01_k».proof.Proof.KernelIdeal.Region1
public import Idealize.ShloMosaic.Lib.Pointwise

@[expose] public section

set_option maxRecDepth 16384

noncomputable section

namespace Cert.KernelIdeal.Body

open Cert.KernelIdeal.Gen
open Idealize.ShloMosaic

variable {F : FTy → Type} [FloatOps F]

variable (U : Dev nD → Valuation τ sig (Elt F))

/-! ### Call 0 -/

/-- The printed index maps, decided over the grid. -/
theorem index0 : ∀ t : Fin cfg0.N, win0_0.index t = ![t.val / 64, 0] ∧ win0_1.index t = ![t.val % 64, 0] ∧ win0_2.index t = ![t.val % 64, 0] ∧ win0_3.index t = ![t.val % 64, 0] ∧ win0_4.index t = ![t.val % 64, 0] ∧ win0_5.index t = ![t.val / 64, 0] ∧ win0_6.index t = ![0, 0] ∧ win0_7.index t = ![0, t.val % 64] ∧ win0_8.index t = ![0, t.val % 64] ∧ win0_9.index t = ![t.val / 64, t.val % 64] :=
  (by decide +kernel : ∀ t : Fin grid0.N, _)

/-- Window 0's block at an element. -/
theorem blk0_0 (c : Dev nD) (t : Fin cfg0.N) (r : Fin 960) (k : Fin 6144) (row : Fin 7680) (hrow : row.val = t.val / 64 * 960 + r.val) :
    blk0 U c 0 t (ix2 r k) = U c (Proc.devRef .tc main_v0) (ix2 row k) := by
  show U c (Proc.devRef .tc main_v0) (((cfg0.win 0).blk t).view.emb (ix2 r k)) = _
  refine congrArg _ ?_
  have e := (index0 t).1
  funext a
  match a with
  | ⟨0, _⟩ =>
    refine Fin.ext ?_
    show win0_0.index t (0 : Fin 2) * 960 + 1 * r.val = row.val
    rw [e, hrow]
    simp
  | ⟨1, _⟩ =>
    refine Fin.ext ?_
    show win0_0.index t (1 : Fin 2) * 6144 + 1 * k.val = k.val
    rw [e]
    simp

/-- Window 1's block at an element. -/
theorem blk0_1 (c : Dev nD) (t : Fin cfg0.N) (r : Fin 256) (k : Fin 3072) (row : Fin 16384) (hrow : row.val = t.val % 64 * 256 + r.val) :
    blk0 U c 1 t (ix2 r k) = U c (Proc.devRef .tc main_arg1) (ix2 row k) := by
  show U c (Proc.devRef .tc main_arg1) (((cfg0.win 1).blk t).view.emb (ix2 r k)) = _
  refine congrArg _ ?_
  have e := (index0 t).2.1
  funext a
  match a with
  | ⟨0, _⟩ =>
    refine Fin.ext ?_
    show win0_1.index t (0 : Fin 2) * 256 + 1 * r.val = row.val
    rw [e, hrow]
    simp
  | ⟨1, _⟩ =>
    refine Fin.ext ?_
    show win0_1.index t (1 : Fin 2) * 3072 + 1 * k.val = k.val
    rw [e]
    simp

/-- Window 2's block at an element. -/
theorem blk0_2 (c : Dev nD) (t : Fin cfg0.N) (r : Fin 256) (k : Fin 192) (row : Fin 16384) (hrow : row.val = t.val % 64 * 256 + r.val) :
    blk0 U c 2 t (ix2 r k) = U c (Proc.devRef .tc main_arg2) (ix2 row k) := by
  show U c (Proc.devRef .tc main_arg2) (((cfg0.win 2).blk t).view.emb (ix2 r k)) = _
  refine congrArg _ ?_
  have e := (index0 t).2.2.1
  funext a
  match a with
  | ⟨0, _⟩ =>
    refine Fin.ext ?_
    show win0_2.index t (0 : Fin 2) * 256 + 1 * r.val = row.val
    rw [e, hrow]
    simp
  | ⟨1, _⟩ =>
    refine Fin.ext ?_
    show win0_2.index t (1 : Fin 2) * 192 + 1 * k.val = k.val
    rw [e]
    simp

/-- Window 3's block at an element. -/
theorem blk0_3 (c : Dev nD) (t : Fin cfg0.N) (r : Fin 256) (k : Fin 3072) (row : Fin 16384) (hrow : row.val = t.val % 64 * 256 + r.val) :
    blk0 U c 3 t (ix2 r k) = U c (Proc.devRef .tc main_arg3) (ix2 row k) := by
  show U c (Proc.devRef .tc main_arg3) (((cfg0.win 3).blk t).view.emb (ix2 r k)) = _
  refine congrArg _ ?_
  have e := (index0 t).2.2.2.1
  funext a
  match a with
  | ⟨0, _⟩ =>
    refine Fin.ext ?_
    show win0_3.index t (0 : Fin 2) * 256 + 1 * r.val = row.val
    rw [e, hrow]
    simp
  | ⟨1, _⟩ =>
    refine Fin.ext ?_
    show win0_3.index t (1 : Fin 2) * 3072 + 1 * k.val = k.val
    rw [e]
    simp

/-- Window 4's block at an element. -/
theorem blk0_4 (c : Dev nD) (t : Fin cfg0.N) (r : Fin 256) (k : Fin 192) (row : Fin 16384) (hrow : row.val = t.val % 64 * 256 + r.val) :
    blk0 U c 4 t (ix2 r k) = U c (Proc.devRef .tc main_arg4) (ix2 row k) := by
  show U c (Proc.devRef .tc main_arg4) (((cfg0.win 4).blk t).view.emb (ix2 r k)) = _
  refine congrArg _ ?_
  have e := (index0 t).2.2.2.2.1
  funext a
  match a with
  | ⟨0, _⟩ =>
    refine Fin.ext ?_
    show win0_4.index t (0 : Fin 2) * 256 + 1 * r.val = row.val
    rw [e, hrow]
    simp
  | ⟨1, _⟩ =>
    refine Fin.ext ?_
    show win0_4.index t (1 : Fin 2) * 192 + 1 * k.val = k.val
    rw [e]
    simp

/-- Window 5's block at an element. -/
theorem blk0_5 (c : Dev nD) (t : Fin cfg0.N) (r : Fin 960) (k : Fin 256) (row : Fin 7680) (hrow : row.val = t.val / 64 * 960 + r.val) :
    blk0 U c 5 t (ix2 r k) = U c (Proc.devRef .tc main_v11) (ix2 row k) := by
  show U c (Proc.devRef .tc main_v11) (((cfg0.win 5).blk t).view.emb (ix2 r k)) = _
  refine congrArg _ ?_
  have e := (index0 t).2.2.2.2.2.1
  funext a
  match a with
  | ⟨0, _⟩ =>
    refine Fin.ext ?_
    show win0_5.index t (0 : Fin 2) * 960 + 1 * r.val = row.val
    rw [e, hrow]
    simp
  | ⟨1, _⟩ =>
    refine Fin.ext ?_
    show win0_5.index t (1 : Fin 2) * 256 + 1 * k.val = k.val
    rw [e]
    simp

/-- Window 6's block at an element. -/
theorem blk0_6 (c : Dev nD) (t : Fin cfg0.N) (r : Fin 6144) (k : Fin 256) :
    blk0 U c 6 t (ix2 r k) = U c (Proc.devRef .tc main_v18) (ix2 r k) := by
  show U c (Proc.devRef .tc main_v18) (((cfg0.win 6).blk t).view.emb (ix2 r k)) = _
  refine congrArg _ ?_
  have e := (index0 t).2.2.2.2.2.2.1
  funext a
  match a with
  | ⟨0, _⟩ =>
    refine Fin.ext ?_
    show win0_6.index t (0 : Fin 2) * 6144 + 1 * r.val = r.val
    rw [e]
    simp
  | ⟨1, _⟩ =>
    refine Fin.ext ?_
    show win0_6.index t (1 : Fin 2) * 256 + 1 * k.val = k.val
    rw [e]
    simp

/-- Window 7's block at an element. -/
theorem blk0_7 (c : Dev nD) (t : Fin cfg0.N) (r : Fin 128) (k : Fin 256) (col : Fin 16384) (hcol : col.val = t.val % 64 * 256 + k.val) :
    blk0 U c 7 t (ix2 r k) = U c (Proc.devRef .tc main_v20) (ix2 r col) := by
  show U c (Proc.devRef .tc main_v20) (((cfg0.win 7).blk t).view.emb (ix2 r k)) = _
  refine congrArg _ ?_
  have e := (index0 t).2.2.2.2.2.2.2.1
  funext a
  match a with
  | ⟨0, _⟩ =>
    refine Fin.ext ?_
    show win0_7.index t (0 : Fin 2) * 128 + 1 * r.val = r.val
    rw [e]
    simp
  | ⟨1, _⟩ =>
    refine Fin.ext ?_
    show win0_7.index t (1 : Fin 2) * 256 + 1 * k.val = col.val
    rw [e, hcol]
    simp

/-- Window 8's block at an element. -/
theorem blk0_8 (c : Dev nD) (t : Fin cfg0.N) (r : Fin 128) (k : Fin 256) (col : Fin 16384) (hcol : col.val = t.val % 64 * 256 + k.val) :
    blk0 U c 8 t (ix2 r k) = U c (Proc.devRef .tc main_v22) (ix2 r col) := by
  show U c (Proc.devRef .tc main_v22) (((cfg0.win 8).blk t).view.emb (ix2 r k)) = _
  refine congrArg _ ?_
  have e := (index0 t).2.2.2.2.2.2.2.2.1
  funext a
  match a with
  | ⟨0, _⟩ =>
    refine Fin.ext ?_
    show win0_8.index t (0 : Fin 2) * 128 + 1 * r.val = r.val
    rw [e]
    simp
  | ⟨1, _⟩ =>
    refine Fin.ext ?_
    show win0_8.index t (1 : Fin 2) * 256 + 1 * k.val = col.val
    rw [e, hcol]
    simp

/-! ### Call 1 -/

/-- The printed index maps, decided over the grid. -/
theorem index1 : ∀ t : Fin cfg1.N, win1_0.index t = ![t.val / 48, t.val % 4] ∧ win1_1.index t = ![t.val / 4 % 12, t.val % 4] ∧ win1_2.index t = ![t.val / 4 % 12, t.val % 4] ∧ win1_3.index t = ![t.val / 48, 0] ∧ win1_4.index t = ![t.val % 4, 0] ∧ win1_5.index t = ![0, t.val / 4 % 12] ∧ win1_6.index t = ![t.val / 48, t.val / 4 % 12] :=
  (by decide +kernel : ∀ t : Fin grid1.N, _)

/-- Window 0's block at an element. -/
theorem blk1_0 (c : Dev nD) (t : Fin cfg1.N) (r : Fin 960) (k : Fin 4096) (row : Fin 7680) (hrow : row.val = t.val / 48 * 960 + r.val) (col : Fin 16384) (hcol : col.val = t.val % 4 * 4096 + k.val) :
    blk1 U c 0 t (ix2 r k) = U c (Proc.devRef .tc main_v28) (ix2 row col) := by
  show U c (Proc.devRef .tc main_v28) (((cfg1.win 0).blk t).view.emb (ix2 r k)) = _
  refine congrArg _ ?_
  have e := (index1 t).1
  funext a
  match a with
  | ⟨0, _⟩ =>
    refine Fin.ext ?_
    show win1_0.index t (0 : Fin 2) * 960 + 1 * r.val = row.val
    rw [e, hrow]
    simp
  | ⟨1, _⟩ =>
    refine Fin.ext ?_
    show win1_0.index t (1 : Fin 2) * 4096 + 1 * k.val = col.val
    rw [e, hcol]
    simp

/-- Window 1's block at an element. -/
theorem blk1_1 (c : Dev nD) (t : Fin cfg1.N) (r : Fin 512) (k : Fin 2048) (row : Fin 6144) (hrow : row.val = t.val / 4 % 12 * 512 + r.val) (col : Fin 8192) (hcol : col.val = t.val % 4 * 2048 + k.val) :
    blk1 U c 1 t (ix2 r k) = U c (Proc.devRef .tc main_arg5) (ix2 row col) := by
  show U c (Proc.devRef .tc main_arg5) (((cfg1.win 1).blk t).view.emb (ix2 r k)) = _
  refine congrArg _ ?_
  have e := (index1 t).2.1
  funext a
  match a with
  | ⟨0, _⟩ =>
    refine Fin.ext ?_
    show win1_1.index t (0 : Fin 2) * 512 + 1 * r.val = row.val
    rw [e, hrow]
    simp
  | ⟨1, _⟩ =>
    refine Fin.ext ?_
    show win1_1.index t (1 : Fin 2) * 2048 + 1 * k.val = col.val
    rw [e, hcol]
    simp

/-- Window 2's block at an element. -/
theorem blk1_2 (c : Dev nD) (t : Fin cfg1.N) (r : Fin 512) (k : Fin 128) (row : Fin 6144) (hrow : row.val = t.val / 4 % 12 * 512 + r.val) (col : Fin 512) (hcol : col.val = t.val % 4 * 128 + k.val) :
    blk1 U c 2 t (ix2 r k) = U c (Proc.devRef .tc main_arg6) (ix2 row col) := by
  show U c (Proc.devRef .tc main_arg6) (((cfg1.win 2).blk t).view.emb (ix2 r k)) = _
  refine congrArg _ ?_
  have e := (index1 t).2.2.1
  funext a
  match a with
  | ⟨0, _⟩ =>
    refine Fin.ext ?_
    show win1_2.index t (0 : Fin 2) * 512 + 1 * r.val = row.val
    rw [e, hrow]
    simp
  | ⟨1, _⟩ =>
    refine Fin.ext ?_
    show win1_2.index t (1 : Fin 2) * 128 + 1 * k.val = col.val
    rw [e, hcol]
    simp

/-- Window 3's block at an element. -/
theorem blk1_3 (c : Dev nD) (t : Fin cfg1.N) (r : Fin 960) (k : Fin 128) (row : Fin 7680) (hrow : row.val = t.val / 48 * 960 + r.val) :
    blk1 U c 3 t (ix2 r k) = U c (Proc.devRef .tc main_v10) (ix2 row k) := by
  show U c (Proc.devRef .tc main_v10) (((cfg1.win 3).blk t).view.emb (ix2 r k)) = _
  refine congrArg _ ?_
  have e := (index1 t).2.2.2.1
  funext a
  match a with
  | ⟨0, _⟩ =>
    refine Fin.ext ?_
    show win1_3.index t (0 : Fin 2) * 960 + 1 * r.val = row.val
    rw [e, hrow]
    simp
  | ⟨1, _⟩ =>
    refine Fin.ext ?_
    show win1_3.index t (1 : Fin 2) * 128 + 1 * k.val = k.val
    rw [e]
    simp

/-- Window 4's block at an element. -/
theorem blk1_4 (c : Dev nD) (t : Fin cfg1.N) (r : Fin 4096) (k : Fin 128) (row : Fin 16384) (hrow : row.val = t.val % 4 * 4096 + r.val) :
    blk1 U c 4 t (ix2 r k) = U c (Proc.devRef .tc main_v27) (ix2 row k) := by
  show U c (Proc.devRef .tc main_v27) (((cfg1.win 4).blk t).view.emb (ix2 r k)) = _
  refine congrArg _ ?_
  have e := (index1 t).2.2.2.2.1
  funext a
  match a with
  | ⟨0, _⟩ =>
    refine Fin.ext ?_
    show win1_4.index t (0 : Fin 2) * 4096 + 1 * r.val = row.val
    rw [e, hrow]
    simp
  | ⟨1, _⟩ =>
    refine Fin.ext ?_
    show win1_4.index t (1 : Fin 2) * 128 + 1 * k.val = k.val
    rw [e]
    simp

/-- Window 5's block at an element. -/
theorem blk1_5 (c : Dev nD) (t : Fin cfg1.N) (r : Fin 128) (k : Fin 512) (col : Fin 6144) (hcol : col.val = t.val / 4 % 12 * 512 + k.val) :
    blk1 U c 5 t (ix2 r k) = U c (Proc.devRef .tc main_v24) (ix2 r col) := by
  show U c (Proc.devRef .tc main_v24) (((cfg1.win 5).blk t).view.emb (ix2 r k)) = _
  refine congrArg _ ?_
  have e := (index1 t).2.2.2.2.2.1
  funext a
  match a with
  | ⟨0, _⟩ =>
    refine Fin.ext ?_
    show win1_5.index t (0 : Fin 2) * 128 + 1 * r.val = r.val
    rw [e]
    simp
  | ⟨1, _⟩ =>
    refine Fin.ext ?_
    show win1_5.index t (1 : Fin 2) * 512 + 1 * k.val = col.val
    rw [e, hcol]
    simp

end Cert.KernelIdeal.Body
-- ==== Proof.KernelIdeal.Final.lean ====
/- What the two calls' output arrays hold after the run: every element what the point that writes it back computed. -/
module

public import proofs.«01_k».proof.Proof.KernelIdeal.Blocks
public import Idealize.ShloMosaic.Lib.Pipeline.Value

@[expose] public section

set_option maxRecDepth 16384

noncomputable section

namespace Cert.KernelIdeal.Body

open Cert.KernelIdeal.Gen
open Idealize.ShloMosaic
open Idealize.ShloMosaic.Pipeline (Dat)
variable {F : FTy → Type} [FloatOps F]

variable (U : Dev nD → Valuation τ sig (Elt F))

/-- The point that writes an element of the array, and the element's place in the block. -/
def at0 (i : S7680x16384.Idx) : Fin cfg0.N := ⟨64 * ((i 0).val / 960) + (i 1).val / 256, by
  have h0 : (i 0).val < 7680 := (i 0).isLt
  have h1 : (i 1).val < 16384 := (i 1).isLt
  exact lt_of_lt_of_eq (by omega) N_0.symm⟩
def place0 (i : S7680x16384.Idx) : S960x256.Idx := fun
  | ⟨0, _⟩ => ⟨(i 0).val % 960, Nat.mod_lt _ (by decide)⟩
  | ⟨1, _⟩ => ⟨(i 1).val % 256, Nat.mod_lt _ (by decide)⟩

/-- What the array of call 0 ends holding. -/
def whole0 (c : Dev nD) : Vec F S7680x16384 .bf16 := fun i => hAt U c (at0 i) (place0 i)

theorem flushed0 (c : Dev nD) (t : Fin cfg0.N) (hf : (cfg0.win 9).flush t = true) :
    (dat0 U c).flushed 9 t = ((cfg0.win 9).blk t).view.read (Elt F) (whole0 U c) := by
  show (cfg0.win 9).cut (grid0.coords t) ((dat0 U c).after 9 t) = _
  rw [after0_9]
  have hl : True := (by decide +kernel : ∀ t : Fin grid0.N, win0_9.flush t = true → True) t hf
  have ht : t.val < 512 := lt_of_lt_of_eq t.isLt N_0
  have e := (index0 t).2.2.2.2.2.2.2.2.2
  have e0 : win0_9.index t (0 : Fin 2) = t.val / 64 := congrFun e 0
  have e1 : win0_9.index t (1 : Fin 2) = t.val % 64 := congrFun e 1
  clear e
  funext y
  have hy0 : (y 0).val < 960 := (y 0).isLt
  have hy1 : (y 1).val < 256 := (y 1).isLt
  have hb0 : (((cfg0.win 9).blk t).view.emb y 0).val = win0_9.index t (0 : Fin 2) * 960 + 1 * (y 0).val := rfl
  have hb1 : (((cfg0.win 9).blk t).view.emb y 1).val = win0_9.index t (1 : Fin 2) * 256 + 1 * (y 1).val := rfl
  have hp : at0 (((cfg0.win 9).blk t).view.emb y) = t := by
    refine Fin.ext ?_
    show 64 * ((((cfg0.win 9).blk t).view.emb y 0).val / 960) + (((cfg0.win 9).blk t).view.emb y 1).val / 256 = t.val
    rw [hb0, hb1]
    omega
  have hl' : place0 (((cfg0.win 9).blk t).view.emb y) = (cfg0.win 9).xinj (grid0.coords t) y := by
    funext a
    match a with
    | ⟨0, _⟩ => refine Fin.ext ?_; show (((cfg0.win 9).blk t).view.emb y 0).val % 960 = (y 0).val; rw [hb0]; omega
    | ⟨1, _⟩ => refine Fin.ext ?_; show (((cfg0.win 9).blk t).view.emb y 1).val % 256 = (y 1).val; rw [hb1]; omega
  show hAt U c t ((cfg0.win 9).xinj (grid0.coords t) y) = hAt U c (at0 (((cfg0.win 9).blk t).view.emb y)) (place0 (((cfg0.win 9).blk t).view.emb y))
  rw [hp, hl']

theorem final0 (c : Dev nD) : (dat0 U c).arrAt 9 cfg0.N = whole0 U c :=
  (dat0 U c).arrAt_eq_of_cover 9 _ (fun t hf => flushed0 U c t hf) fun i => by
    have h0 : (i 0).val < 7680 := (i 0).isLt
    have h1 : (i 1).val < 16384 := (i 1).isLt
    have e := (index0 (at0 i)).2.2.2.2.2.2.2.2.2
    refine ⟨at0 i, (by decide +kernel : ∀ t : Fin grid0.N, True → win0_9.flush t = true) _ trivial, ?_⟩
    show i ∈ ((View.whole main_v28).slice (win0_9.rect (at0 i))).set
    rw [View.set_slice_whole, Rect.mem_set_unit]
    intro a
    match a with
    | ⟨0, _⟩ =>
      have q : win0_9.index (at0 i) (0 : Fin 2) = (64 * ((i 0).val / 960) + (i 1).val / 256) / 64 := congrFun e 0
      show win0_9.index (at0 i) (0 : Fin 2) * 960 ≤ (i 0).val ∧ (i 0).val < win0_9.index (at0 i) (0 : Fin 2) * 960 + 960
      omega
    | ⟨1, _⟩ =>
      have q : win0_9.index (at0 i) (1 : Fin 2) = (64 * ((i 0).val / 960) + (i 1).val / 256) % 64 := congrFun e 1
      show win0_9.index (at0 i) (1 : Fin 2) * 256 ≤ (i 1).val ∧ (i 1).val < win0_9.index (at0 i) (1 : Fin 2) * 256 + 256
      omega

/-- The point that writes an element of the array, and the element's place in the block. -/
def at1 (i : S7680x6144.Idx) : Fin cfg1.N := ⟨48 * ((i 0).val / 960) + 4 * ((i 1).val / 512) + 3, by
  have h0 : (i 0).val < 7680 := (i 0).isLt
  have h1 : (i 1).val < 6144 := (i 1).isLt
  exact lt_of_lt_of_eq (by omega) N_1.symm⟩
def place1 (i : S7680x6144.Idx) : S960x512.Idx := fun
  | ⟨0, _⟩ => ⟨(i 0).val % 960, Nat.mod_lt _ (by decide)⟩
  | ⟨1, _⟩ => ⟨(i 1).val % 512, Nat.mod_lt _ (by decide)⟩

/-- What the array of call 1 ends holding. -/
def whole1 (c : Dev nD) : Vec F S7680x6144 .bf16 := fun i => yAt U c (at1 i) (place1 i)

theorem flushed1 (c : Dev nD) (t : Fin cfg1.N) (hf : (cfg1.win 6).flush t = true) :
    (dat1 U c).flushed 6 t = ((cfg1.win 6).blk t).view.read (Elt F) (whole1 U c) := by
  show (cfg1.win 6).cut (grid1.coords t) ((dat1 U c).after 6 t) = _
  rw [after1_6]
  have hl : t.val % 4 = 3 := (by decide +kernel : ∀ t : Fin grid1.N, win1_6.flush t = true → t.val % 4 = 3) t hf
  have ht : t.val < 384 := lt_of_lt_of_eq t.isLt N_1
  have e := (index1 t).2.2.2.2.2.2
  have e0 : win1_6.index t (0 : Fin 2) = t.val / 48 := congrFun e 0
  have e1 : win1_6.index t (1 : Fin 2) = t.val / 4 % 12 := congrFun e 1
  clear e
  funext y
  have hy0 : (y 0).val < 960 := (y 0).isLt
  have hy1 : (y 1).val < 512 := (y 1).isLt
  have hb0 : (((cfg1.win 6).blk t).view.emb y 0).val = win1_6.index t (0 : Fin 2) * 960 + 1 * (y 0).val := rfl
  have hb1 : (((cfg1.win 6).blk t).view.emb y 1).val = win1_6.index t (1 : Fin 2) * 512 + 1 * (y 1).val := rfl
  have hp : at1 (((cfg1.win 6).blk t).view.emb y) = t := by
    refine Fin.ext ?_
    show 48 * ((((cfg1.win 6).blk t).view.emb y 0).val / 960) + 4 * ((((cfg1.win 6).blk t).view.emb y 1).val / 512) + 3 = t.val
    rw [hb0, hb1]
    omega
  have hl' : place1 (((cfg1.win 6).blk t).view.emb y) = (cfg1.win 6).xinj (grid1.coords t) y := by
    funext a
    match a with
    | ⟨0, _⟩ => refine Fin.ext ?_; show (((cfg1.win 6).blk t).view.emb y 0).val % 960 = (y 0).val; rw [hb0]; omega
    | ⟨1, _⟩ => refine Fin.ext ?_; show (((cfg1.win 6).blk t).view.emb y 1).val % 512 = (y 1).val; rw [hb1]; omega
  show yAt U c t ((cfg1.win 6).xinj (grid1.coords t) y) = yAt U c (at1 (((cfg1.win 6).blk t).view.emb y)) (place1 (((cfg1.win 6).blk t).view.emb y))
  rw [hp, hl']

theorem final1 (c : Dev nD) : (dat1 U c).arrAt 6 cfg1.N = whole1 U c :=
  (dat1 U c).arrAt_eq_of_cover 6 _ (fun t hf => flushed1 U c t hf) fun i => by
    have h0 : (i 0).val < 7680 := (i 0).isLt
    have h1 : (i 1).val < 6144 := (i 1).isLt
    have e := (index1 (at1 i)).2.2.2.2.2.2
    refine ⟨at1 i, (by decide +kernel : ∀ t : Fin grid1.N, t.val % 4 = 3 → win1_6.flush t = true) _ (by show (48 * ((i 0).val / 960) + 4 * ((i 1).val / 512) + 3) % 4 = 3; omega), ?_⟩
    show i ∈ ((View.whole main_v29).slice (win1_6.rect (at1 i))).set
    rw [View.set_slice_whole, Rect.mem_set_unit]
    intro a
    match a with
    | ⟨0, _⟩ =>
      have q : win1_6.index (at1 i) (0 : Fin 2) = (48 * ((i 0).val / 960) + 4 * ((i 1).val / 512) + 3) / 48 := congrFun e 0
      show win1_6.index (at1 i) (0 : Fin 2) * 960 ≤ (i 0).val ∧ (i 0).val < win1_6.index (at1 i) (0 : Fin 2) * 960 + 960
      omega
    | ⟨1, _⟩ =>
      have q : win1_6.index (at1 i) (1 : Fin 2) = (48 * ((i 0).val / 960) + 4 * ((i 1).val / 512) + 3) / 4 % 12 := congrFun e 1
      show win1_6.index (at1 i) (1 : Fin 2) * 512 ≤ (i 1).val ∧ (i 1).val < win1_6.index (at1 i) (1 : Fin 2) * 512 + 512
      omega

end Cert.KernelIdeal.Body
-- ==== Proof.KernelIdeal.Hidden.lean ====
/- What the first call leaves: every element of `h`. -/
module

public import proofs.«01_k».proof.Proof.KernelIdeal.Elems
public import proofs.«01_k».proof.Proof.KernelIdeal.Weight
public import proofs.«01_k».proof.Proof.KernelIdeal.Final

@[expose] public section

set_option maxRecDepth 16384

noncomputable section

namespace Cert.KernelIdeal.Body

open Cert.KernelIdeal.Gen
open Idealize.ShloMosaic

variable {F : FTy → Type} [FloatOps F]

variable (m : (ℓ : Loc nD τ sig) → Buf (Elt Ideal) ℓ) (c : Dev nD)

/-! ### The arguments -/

abbrev A0 : FVec Ideal S7680x1x6144 .bf16 := m ((c.tc : Thread nD τ).loc main_arg0)
abbrev A1 : Vec Ideal S16384x3072 .i8 := m ((c.tc : Thread nD τ).loc main_arg1)
abbrev A2 : FVec Ideal S16384x192 .f16 := m ((c.tc : Thread nD τ).loc main_arg2)
abbrev A3 : Vec Ideal S16384x3072 .i8 := m ((c.tc : Thread nD τ).loc main_arg3)
abbrev A4 : FVec Ideal S16384x192 .f16 := m ((c.tc : Thread nD τ).loc main_arg4)
abbrev A5 : Vec Ideal S6144x8192 .i8 := m ((c.tc : Thread nD τ).loc main_arg5)
abbrev A6 : FVec Ideal S6144x512 .f16 := m ((c.tc : Thread nD τ).loc main_arg6)
abbrev A7 : IVec S7680 32 := m ((c.tc : Thread nD τ).loc main_arg7)
abbrev A8 : FVec Ideal S7x6144x16 .bf16 := m ((c.tc : Thread nD τ).loc main_arg8)
abbrev A9 : FVec Ideal S7x16x16384 .bf16 := m ((c.tc : Thread nD τ).loc main_arg9)
abbrev A10 : FVec Ideal S7x6144x16 .bf16 := m ((c.tc : Thread nD τ).loc main_arg10)
abbrev A11 : FVec Ideal S7x16x16384 .bf16 := m ((c.tc : Thread nD τ).loc main_arg11)
abbrev A12 : FVec Ideal S7x16384x16 .bf16 := m ((c.tc : Thread nD τ).loc main_arg12)
abbrev A13 : FVec Ideal S7x16x6144 .bf16 := m ((c.tc : Thread nD τ).loc main_arg13)

/-! ### The blocks of the first call -/

theorem xBlk (t : Fin cfg0.N) (r : Fin 960) (k : Fin 6144) (row : Fin 7680) (hrow : row.val = t.val / 64 * 960 + r.val) :
    blk0 (V14 m) c 0 t (ix2 r k) = A0 m c (ix3 row 0 k) :=
  (blk0_0 (V14 m) c t r k row hrow).trans <| (congrFun (x_14 m c) (ix2 row k)).trans (x_at _ _ _)

/-- The scratch's payload at an element, from its operands'. -/
theorem pay2_at (x : Vec Ideal S960x6144 .bf16) (w : Vec Ideal S6144x256 .bf16) (s : Vec Ideal S960x256 .f32) (r : Fin 960) (l : Fin 256)
    (X W : Fin 6144 → EReal) (o : EReal) (hx : ∀ k, x (ix2 r k) = X k) (hw : ∀ k, w (ix2 k l) = W k) (hs : s (ix2 r l) = o) :
    k0_pay2 x w s (ix2 r l) = (∑ k, X k * W k) * o * Ideal.ofBits .bf16 0x4000#16 := by
  pointwise [k0_pay2]
  simp only [hx, hw, hs]

/-- The scratch `t` at a lane of the gate's adapters, -/
theorem low_left (t : Fin cfg0.N) (r : Fin 960) (row : Fin 7680) (hrow : row.val = t.val / 64 * 960 + r.val) (a : Fin 7) (i : Fin 16) (l : Fin 256) (hl : l.val = a.val * 16 + i.val) :
    low0 (V14 m) c t.val (ix2 r l) = (∑ k, A0 m c (ix3 row 0 k) * A8 m c (ix3 a k i)) * Math.hot (A7 m c (ix1 row)) a.val * Ideal.ofBits .bf16 0x4000#16 := by
  have ht : t.val < 512 := lt_of_lt_of_eq t.isLt N_0
  have ha := a.isLt
  have hi := i.isLt
  have hrow' : row.val = (row0At t.val).val / 64 * 960 + r.val := by
    show row.val = t.val / 64 * 64 % 512 / 64 * 960 + r.val
    omega
  unfold low0 lowOf0
  refine pay2_at _ _ _ r l _ _ _ (fun k => xBlk m c _ r k row hrow') (fun k => ?_) ?_
  · rw [blk0_6, both_14, bothA_left _ _ k ⟨l.val, by omega⟩ l rfl, flatA0_at _ k a i _ hl]
  · rw [blk0_5 (V14 m) c _ r l row hrow', mask2_14, mask2_left _ row ⟨l.val, by omega⟩ l rfl, mask_at _ row a i _ hl]

/-- and at a lane of the up projection's. -/
theorem low_right (t : Fin cfg0.N) (r : Fin 960) (row : Fin 7680) (hrow : row.val = t.val / 64 * 960 + r.val) (a : Fin 7) (i : Fin 16) (l : Fin 256) (hl : l.val = 128 + (a.val * 16 + i.val)) :
    low0 (V14 m) c t.val (ix2 r l) = (∑ k, A0 m c (ix3 row 0 k) * A10 m c (ix3 a k i)) * Math.hot (A7 m c (ix1 row)) a.val * Ideal.ofBits .bf16 0x4000#16 := by
  have ht : t.val < 512 := lt_of_lt_of_eq t.isLt N_0
  have ha := a.isLt
  have hi := i.isLt
  have hrow' : row.val = (row0At t.val).val / 64 * 960 + r.val := by
    show row.val = t.val / 64 * 64 % 512 / 64 * 960 + r.val
    omega
  unfold low0 lowOf0
  refine pay2_at _ _ _ r l _ _ _ (fun k => xBlk m c _ r k row hrow') (fun k => ?_) ?_
  · rw [blk0_6, both_14, bothA_right _ _ k ⟨a.val * 16 + i.val, by omega⟩ l hl, flatA0_at _ k a i _ rfl]
  · rw [blk0_5 (V14 m) c _ r l row hrow', mask2_14, mask2_right _ row ⟨a.val * 16 + i.val, by omega⟩ l hl, mask_at _ row a i _ rfl]

/-- The stored block at an element, from its parts. -/
theorem hOut_at (x0 : Vec Ideal S960x6144 .bf16) (x1 : Vec Ideal S256x3072 .i8) (x2 : Vec Ideal S256x192 .f16) (x3 : Vec Ideal S256x3072 .i8) (x4 : Vec Ideal S256x192 .f16)
    (x7 x8 : Vec Ideal S128x256 .bf16) (t : Vec Ideal S960x256 .bf16) (r : Fin 960) (n : Fin 256) :
    hOut x0 x1 x2 x3 x4 x7 x8 t (ix2 r n)
      = Math.gate
          (Math.proj (G := 192) rfl rfl (fun k => x0 (ix2 r k)) (fun b => x1 (ix2 n b)) (fun g => x2 (ix2 n g)) + ∑ l : Fin 128, t (ix2 r ⟨l.val, by have := l.isLt; omega⟩) * x7 (ix2 l n))
          (Math.proj (G := 192) rfl rfl (fun k => x0 (ix2 r k)) (fun b => x3 (ix2 n b)) (fun g => x4 (ix2 n g)) + ∑ l : Fin 128, t (ix2 r ⟨128 + l.val, by have := l.isLt; omega⟩) * x8 (ix2 l n)) := by
  have e1 : ∀ l : Fin 128, leftHalf t (ix2 r l) = t (ix2 r ⟨l.val, by have := l.isLt; omega⟩) := fun l => by
    unfold leftHalf
    refine congrArg t ?_
    funext b
    match b with
    | ⟨0, _⟩ => exact Fin.ext (by show 0 + 1 * r.val = r.val; omega)
    | ⟨1, _⟩ => exact Fin.ext (by show 0 + 1 * l.val = l.val; omega)
  have e2 : ∀ l : Fin 128, rightHalf t (ix2 r l) = t (ix2 r ⟨128 + l.val, by have := l.isLt; omega⟩) := fun l => by
    unfold rightHalf
    refine congrArg t ?_
    funext b
    match b with
    | ⟨0, _⟩ => exact Fin.ext (by show 0 + 1 * r.val = r.val; omega)
    | ⟨1, _⟩ => exact Fin.ext (by show 128 + 1 * l.val = 128 + l.val; omega)
  have e3 : ∀ k : Fin 6144, weight0 x1 x2 (ix2 n k) = _ := fun k => weight0_at x1 x2 n k
  have e4 : ∀ k : Fin 6144, weight0 x3 x4 (ix2 n k) = _ := fun k => weight0_at x3 x4 n k
  unfold hOut
  generalize weight0 x1 x2 = wg at e3 ⊢
  generalize weight0 x3 x4 = wu at e4 ⊢
  generalize leftHalf t = tl at e1 ⊢
  generalize rightHalf t = tr at e2 ⊢
  unfold Math.gate Math.proj
  pointwise [k0_pay1]
  simp only [e1, e2, e3, e4]

/-- Every element of a stored block is the hidden activation's. -/
theorem hAt_at (t : Fin cfg0.N) (r : Fin 960) (n : Fin 256) (row : Fin 7680) (hrow : row.val = t.val / 64 * 960 + r.val) (col : Fin 16384) (hcol : col.val = t.val % 64 * 256 + n.val) :
    hAt (V14 m) c t (ix2 r n)
      = Math.hiddenAt (fun k => A0 m c (ix3 row 0 k)) (fun b => A1 m c (ix2 col b)) (fun b => A3 m c (ix2 col b)) (fun g => A2 m c (ix2 col g)) (fun g => A4 m c (ix2 col g))
          (fun a => Math.hot (A7 m c (ix1 row)) a.val) (fun a k i => A8 m c (ix3 a k i)) (fun a k i => A10 m c (ix3 a k i)) (fun a i => A9 m c (ix3 a i col)) (fun a i => A11 m c (ix3 a i col)) := by
  have h1 : ∀ b, blk0 (V14 m) c 1 t (ix2 n b) = A1 m c (ix2 col b) := fun b => (blk0_1 (V14 m) c t n b col hcol).trans (congrFun (arg1_14 m c) _)
  have h2 : ∀ b, blk0 (V14 m) c 2 t (ix2 n b) = A2 m c (ix2 col b) := fun b => (blk0_2 (V14 m) c t n b col hcol).trans (congrFun (arg2_14 m c) _)
  have h3 : ∀ b, blk0 (V14 m) c 3 t (ix2 n b) = A3 m c (ix2 col b) := fun b => (blk0_3 (V14 m) c t n b col hcol).trans (congrFun (arg3_14 m c) _)
  have h4 : ∀ b, blk0 (V14 m) c 4 t (ix2 n b) = A4 m c (ix2 col b) := fun b => (blk0_4 (V14 m) c t n b col hcol).trans (congrFun (arg4_14 m c) _)
  have h7 : ∀ l, blk0 (V14 m) c 7 t (ix2 l n) = flatB0 (A9 m c) (ix2 l col) := fun l => (blk0_7 (V14 m) c t l n col hcol).trans (congrFun (bg_14 m c) _)
  have h8 : ∀ l, blk0 (V14 m) c 8 t (ix2 l n) = flatB0 (A11 m c) (ix2 l col) := fun l => (blk0_8 (V14 m) c t l n col hcol).trans (congrFun (bu_14 m c) _)
  have h0 : ∀ k, blk0 (V14 m) c 0 t (ix2 r k) = A0 m c (ix3 row 0 k) := fun k => xBlk m c t r k row hrow
  unfold hAt
  rw [hOut_at]
  simp only [h0, h1, h2, h3, h4, h7, h8]
  unfold Math.hiddenAt
  refine congrArg₂ Math.gate (congrArg (_ + ·) ?_) (congrArg (_ + ·) ?_)
  · exact Math.adapter_lanes _ _ _ _ _ _ (fun a i => low_left m c t r row hrow a i _ rfl) (fun a i => flatB0_at _ col a i _ rfl) (fun l hl => flatB0_zero _ col l hl)
  · exact Math.adapter_lanes _ _ _ _ _ _ (fun a i => low_right m c t r row hrow a i _ rfl) (fun a i => flatB0_at _ col a i _ rfl) (fun l hl => flatB0_zero _ col l hl)

/-- Every element of the first call's array. -/
theorem whole0_at (row : Fin 7680) (col : Fin 16384) :
    whole0 (V14 m) c (ix2 row col)
      = Math.hiddenAt (fun k => A0 m c (ix3 row 0 k)) (fun b => A1 m c (ix2 col b)) (fun b => A3 m c (ix2 col b)) (fun g => A2 m c (ix2 col g)) (fun g => A4 m c (ix2 col g))
          (fun a => Math.hot (A7 m c (ix1 row)) a.val) (fun a k i => A8 m c (ix3 a k i)) (fun a k i => A10 m c (ix3 a k i)) (fun a i => A9 m c (ix3 a i col)) (fun a i => A11 m c (ix3 a i col)) := by
  have hr := row.isLt
  have hc := col.isLt
  have hp : place0 (ix2 row col) = ix2 (⟨row.val % 960, Nat.mod_lt _ (by decide)⟩ : Fin 960) (⟨col.val % 256, Nat.mod_lt _ (by decide)⟩ : Fin 256) := by
    funext b
    match b with
    | ⟨0, _⟩ => rfl
    | ⟨1, _⟩ => rfl
  have ht : (at0 (ix2 row col)).val = 64 * (row.val / 960) + col.val / 256 := rfl
  unfold whole0
  rw [hp]
  refine hAt_at m c _ _ _ row ?_ col ?_
  · rw [ht]
    show row.val = (64 * (row.val / 960) + col.val / 256) / 64 * 960 + row.val % 960
    omega
  · rw [ht]
    show col.val = (64 * (row.val / 960) + col.val / 256) % 64 * 256 + col.val % 256
    omega

end Cert.KernelIdeal.Body
-- ==== Proof.KernelIdeal.Output.lean ====
/- What the second call leaves: every element of `y`. -/
module

public import proofs.«01_k».proof.Proof.KernelIdeal.Hidden

@[expose] public section

set_option maxRecDepth 16384

noncomputable section

namespace Cert.KernelIdeal.Body

open Cert.KernelIdeal.Gen
open Idealize.ShloMosaic
open Idealize.ShloMosaic.Pipeline (afterRegion)

variable {F : FTy → Type} [FloatOps F]

variable (m : (ℓ : Loc nD τ sig) → Buf (Elt Ideal) ℓ) (c : Dev nD)

/-! ### What the second call finds -/

/-- `h` as the first call left it. -/
abbrev H : Vec Ideal S7680x16384 .bf16 := whole0 (V14 m) c

theorem mid_h : mid m c (Proc.devRef .tc main_v28) = H m c :=
  (Function.update_self (f := V14 m c) (Proc.devRef (τ := τ) .tc main_v28) _).trans <|
    (Pipeline.afterRegion_arr (dat0 (V14 m) c) (V14 m c) winFacts0.arr_inj 9).trans (final0 (V14 m) c)

theorem mid_rest (r : Ref sig .tc) (hr : r ≠ main_v28) : mid m c (Proc.devRef .tc r) = V14 m c (Proc.devRef .tc r) :=
  Function.update_of_ne (StableHlo.devRef_ne_of_ne hr) _ _

theorem hBlk (t : Fin cfg1.N) (r : Fin 960) (k : Fin 4096) (row : Fin 7680) (hrow : row.val = t.val / 48 * 960 + r.val) (col : Fin 16384) (hcol : col.val = t.val % 4 * 4096 + k.val) :
    blk1 (mid m) c 0 t (ix2 r k) = H m c (ix2 row col) :=
  (blk1_0 (mid m) c t r k row hrow col hcol).trans (congrFun (mid_h m c) _)

theorem qBlk (t : Fin cfg1.N) (r : Fin 512) (k : Fin 2048) (row : Fin 6144) (hrow : row.val = t.val / 4 % 12 * 512 + r.val) (col : Fin 8192) (hcol : col.val = t.val % 4 * 2048 + k.val) :
    blk1 (mid m) c 1 t (ix2 r k) = A5 m c (ix2 row col) :=
  (blk1_1 (mid m) c t r k row hrow col hcol).trans (congrFun ((mid_rest m c main_arg5 (by decide)).trans (arg5_14 m c)) _)

theorem sBlk (t : Fin cfg1.N) (r : Fin 512) (k : Fin 128) (row : Fin 6144) (hrow : row.val = t.val / 4 % 12 * 512 + r.val) (col : Fin 512) (hcol : col.val = t.val % 4 * 128 + k.val) :
    blk1 (mid m) c 2 t (ix2 r k) = A6 m c (ix2 row col) :=
  (blk1_2 (mid m) c t r k row hrow col hcol).trans (congrFun ((mid_rest m c main_arg6 (by decide)).trans (arg6_14 m c)) _)

theorem mBlk (t : Fin cfg1.N) (r : Fin 960) (k : Fin 128) (row : Fin 7680) (hrow : row.val = t.val / 48 * 960 + r.val) :
    blk1 (mid m) c 3 t (ix2 r k) = mask (F := Ideal) (A7 m c) (ix2 row k) :=
  (blk1_3 (mid m) c t r k row hrow).trans (congrFun ((mid_rest m c main_v10 (by decide)).trans (mask_14 m c)) _)

theorem aBlk (t : Fin cfg1.N) (r : Fin 4096) (k : Fin 128) (row : Fin 16384) (hrow : row.val = t.val % 4 * 4096 + r.val) :
    blk1 (mid m) c 4 t (ix2 r k) = flatA1 (A12 m c) (ix2 row k) :=
  (blk1_4 (mid m) c t r k row hrow).trans (congrFun ((mid_rest m c main_v27 (by decide)).trans (ad_14 m c)) _)

theorem bBlk (t : Fin cfg1.N) (r : Fin 128) (k : Fin 512) (col : Fin 6144) (hcol : col.val = t.val / 4 % 12 * 512 + k.val) :
    blk1 (mid m) c 5 t (ix2 r k) = flatB1 (A13 m c) (ix2 r col) :=
  (blk1_5 (mid m) c t r k col hcol).trans (congrFun ((mid_rest m c main_v24 (by decide)).trans (bd_14 m c)) _)

/-! ### The payloads at an element -/

theorem k1_pay2_at (a : Vec Ideal S960x512 .f32) (h : Vec Ideal S960x4096 .bf16) (w : Vec Ideal S512x4096 .bf16) (r : Fin 960) (n : Fin 512) :
    k1_pay2 a h w (ix2 r n) = a (ix2 r n) + ∑ k : Fin 4096, h (ix2 r k) * w (ix2 n k) := by
  pointwise [k1_pay2]
theorem k1_pay3_at (a : Vec Ideal S960x512 .f32) (t : Vec Ideal S960x128 .bf16) (b : Vec Ideal S128x512 .bf16) (r : Fin 960) (n : Fin 512) :
    k1_pay3 a t b (ix2 r n) = a (ix2 r n) + ∑ l : Fin 128, t (ix2 r l) * b (ix2 l n) := by
  pointwise [k1_pay3]
theorem k1_pay4_at (r : Fin 960) (n : Fin 512) : k1_pay4 (F := Ideal) (ix2 r n) = (0 : EReal) := by
  pointwise [k1_pay4]
theorem k1_pay6_at (h : Vec Ideal S960x4096 .bf16) (a : Vec Ideal S4096x128 .bf16) (r : Fin 960) (l : Fin 128) :
    k1_pay6 h a (ix2 r l) = ∑ k : Fin 4096, h (ix2 r k) * a (ix2 k l) := by
  pointwise [k1_pay6, k1_pay5]
theorem k1_pay7_at (h : Vec Ideal S960x4096 .bf16) (a : Vec Ideal S4096x128 .bf16) (t : Vec Ideal S960x128 .f32) (r : Fin 960) (l : Fin 128) :
    k1_pay7 h a t (ix2 r l) = t (ix2 r l) + ∑ k : Fin 4096, h (ix2 r k) * a (ix2 k l) := by
  pointwise [k1_pay7, k1_pay5]
theorem k1_pay8_at (t : Vec Ideal S960x128 .f32) (s : Vec Ideal S960x128 .f32) (r : Fin 960) (l : Fin 128) :
    k1_pay8 t s (ix2 r l) = t (ix2 r l) * s (ix2 r l) * Ideal.ofBits .bf16 0x4000#16 := by
  pointwise [k1_pay8]

/-! ### The accumulators -/

/-- A sum over 16384 is four sums over 4096, in the order the grid takes them. -/
def part (f : Fin 16384 → EReal) (j : Fin 4) : EReal := ∑ k : Fin 4096, f ⟨j.val * 4096 + k.val, by have := j.isLt; have := k.isLt; omega⟩
theorem four (f : Fin 16384 → EReal) : part f 0 + part f 1 + part f 2 + part f 3 = ∑ k, f k := by
  rw [Math.sum_blocks (B := 4) (K := 4096) rfl f, Fin.sum_univ_four]
  rfl

/-- One block of columns' part of the product. -/
theorem acc_part (j : Fin 4) (p : Fin cfg1.N) (hj : p.val % 4 = j.val) (r : Fin 960) (n : Fin 512)
    (row : Fin 7680) (hrow : row.val = p.val / 48 * 960 + r.val) (col : Fin 6144) (hcol : col.val = p.val / 4 % 12 * 512 + n.val)
    (f : Fin 16384 → EReal) (hf : ∀ z, f z = H m c (ix2 row z) * Math.weightAt (D := 16384) (H := 8192) (G := 512) rfl rfl (fun b => A5 m c (ix2 col b)) (fun g => A6 m c (ix2 col g)) z)
    (h : Vec Ideal S960x4096 .bf16) (hh : h = blk1 (mid m) c 0 p) (w : Vec Ideal S512x4096 .bf16) (hw : w = weight1 (blk1 (mid m) c 1 p) (blk1 (mid m) c 2 p)) :
    ∑ k : Fin 4096, h (ix2 r k) * w (ix2 n k)
      = part f j := by
  unfold part
  refine Finset.sum_congr rfl fun k _ => ?_
  rw [hf]
  have hj4 := j.isLt
  have hk := k.isLt
  subst hh hw
  rw [← Math.weightAt_block]
  refine congrArg₂ (· * ·) (hBlk m c p r k row hrow _ (by show j.val * 4096 + k.val = _; rw [hj])) ?_
  refine (weight1_at _ _ n k).trans ?_
  refine congrArg₂ (fun Q S => Math.weightAt (D := 4096) (H := 2048) (G := 128) rfl rfl Q S k) (funext fun b => ?_) (funext fun g => ?_)
  · exact qBlk m c p n b col hcol _ (by show j.val * 2048 + b.val = _; rw [hj])
  · exact sBlk m c p n g col hcol _ (by show j.val * 128 + g.val = _; rw [hj])

/-- After the four blocks of columns: the whole product. -/
theorem acc_at (q : ℕ) (hq : q < 96) (r : Fin 960) (n : Fin 512)
    (row : Fin 7680) (hrow : row.val = q / 12 * 960 + r.val) (col : Fin 6144) (hcol : col.val = q % 12 * 512 + n.val) :
    acc (mid m) c (4 * q) 3 (ix2 r n)
      = Math.proj (G := 512) rfl rfl (fun k => H m c (ix2 row k)) (fun b => A5 m c (ix2 col b)) (fun g => A6 m c (ix2 col g)) := by
  have hp : ∀ (j : Fin 4) (p : ℕ), p = 4 * q + j.val → (pt1 p).val = 4 * q + j.val := fun j p e => by
    have := j.isLt
    show p % 384 = _
    omega
  obtain ⟨f, hf⟩ : ∃ f : Fin 16384 → EReal, ∀ z, f z = H m c (ix2 row z) * Math.weightAt (D := 16384) (H := 8192) (G := 512) rfl rfl (fun b => A5 m c (ix2 col b)) (fun g => A6 m c (ix2 col g)) z := ⟨_, fun _ => rfl⟩
  have one := fun (j : Fin 4) (p : ℕ) (e : p = 4 * q + j.val) h hh w hw => acc_part m c j (pt1 p) (by rw [hp j p e]; have := j.isLt; omega) r n row (by rw [hp j p e, hrow]; have := j.isLt; omega) col (by rw [hp j p e, hcol]; have := j.isLt; omega) f hf h hh w hw
  unfold acc acc acc acc
  rw [k1_pay2_at, k1_pay2_at, k1_pay2_at, k1_pay2_at, k1_pay4_at, zero_add]
  rw [one 0 (4 * q) rfl _ rfl _ rfl, one 1 (4 * q + (0 + 1)) rfl _ rfl _ rfl, one 2 (4 * q + (1 + 1)) rfl _ rfl _ rfl, one 3 (4 * q + (2 + 1)) rfl _ rfl _ rfl]
  exact (four f).trans (Finset.sum_congr rfl fun z _ => hf z)

/-- One block of columns' part of the adapters' first product. -/
theorem tacc_part (j : Fin 4) (p : Fin cfg1.N) (hj : p.val % 4 = j.val) (r : Fin 960) (a : Fin 7) (i : Fin 16) (l : Fin 128) (hl : l.val = a.val * 16 + i.val)
    (row : Fin 7680) (hrow : row.val = p.val / 48 * 960 + r.val)
    (f : Fin 16384 → EReal) (hf : ∀ z, f z = H m c (ix2 row z) * A12 m c (ix3 a z i))
    (h : Vec Ideal S960x4096 .bf16) (hh : h = blk1 (mid m) c 0 p) (w : Vec Ideal S4096x128 .bf16) (hw : w = blk1 (mid m) c 4 p) :
    ∑ k : Fin 4096, h (ix2 r k) * w (ix2 k l)
      = part f j := by
  unfold part
  refine Finset.sum_congr rfl fun k _ => ?_
  rw [hf]
  have hj4 := j.isLt
  have hk := k.isLt
  subst hh hw
  refine congrArg₂ (· * ·) (hBlk m c p r k row hrow _ (by show j.val * 4096 + k.val = _; rw [hj])) ?_
  exact (aBlk m c p k l ⟨j.val * 4096 + k.val, by omega⟩ (by show j.val * 4096 + k.val = _; rw [hj])).trans (flatA1_at _ _ a i l hl)

/-- After the first four points of a row block: the adapters' whole first product. -/
theorem tacc_at (q : ℕ) (hq : q < 8) (r : Fin 960) (a : Fin 7) (i : Fin 16) (l : Fin 128) (hl : l.val = a.val * 16 + i.val)
    (row : Fin 7680) (hrow : row.val = q * 960 + r.val) :
    tacc (mid m) c (48 * q) 3 (ix2 r l) = ∑ k, H m c (ix2 row k) * A12 m c (ix3 a k i) := by
  have hp : ∀ (j : Fin 4) (p : ℕ), p = 48 * q + j.val → (pt1 p).val = 48 * q + j.val := fun j p e => by
    have := j.isLt
    show p % 384 = _
    omega
  obtain ⟨f, hf⟩ : ∃ f : Fin 16384 → EReal, ∀ z, f z = H m c (ix2 row z) * A12 m c (ix3 a z i) := ⟨_, fun _ => rfl⟩
  have one := fun (j : Fin 4) (p : ℕ) (e : p = 48 * q + j.val) h hh w hw => tacc_part m c j (pt1 p) (by rw [hp j p e]; have := j.isLt; omega) r a i l hl row (by rw [hp j p e, hrow]; have := j.isLt; omega) f hf h hh w hw
  unfold tacc tacc tacc tacc
  rw [k1_pay7_at, k1_pay7_at, k1_pay7_at, k1_pay6_at]
  rw [one 0 (48 * q) rfl _ rfl _ rfl, one 1 (48 * q + (0 + 1)) rfl _ rfl _ rfl, one 2 (48 * q + (1 + 1)) rfl _ rfl _ rfl, one 3 (48 * q + (2 + 1)) rfl _ rfl _ rfl]
  exact (four f).trans (Finset.sum_congr rfl fun z _ => hf z)

/-! ### The stored block and the array -/

/-- Every element of the block stored at the last point of its four. -/
theorem yAt_at (t : Fin cfg1.N) (h3 : t.val % 4 = 3) (r : Fin 960) (n : Fin 512) (row : Fin 7680) (hrow : row.val = t.val / 48 * 960 + r.val)
    (col : Fin 6144) (hcol : col.val = t.val / 4 % 12 * 512 + n.val) :
    yAt (mid m) c t (ix2 r n)
      = Math.resultAt (fun k => H m c (ix2 row k)) (fun b => A5 m c (ix2 col b)) (fun g => A6 m c (ix2 col g))
          (fun a => Math.hot (A7 m c (ix1 row)) a.val) (fun a k i => A12 m c (ix3 a k i)) (fun a i => A13 m c (ix3 a i col)) := by
  have ht : t.val < 384 := lt_of_lt_of_eq t.isLt N_1
  have e1 : accAt (mid m) c t.val = acc (mid m) c (4 * (t.val / 4)) 3 := by
    unfold accAt
    rw [h3, Nat.mul_comm]
  have e2 : low1 (mid m) c t.val = k1_pay8 (tacc (mid m) c (48 * (t.val / 48)) 3) (blk1 (mid m) c 3 (pt1 (48 * (t.val / 48) + 3))) := by
    unfold low1
    rw [Nat.mul_comm]
  have hp : (pt1 (48 * (t.val / 48) + 3)).val = 48 * (t.val / 48) + 3 := by
    show (48 * (t.val / 48) + 3) % 384 = _
    omega
  unfold yAt
  rw [k1_pay3_at, e1, e2, acc_at m c (t.val / 4) (by omega) r n row (by omega) col (by omega)]
  unfold Math.resultAt
  refine congrArg (_ + ·) ?_
  refine Math.adapter_lanes _ _ _ _ _ _ (fun a i => ?_) (fun a i => ?_) (fun l hl => ?_)
  · rw [k1_pay8_at, tacc_at m c (t.val / 48) (by omega) r a i _ rfl row (by omega), mBlk m c _ r _ row (by rw [hp]; omega), mask_at _ row a i _ rfl]
  · rw [bBlk m c t _ n col hcol, flatB1_at _ col a i _ rfl]
  · rw [bBlk m c t _ n col hcol, flatB1_zero _ col l hl]

/-- Every element of the second call's array. -/
theorem whole1_at (row : Fin 7680) (col : Fin 6144) :
    whole1 (mid m) c (ix2 row col)
      = Math.resultAt (fun k => H m c (ix2 row k)) (fun b => A5 m c (ix2 col b)) (fun g => A6 m c (ix2 col g))
          (fun a => Math.hot (A7 m c (ix1 row)) a.val) (fun a k i => A12 m c (ix3 a k i)) (fun a i => A13 m c (ix3 a i col)) := by
  have hr := row.isLt
  have hc := col.isLt
  have hp : place1 (ix2 row col) = ix2 (⟨row.val % 960, Nat.mod_lt _ (by decide)⟩ : Fin 960) (⟨col.val % 512, Nat.mod_lt _ (by decide)⟩ : Fin 512) := by
    funext b
    match b with
    | ⟨0, _⟩ => rfl
    | ⟨1, _⟩ => rfl
  have ht : (at1 (ix2 row col)).val = 48 * (row.val / 960) + 4 * (col.val / 512) + 3 := rfl
  unfold whole1
  rw [hp]
  refine yAt_at m c _ ?_ _ _ row ?_ col ?_
  · rw [ht]; omega
  · rw [ht]
    show row.val = (48 * (row.val / 960) + 4 * (col.val / 512) + 3) / 48 * 960 + row.val % 960
    omega
  · rw [ht]
    show col.val = (48 * (row.val / 960) + 4 * (col.val / 512) + 3) / 4 % 12 * 512 + col.val % 512
    omega

end Cert.KernelIdeal.Body
-- ==== Proof.KernelIdeal.Value.lean ====
/- What the kernel run leaves in its two results. -/
module

public import proofs.«01_k».proof.Proof.KernelIdeal.Output

@[expose] public section

set_option maxRecDepth 16384

noncomputable section

namespace Cert.KernelIdeal.Body

open Cert.KernelIdeal.Gen
open Idealize.ShloMosaic
open Idealize.ShloMosaic.TcCoe
open Idealize.SL.Sem
open Idealize.ShloMosaic.Pipeline (afterRegion)

variable {F : FTy → Type} [FloatOps F]

variable (m : (ℓ : Loc nD τ sig) → Buf (Elt Ideal) ℓ) (ρ : Dev nD → PrngReg) (c : Dev nD)

/-- The two results: the calls' arrays reshaped. -/
def kerResult : FVec Ideal S7680x1x6144 .bf16 := shapeCast S7680x1x6144 (whole1 (mid m) c) shapeCasts_S7680x6144_S7680x1x6144
def kerHidden : FVec Ideal S7680x1x16384 .bf16 := shapeCast S7680x1x16384 (H m c) shapeCasts_S7680x16384_S7680x1x16384

theorem y_16 : V16 m (outs m) c (Proc.devRef .tc main_v29) = whole1 (mid m) c :=
  (Function.update_self (f := V15 m (outs m) c) (Proc.devRef (τ := τ) .tc main_v29) _).trans <|
    (Pipeline.afterRegion_arr (dat1 (mid m) c) (mid m c) winFacts1.arr_inj 6).trans (final1 (mid m) c)

theorem h_16 : V16 m (outs m) c (Proc.devRef .tc main_v28) = H m c :=
  (Function.update_of_ne (StableHlo.devRef_ne_of_ne (by decide)) _ _).trans (mid_h m c)

theorem y_read (V : Valuation τ sig (Elt F)) : StableHlo.after hostOps2 V (Proc.devRef .tc main_v30)
    = shapeCast S7680x1x6144 (V (Proc.devRef .tc main_v29) : FVec F S7680x6144 .bf16) shapeCasts_S7680x6144_S7680x1x6144 := by
  after_reads_simp
  try simp -implicitDefEqProofs only [StableHlo.TRef.toBuf, StableHlo.TRef.ofBuf, cast_cast, cast_eq]
  try rfl

theorem h_read (V : Valuation τ sig (Elt F)) : StableHlo.after hostOps2 V (Proc.devRef .tc main_v31)
    = shapeCast S7680x1x16384 (V (Proc.devRef .tc main_v28) : FVec F S7680x16384 .bf16) shapeCasts_S7680x16384_S7680x1x16384 := by
  after_reads_simp
  try simp -implicitDefEqProofs only [StableHlo.TRef.toBuf, StableHlo.TRef.ofBuf, cast_cast, cast_eq]
  try rfl

theorem y_17 : V17 m (outs m) c (Proc.devRef .tc main_v30) = kerResult m c := by
  refine (y_read (V16 m (outs m) c)).trans ?_
  rw [y_16]
  rfl

theorem h_17 : V17 m (outs m) c (Proc.devRef .tc main_v31) = kerHidden m c := by
  refine (h_read (V16 m (outs m) c)).trans ?_
  rw [h_16]
  rfl

/-- The kernel run: both results. -/
theorem run_values : θ_run defs (onTc (τ := τ) (main (F := Ideal))) ⟨m, fun _ => 0, ρ⟩ (fun r => (∀ c : Dev nD,
      r.2.mem ((c.tc : Thread nD τ).loc main_v30) = kerResult m c ∧ r.2.mem ((c.tc : Thread nD τ).loc main_v31) = kerHidden m c)) :=
  (run_main m ρ).mono fun r ⟨h, _⟩ c => ⟨(h c main_v30 rfl).trans (y_17 m c), (h c main_v31 rfl).trans (h_17 m c)⟩

/-- The hidden activation at an element. -/
theorem kerHidden_at (row : Fin 7680) (z : Fin 1) (col : Fin 16384) :
    kerHidden m c (ix3 row z col)
      = Math.hiddenAt (fun k => A0 m c (ix3 row 0 k)) (fun b => A1 m c (ix2 col b)) (fun b => A3 m c (ix2 col b)) (fun g => A2 m c (ix2 col g)) (fun g => A4 m c (ix2 col g))
          (fun a => Math.hot (A7 m c (ix1 row)) a.val) (fun a k i => A8 m c (ix3 a k i)) (fun a k i => A10 m c (ix3 a k i)) (fun a i => A9 m c (ix3 a i col)) (fun a i => A11 m c (ix3 a i col)) := by
  rw [← whole0_at]
  unfold kerHidden
  show shapeCast S7680x1x16384 (H m c) shapeCasts_S7680x16384_S7680x1x16384 (ix3 row z col) = H m c (ix2 row col)
  generalize H m c = h
  have hz : z = 0 := Subsingleton.elim _ _
  subst hz
  pointwise []

/-- The result at an element. -/
theorem kerResult_at (row : Fin 7680) (z : Fin 1) (col : Fin 6144) :
    kerResult m c (ix3 row z col)
      = Math.resultAt (fun k => kerHidden m c (ix3 row 0 k)) (fun b => A5 m c (ix2 col b)) (fun g => A6 m c (ix2 col g))
          (fun a => Math.hot (A7 m c (ix1 row)) a.val) (fun a k i => A12 m c (ix3 a k i)) (fun a i => A13 m c (ix3 a i col)) := by
  have h : ∀ k, kerHidden m c (ix3 row 0 k) = H m c (ix2 row k) := fun k => (kerHidden_at m c row 0 k).trans (whole0_at m c row k).symm
  simp only [h]
  rw [← whole1_at]
  unfold kerResult
  generalize whole1 (mid m) c = y
  have hz : z = 0 := Subsingleton.elim _ _
  subst hz
  pointwise []

end Cert.KernelIdeal.Body
-- ==== Proof.ReferenceIdeal.Read.lean ====
/- What the reference's lines compute, as terms over its arguments: the quantised products, the adapters, the hidden activation and the result. -/
module

public import proofs.«01_k».proof.Proof.Gen.ReferenceIdeal.Launch
public import Idealize.ShloMosaic.Lib.StableHlo.ReadAt

@[expose] public section

set_option maxRecDepth 16384

noncomputable section

namespace Cert.ReferenceIdeal.Ref

open Cert.ReferenceIdeal.Gen
open Idealize.ShloMosaic
open Idealize.ShloMosaic.StableHlo (after)

variable {F : FTy → Type} [FloatOps F]

/-- The low nibbles' weights: `((q & 15) - 8) * s`, -/
def low0 (q : Vec F S16384x3072 .i8) (s : FVec F S16384x192 .f32) : FVec F S16384x192x16 .bf16 :=
  let qg : IVec S16384x192x16 32 := extui 32 (shapeCast S16384x192x16 q shapeCasts_S16384x3072_S16384x192x16) natLt_8_32
  let sf : FVec F S16384x192x1 .f32 := broadcastInDim S16384x192x1 ![0, 1] bcast_S16384x192_S16384x192x1_0_1 s
  truncf .bf16 (mulf (subf (sitofp .f32 (andi qg (broadcastInDim S16384x192x16 ![] bcast_S_S16384x192x16 (constantI S_ 32 15#32))))
    (broadcastInDim S16384x192x16 ![] bcast_S_S16384x192x16 (constant S_ .f32 0x41000000#32)))
    (broadcastInDim S16384x192x16 ![0, 1, 2] bcast_S16384x192x1_S16384x192x16_0_1_2 sf)) bitsLt_bf16_f32
/-- and the high nibbles': `((q >> 4) - 8) * s`. -/
def high0 (q : Vec F S16384x3072 .i8) (s : FVec F S16384x192 .f32) : FVec F S16384x192x16 .bf16 :=
  let qg : IVec S16384x192x16 32 := extui 32 (shapeCast S16384x192x16 q shapeCasts_S16384x3072_S16384x192x16) natLt_8_32
  let sf : FVec F S16384x192x1 .f32 := broadcastInDim S16384x192x1 ![0, 1] bcast_S16384x192_S16384x192x1_0_1 s
  truncf .bf16 (mulf (subf (sitofp .f32 (Host.shrsi qg (broadcastInDim S16384x192x16 ![] bcast_S_S16384x192x16 (constantI S_ 32 4#32))))
    (broadcastInDim S16384x192x16 ![] bcast_S_S16384x192x16 (constant S_ .f32 0x41000000#32)))
    (broadcastInDim S16384x192x16 ![0, 1, 2] bcast_S16384x192x1_S16384x192x16_0_1_2 sf)) bitsLt_bf16_f32
/-- The quantised product. -/
def proj0 (v : FVec F S7680x1x6144 .bf16) (q : Vec F S16384x3072 .i8) (s : FVec F S16384x192 .f32) : FVec F S7680x1x16384 .f32 :=
  let vg : FVec F S7680x1x192x2x16 .bf16 := shapeCast S7680x1x192x2x16 v shapeCasts_S7680x1x6144_S7680x1x192x2x16
  addf (Host.dotGeneral dot_S7680x1x192x16_S16384x192x16_S7680x1x16384_23_12_01_0_n_n none
      (shapeCast S7680x1x192x16 (extractStridedSlice S7680x1x192x1x16 ![0, 0, 0, 0, 0] vg slices_S7680x1x192x2x16_S7680x1x192x1x16_0_0_0_0_0) shapeCasts_S7680x1x192x1x16_S7680x1x192x16)
      (low0 q s))
    (Host.dotGeneral dot_S7680x1x192x16_S16384x192x16_S7680x1x16384_23_12_01_0_n_n none
      (shapeCast S7680x1x192x16 (extractStridedSlice S7680x1x192x1x16 ![0, 0, 0, 1, 0] vg slices_S7680x1x192x2x16_S7680x1x192x1x16_0_0_0_1_0) shapeCasts_S7680x1x192x1x16_S7680x1x192x16)
      (high0 q s))
/-- Twice the adapter's product. -/
def lora0 (v : FVec F S7680x1x6144 .bf16) (o : FVec F S7680x7 .f32) (a : FVec F S7x6144x16 .bf16) (b : FVec F S7x16x16384 .bf16) : FVec F S7680x1x16384 .f32 :=
  let sel : FVec F S7680x1x7x16 .f32 := broadcastInDim S7680x1x7x16 ![0, 1, 2, 3] bcast_S7680x1x7x1_S7680x1x7x16_0_1_2_3 (broadcastInDim S7680x1x7x1 ![0, 2] bcast_S7680x7_S7680x1x7x1_0_2 o)
  let t : FVec F S7680x1x7x16 .bf16 := truncf .bf16 (mulf (Host.dotGeneral dot_S7680x1x6144_S7x6144x16_S7680x1x7x16_2_1_01_02_n_n none v a) sel) bitsLt_bf16_f32
  mulf (broadcastInDim S7680x1x16384 ![] bcast_S_S7680x1x16384 (constant S_ .f32 0x40000000#32))
    (Host.dotGeneral dot_S7680x1x7x16_S7x16x16384_S7680x1x16384_23_01_01_2_n_n none t b)

/-- The low nibbles' weights: `((q & 15) - 8) * s`, -/
def low1 (q : Vec F S6144x8192 .i8) (s : FVec F S6144x512 .f32) : FVec F S6144x512x16 .bf16 :=
  let qg : IVec S6144x512x16 32 := extui 32 (shapeCast S6144x512x16 q shapeCasts_S6144x8192_S6144x512x16) natLt_8_32
  let sf : FVec F S6144x512x1 .f32 := broadcastInDim S6144x512x1 ![0, 1] bcast_S6144x512_S6144x512x1_0_1 s
  truncf .bf16 (mulf (subf (sitofp .f32 (andi qg (broadcastInDim S6144x512x16 ![] bcast_S_S6144x512x16 (constantI S_ 32 15#32))))
    (broadcastInDim S6144x512x16 ![] bcast_S_S6144x512x16 (constant S_ .f32 0x41000000#32)))
    (broadcastInDim S6144x512x16 ![0, 1, 2] bcast_S6144x512x1_S6144x512x16_0_1_2 sf)) bitsLt_bf16_f32
/-- and the high nibbles': `((q >> 4) - 8) * s`. -/
def high1 (q : Vec F S6144x8192 .i8) (s : FVec F S6144x512 .f32) : FVec F S6144x512x16 .bf16 :=
  let qg : IVec S6144x512x16 32 := extui 32 (shapeCast S6144x512x16 q shapeCasts_S6144x8192_S6144x512x16) natLt_8_32
  let sf : FVec F S6144x512x1 .f32 := broadcastInDim S6144x512x1 ![0, 1] bcast_S6144x512_S6144x512x1_0_1 s
  truncf .bf16 (mulf (subf (sitofp .f32 (Host.shrsi qg (broadcastInDim S6144x512x16 ![] bcast_S_S6144x512x16 (constantI S_ 32 4#32))))
    (broadcastInDim S6144x512x16 ![] bcast_S_S6144x512x16 (constant S_ .f32 0x41000000#32)))
    (broadcastInDim S6144x512x16 ![0, 1, 2] bcast_S6144x512x1_S6144x512x16_0_1_2 sf)) bitsLt_bf16_f32
/-- The quantised product. -/
def proj1 (v : FVec F S7680x1x16384 .bf16) (q : Vec F S6144x8192 .i8) (s : FVec F S6144x512 .f32) : FVec F S7680x1x6144 .f32 :=
  let vg : FVec F S7680x1x512x2x16 .bf16 := shapeCast S7680x1x512x2x16 v shapeCasts_S7680x1x16384_S7680x1x512x2x16
  addf (Host.dotGeneral dot_S7680x1x512x16_S6144x512x16_S7680x1x6144_23_12_01_0_n_n none
      (shapeCast S7680x1x512x16 (extractStridedSlice S7680x1x512x1x16 ![0, 0, 0, 0, 0] vg slices_S7680x1x512x2x16_S7680x1x512x1x16_0_0_0_0_0) shapeCasts_S7680x1x512x1x16_S7680x1x512x16)
      (low1 q s))
    (Host.dotGeneral dot_S7680x1x512x16_S6144x512x16_S7680x1x6144_23_12_01_0_n_n none
      (shapeCast S7680x1x512x16 (extractStridedSlice S7680x1x512x1x16 ![0, 0, 0, 1, 0] vg slices_S7680x1x512x2x16_S7680x1x512x1x16_0_0_0_1_0) shapeCasts_S7680x1x512x1x16_S7680x1x512x16)
      (high1 q s))
/-- Twice the adapter's product. -/
def lora1 (v : FVec F S7680x1x16384 .bf16) (o : FVec F S7680x7 .f32) (a : FVec F S7x16384x16 .bf16) (b : FVec F S7x16x6144 .bf16) : FVec F S7680x1x6144 .f32 :=
  let sel : FVec F S7680x1x7x16 .f32 := broadcastInDim S7680x1x7x16 ![0, 1, 2, 3] bcast_S7680x1x7x1_S7680x1x7x16_0_1_2_3 (broadcastInDim S7680x1x7x1 ![0, 2] bcast_S7680x7_S7680x1x7x1_0_2 o)
  let t : FVec F S7680x1x7x16 .bf16 := truncf .bf16 (mulf (Host.dotGeneral dot_S7680x1x16384_S7x16384x16_S7680x1x7x16_2_1_01_02_n_n none v a) sel) bitsLt_bf16_f32
  mulf (broadcastInDim S7680x1x6144 ![] bcast_S_S7680x1x6144 (constant S_ .f32 0x40000000#32))
    (Host.dotGeneral dot_S7680x1x7x16_S7x16x6144_S7680x1x6144_23_01_01_2_n_n none t b)

/-- The adapter each row takes, one hot. -/
def oneHot (ids : IVec S7680 32) : FVec F S7680x7 .f32 :=
  uitofp .f32 (cmpi .eq (broadcastInDim S7680x7 ![0, 1] bcast_S7680x1_S7680x7_0_1 (broadcastInDim S7680x1 ![0] bcast_S7680_S7680x1_0 ids))
    (broadcastInDim S7680x7 ![0, 1] bcast_S1x7_S7680x7_0_1 (iotaInDim S1x7 32 1)))

/-- The activation `g * sigmoid g * u`. -/
def gated (g u : FVec F S7680x1x16384 .f32) : FVec F S7680x1x16384 .bf16 :=
  truncf .bf16 (mulf (mulf g (Host.divf (broadcastInDim S7680x1x16384 ![] bcast_S_S7680x1x16384 (constant S_ .f32 0x3F800000#32))
    (addf (broadcastInDim S7680x1x16384 ![] bcast_S_S7680x1x16384 (constant S_ .f32 0x3F800000#32)) (Host.exp (Host.negf g))))) u) bitsLt_bf16_f32

/-- The hidden activation and the result. -/
def hidden (x : FVec F S7680x1x6144 .bf16) (gq uq : Vec F S16384x3072 .i8) (gs us : FVec F S16384x192 .f32) (o : FVec F S7680x7 .f32)
    (ag au : FVec F S7x6144x16 .bf16) (bg bu : FVec F S7x16x16384 .bf16) : FVec F S7680x1x16384 .bf16 :=
  gated (addf (proj0 x gq gs) (lora0 x o ag bg)) (addf (proj0 x uq us) (lora0 x o au bu))
def result (h : FVec F S7680x1x16384 .bf16) (dq : Vec F S6144x8192 .i8) (ds : FVec F S6144x512 .f32) (o : FVec F S7680x7 .f32)
    (ad : FVec F S7x16384x16 .bf16) (bd : FVec F S7x16x6144 .bf16) : FVec F S7680x1x6144 .bf16 :=
  truncf .bf16 (addf (proj1 h dq ds) (lora1 h o ad bd)) bitsLt_bf16_f32

variable (V : Valuation τ sig (Elt F))

theorem oneHot_read : after hostOps1 V (Proc.devRef .tc main_v1) = oneHot (V (Proc.devRef .tc main_arg7)) := by
  after_reads_simp
  try simp -implicitDefEqProofs only [StableHlo.TRef.toBuf, StableHlo.TRef.ofBuf, cast_cast, cast_eq]
  try rfl

set_option maxHeartbeats 4000000 in
theorem hidden_read : after hostOps1_1 V (Proc.devRef .tc main_v81)
    = hidden (V (Proc.devRef .tc main_arg0)) (V (Proc.devRef .tc main_arg1)) (V (Proc.devRef .tc main_arg3)) (V (Proc.devRef .tc main_v0_0)) (V (Proc.devRef .tc main_v0_1)) (V (Proc.devRef .tc main_v1))
      (V (Proc.devRef .tc main_arg8)) (V (Proc.devRef .tc main_arg10)) (V (Proc.devRef .tc main_arg9)) (V (Proc.devRef .tc main_arg11)) := by
  after_reads_simp
  rfl

set_option maxHeartbeats 4000000 in
theorem result_read : after hostOps1_1 V (Proc.devRef .tc main_v117)
    = result (hidden (V (Proc.devRef .tc main_arg0)) (V (Proc.devRef .tc main_arg1)) (V (Proc.devRef .tc main_arg3)) (V (Proc.devRef .tc main_v0_0)) (V (Proc.devRef .tc main_v0_1)) (V (Proc.devRef .tc main_v1))
        (V (Proc.devRef .tc main_arg8)) (V (Proc.devRef .tc main_arg10)) (V (Proc.devRef .tc main_arg9)) (V (Proc.devRef .tc main_arg11)))
      (V (Proc.devRef .tc main_arg5)) (V (Proc.devRef .tc main_v0_2)) (V (Proc.devRef .tc main_v1)) (V (Proc.devRef .tc main_arg12)) (V (Proc.devRef .tc main_arg13)) := by
  after_reads_simp
  rfl

end Cert.ReferenceIdeal.Ref
-- ==== Proof.ReferenceIdeal.Value.lean ====
/- What the reference run leaves in its two results. -/
module

public import proofs.«01_k».proof.Proof.ReferenceIdeal.Read
public import proofs.«01_k».proof.Proof.Gen.ReferenceIdeal.Frame

@[expose] public section

set_option maxRecDepth 16384

noncomputable section

namespace Cert.ReferenceIdeal.Ref

open Cert.ReferenceIdeal.Gen
open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg) (c : Dev nD)

/-! ### The scales' casts: one point, three arrays -/

theorem whole192 (z : S16384x192.Idx) : r0_0.emb z = z := by
  funext a
  match a with
  | ⟨0, _⟩ => exact Fin.ext (by show 0 + 1 * (z 0).val = (z 0).val; omega)
  | ⟨1, _⟩ => exact Fin.ext (by show 0 + 1 * (z 1).val = (z 1).val; omega)
theorem whole512 (z : S6144x512.Idx) : r0_1.emb z = z := by
  funext a
  match a with
  | ⟨0, _⟩ => exact Fin.ext (by show 0 + 1 * (z 0).val = (z 0).val; omega)
  | ⟨1, _⟩ => exact Fin.ext (by show 0 + 1 * (z 1).val = (z 1).val; omega)

theorem whole192_canon (g : Vec F S16384x192 .f32) : View.canon (Val := Elt F) [⟨r0_0, g⟩] = g := by
  funext z
  have h := View.canon_cons_emb (Val := Elt F) (e := .f32) r0_0 g [] z
  rw [whole192] at h
  exact h
theorem whole512_canon (g : Vec F S6144x512 .f32) : View.canon (Val := Elt F) [⟨r0_1, g⟩] = g := by
  funext z
  have h := View.canon_cons_emb (Val := Elt F) (e := .f32) r0_1 g [] z
  rw [whole512] at h
  exact h

theorem out3 (x0 x1 : Vec F S16384x192 .f16) (x2 : Vec F S6144x512 .f16) : out0_3 x0 x1 x2 = k0_pay1 x0 := by
  have e : View.ld x0 r0_0 = x0 := funext fun y => congrArg x0 (whole192 y)
  unfold out0_3
  rw [e]
  exact whole192_canon _

theorem in3 (t : Fin cfg0.N) : iblk m c 0 t = (m ((c.tc : Thread nD τ).loc main_arg2) : Vec F S16384x192 .f16) := by
  have i0 : ∀ t : Fin cfg0.N, win0_0.index t = ![0, 0] := (by decide +kernel : ∀ t : Fin grid0.N, _)
  funext y
  refine congrArg (m ((c.tc : Thread nD τ).loc main_arg2) : Vec F S16384x192 .f16) ?_
  have e0 : win0_0.index t (0 : Fin 2) = 0 := congrFun (i0 t) 0
  have e1 : win0_0.index t (1 : Fin 2) = 0 := congrFun (i0 t) 1
  funext a
  match a with
  | ⟨0, _⟩ =>
    refine Fin.ext ?_
    show win0_0.index t (0 : Fin 2) * 16384 + 1 * (y 0).val = (y 0).val
    omega
  | ⟨1, _⟩ =>
    refine Fin.ext ?_
    show win0_0.index t (1 : Fin 2) * 192 + 1 * (y 1).val = (y 1).val
    omega

/-- The array of window 3. -/
theorem cast3 : (dats m 0 c).arrAt 3 cfg0.N = k0_pay1 (m ((c.tc : Thread nD τ).loc main_arg2) : Vec F S16384x192 .f16) := by
  have i0 : ∀ t : Fin cfg0.N, win0_3.index t = ![0, 0] := (by decide +kernel : ∀ t : Fin grid0.N, _)
  refine (dats m 0 c).arrAt_eq_of_cover 3 _ (fun t hf => ?_) fun i => ?_
  · show (cfg0.win 3).cut (grid0.coords t) ((dats m 0 c).after 3 t) = _
    rw [after0_3, out3, in3]
    have e0 : win0_3.index t (0 : Fin 2) = 0 := congrFun (i0 t) 0
    have e1 : win0_3.index t (1 : Fin 2) = 0 := congrFun (i0 t) 1
    funext y
    refine congrArg (k0_pay1 (m ((c.tc : Thread nD τ).loc main_arg2) : Vec F S16384x192 .f16)) ?_
    funext a
    match a with
    | ⟨0, _⟩ =>
      refine Fin.ext ?_
      show (y 0).val = win0_3.index t (0 : Fin 2) * 16384 + 1 * (y 0).val
      omega
    | ⟨1, _⟩ =>
      refine Fin.ext ?_
      show (y 1).val = win0_3.index t (1 : Fin 2) * 192 + 1 * (y 1).val
      omega
  · have h0 : (i 0).val < 16384 := (i 0).isLt
    have h1 : (i 1).val < 192 := (i 1).isLt
    refine ⟨t0_0, (by decide +kernel : ∀ t : Fin grid0.N, win0_3.flush t = true) _, ?_⟩
    show i ∈ ((View.whole main_v0_0).slice (win0_3.rect t0_0)).set
    rw [View.set_slice_whole, Rect.mem_set_unit]
    have e0 : win0_3.index t0_0 (0 : Fin 2) = 0 := congrFun (i0 t0_0) 0
    have e1 : win0_3.index t0_0 (1 : Fin 2) = 0 := congrFun (i0 t0_0) 1
    intro a
    match a with
    | ⟨0, _⟩ =>
      show win0_3.index t0_0 (0 : Fin 2) * 16384 ≤ (i 0).val ∧ (i 0).val < win0_3.index t0_0 (0 : Fin 2) * 16384 + 16384
      omega
    | ⟨1, _⟩ =>
      show win0_3.index t0_0 (1 : Fin 2) * 192 ≤ (i 1).val ∧ (i 1).val < win0_3.index t0_0 (1 : Fin 2) * 192 + 192
      omega

theorem out4 (x0 x1 : Vec F S16384x192 .f16) (x2 : Vec F S6144x512 .f16) : out0_4 x0 x1 x2 = k0_pay2 x1 := by
  have e : View.ld x1 r0_0 = x1 := funext fun y => congrArg x1 (whole192 y)
  unfold out0_4
  rw [e]
  exact whole192_canon _

theorem in4 (t : Fin cfg0.N) : iblk m c 1 t = (m ((c.tc : Thread nD τ).loc main_arg4) : Vec F S16384x192 .f16) := by
  have i0 : ∀ t : Fin cfg0.N, win0_1.index t = ![0, 0] := (by decide +kernel : ∀ t : Fin grid0.N, _)
  funext y
  refine congrArg (m ((c.tc : Thread nD τ).loc main_arg4) : Vec F S16384x192 .f16) ?_
  have e0 : win0_1.index t (0 : Fin 2) = 0 := congrFun (i0 t) 0
  have e1 : win0_1.index t (1 : Fin 2) = 0 := congrFun (i0 t) 1
  funext a
  match a with
  | ⟨0, _⟩ =>
    refine Fin.ext ?_
    show win0_1.index t (0 : Fin 2) * 16384 + 1 * (y 0).val = (y 0).val
    omega
  | ⟨1, _⟩ =>
    refine Fin.ext ?_
    show win0_1.index t (1 : Fin 2) * 192 + 1 * (y 1).val = (y 1).val
    omega

/-- The array of window 4. -/
theorem cast4 : (dats m 0 c).arrAt 4 cfg0.N = k0_pay2 (m ((c.tc : Thread nD τ).loc main_arg4) : Vec F S16384x192 .f16) := by
  have i0 : ∀ t : Fin cfg0.N, win0_4.index t = ![0, 0] := (by decide +kernel : ∀ t : Fin grid0.N, _)
  refine (dats m 0 c).arrAt_eq_of_cover 4 _ (fun t hf => ?_) fun i => ?_
  · show (cfg0.win 4).cut (grid0.coords t) ((dats m 0 c).after 4 t) = _
    rw [after0_4, out4, in4]
    have e0 : win0_4.index t (0 : Fin 2) = 0 := congrFun (i0 t) 0
    have e1 : win0_4.index t (1 : Fin 2) = 0 := congrFun (i0 t) 1
    funext y
    refine congrArg (k0_pay2 (m ((c.tc : Thread nD τ).loc main_arg4) : Vec F S16384x192 .f16)) ?_
    funext a
    match a with
    | ⟨0, _⟩ =>
      refine Fin.ext ?_
      show (y 0).val = win0_4.index t (0 : Fin 2) * 16384 + 1 * (y 0).val
      omega
    | ⟨1, _⟩ =>
      refine Fin.ext ?_
      show (y 1).val = win0_4.index t (1 : Fin 2) * 192 + 1 * (y 1).val
      omega
  · have h0 : (i 0).val < 16384 := (i 0).isLt
    have h1 : (i 1).val < 192 := (i 1).isLt
    refine ⟨t0_0, (by decide +kernel : ∀ t : Fin grid0.N, win0_4.flush t = true) _, ?_⟩
    show i ∈ ((View.whole main_v0_1).slice (win0_4.rect t0_0)).set
    rw [View.set_slice_whole, Rect.mem_set_unit]
    have e0 : win0_4.index t0_0 (0 : Fin 2) = 0 := congrFun (i0 t0_0) 0
    have e1 : win0_4.index t0_0 (1 : Fin 2) = 0 := congrFun (i0 t0_0) 1
    intro a
    match a with
    | ⟨0, _⟩ =>
      show win0_4.index t0_0 (0 : Fin 2) * 16384 ≤ (i 0).val ∧ (i 0).val < win0_4.index t0_0 (0 : Fin 2) * 16384 + 16384
      omega
    | ⟨1, _⟩ =>
      show win0_4.index t0_0 (1 : Fin 2) * 192 ≤ (i 1).val ∧ (i 1).val < win0_4.index t0_0 (1 : Fin 2) * 192 + 192
      omega

theorem out5 (x0 x1 : Vec F S16384x192 .f16) (x2 : Vec F S6144x512 .f16) : out0_5 x0 x1 x2 = k0_pay3 x2 := by
  have e : View.ld x2 r0_1 = x2 := funext fun y => congrArg x2 (whole512 y)
  unfold out0_5
  rw [e]
  exact whole512_canon _

theorem in5 (t : Fin cfg0.N) : iblk m c 2 t = (m ((c.tc : Thread nD τ).loc main_arg6) : Vec F S6144x512 .f16) := by
  have i0 : ∀ t : Fin cfg0.N, win0_2.index t = ![0, 0] := (by decide +kernel : ∀ t : Fin grid0.N, _)
  funext y
  refine congrArg (m ((c.tc : Thread nD τ).loc main_arg6) : Vec F S6144x512 .f16) ?_
  have e0 : win0_2.index t (0 : Fin 2) = 0 := congrFun (i0 t) 0
  have e1 : win0_2.index t (1 : Fin 2) = 0 := congrFun (i0 t) 1
  funext a
  match a with
  | ⟨0, _⟩ =>
    refine Fin.ext ?_
    show win0_2.index t (0 : Fin 2) * 6144 + 1 * (y 0).val = (y 0).val
    omega
  | ⟨1, _⟩ =>
    refine Fin.ext ?_
    show win0_2.index t (1 : Fin 2) * 512 + 1 * (y 1).val = (y 1).val
    omega

/-- The array of window 5. -/
theorem cast5 : (dats m 0 c).arrAt 5 cfg0.N = k0_pay3 (m ((c.tc : Thread nD τ).loc main_arg6) : Vec F S6144x512 .f16) := by
  have i0 : ∀ t : Fin cfg0.N, win0_5.index t = ![0, 0] := (by decide +kernel : ∀ t : Fin grid0.N, _)
  refine (dats m 0 c).arrAt_eq_of_cover 5 _ (fun t hf => ?_) fun i => ?_
  · show (cfg0.win 5).cut (grid0.coords t) ((dats m 0 c).after 5 t) = _
    rw [after0_5, out5, in5]
    have e0 : win0_5.index t (0 : Fin 2) = 0 := congrFun (i0 t) 0
    have e1 : win0_5.index t (1 : Fin 2) = 0 := congrFun (i0 t) 1
    funext y
    refine congrArg (k0_pay3 (m ((c.tc : Thread nD τ).loc main_arg6) : Vec F S6144x512 .f16)) ?_
    funext a
    match a with
    | ⟨0, _⟩ =>
      refine Fin.ext ?_
      show (y 0).val = win0_5.index t (0 : Fin 2) * 6144 + 1 * (y 0).val
      omega
    | ⟨1, _⟩ =>
      refine Fin.ext ?_
      show (y 1).val = win0_5.index t (1 : Fin 2) * 512 + 1 * (y 1).val
      omega
  · have h0 : (i 0).val < 6144 := (i 0).isLt
    have h1 : (i 1).val < 512 := (i 1).isLt
    refine ⟨t0_0, (by decide +kernel : ∀ t : Fin grid0.N, win0_5.flush t = true) _, ?_⟩
    show i ∈ ((View.whole main_v0_2).slice (win0_5.rect t0_0)).set
    rw [View.set_slice_whole, Rect.mem_set_unit]
    have e0 : win0_5.index t0_0 (0 : Fin 2) = 0 := congrFun (i0 t0_0) 0
    have e1 : win0_5.index t0_0 (1 : Fin 2) = 0 := congrFun (i0 t0_0) 1
    intro a
    match a with
    | ⟨0, _⟩ =>
      show win0_5.index t0_0 (0 : Fin 2) * 6144 ≤ (i 0).val ∧ (i 0).val < win0_5.index t0_0 (0 : Fin 2) * 6144 + 6144
      omega
    | ⟨1, _⟩ =>
      show win0_5.index t0_0 (1 : Fin 2) * 512 ≤ (i 1).val ∧ (i 1).val < win0_5.index t0_0 (1 : Fin 2) * 512 + 512
      omega

/-! ### The lines after it -/

/-- What the lines after the casts find. -/
def W : Valuation τ sig (Elt F) := Pipeline.withArrays (cfgs 0).spec c (V0 m c) fun w => (dats m 0 c).arrAt w (cfgs 0).N

theorem W_main_v0_0 : StableHlo.after hostOps1 (W m c) (Proc.devRef .tc main_v0_0) = k0_pay1 (m ((c.tc : Thread nD τ).loc main_arg2) : Vec F S16384x192 .f16) :=
  (StableHlo.after_of_writes_sub (r := main_v0_0) hostOps1 _ hostOps1_writes (by decide +kernel)).trans <|
    (Pipeline.withArrays_arr (cfgs 0).spec launch0.win.arr_inj c (V0 m c) (fun w => (dats m 0 c).arrAt w (cfgs 0).N) 3).trans (cast3 m c)
theorem W_main_v0_1 : StableHlo.after hostOps1 (W m c) (Proc.devRef .tc main_v0_1) = k0_pay2 (m ((c.tc : Thread nD τ).loc main_arg4) : Vec F S16384x192 .f16) :=
  (StableHlo.after_of_writes_sub (r := main_v0_1) hostOps1 _ hostOps1_writes (by decide +kernel)).trans <|
    (Pipeline.withArrays_arr (cfgs 0).spec launch0.win.arr_inj c (V0 m c) (fun w => (dats m 0 c).arrAt w (cfgs 0).N) 4).trans (cast4 m c)
theorem W_main_v0_2 : StableHlo.after hostOps1 (W m c) (Proc.devRef .tc main_v0_2) = k0_pay3 (m ((c.tc : Thread nD τ).loc main_arg6) : Vec F S6144x512 .f16) :=
  (StableHlo.after_of_writes_sub (r := main_v0_2) hostOps1 _ hostOps1_writes (by decide +kernel)).trans <|
    (Pipeline.withArrays_arr (cfgs 0).spec launch0.win.arr_inj c (V0 m c) (fun w => (dats m 0 c).arrAt w (cfgs 0).N) 5).trans (cast5 m c)
theorem W_arg0 : W m c (Proc.devRef .tc main_arg0) = m ((c.tc : Thread nD τ).loc main_arg0) :=
  Pipeline.withArrays_of_ne (cfgs 0).spec c (V0 m c) (fun w => (dats m 0 c).arrAt w (cfgs 0).N) main_arg0 (by decide)
theorem W1_arg0 : StableHlo.after hostOps1 (W m c) (Proc.devRef .tc main_arg0) = m ((c.tc : Thread nD τ).loc main_arg0) :=
  (StableHlo.after_of_writes_sub (r := main_arg0) hostOps1 _ hostOps1_writes (by decide +kernel)).trans (W_arg0 m c)
theorem W_arg1 : W m c (Proc.devRef .tc main_arg1) = m ((c.tc : Thread nD τ).loc main_arg1) :=
  Pipeline.withArrays_of_ne (cfgs 0).spec c (V0 m c) (fun w => (dats m 0 c).arrAt w (cfgs 0).N) main_arg1 (by decide)
theorem W1_arg1 : StableHlo.after hostOps1 (W m c) (Proc.devRef .tc main_arg1) = m ((c.tc : Thread nD τ).loc main_arg1) :=
  (StableHlo.after_of_writes_sub (r := main_arg1) hostOps1 _ hostOps1_writes (by decide +kernel)).trans (W_arg1 m c)
theorem W_arg3 : W m c (Proc.devRef .tc main_arg3) = m ((c.tc : Thread nD τ).loc main_arg3) :=
  Pipeline.withArrays_of_ne (cfgs 0).spec c (V0 m c) (fun w => (dats m 0 c).arrAt w (cfgs 0).N) main_arg3 (by decide)
theorem W1_arg3 : StableHlo.after hostOps1 (W m c) (Proc.devRef .tc main_arg3) = m ((c.tc : Thread nD τ).loc main_arg3) :=
  (StableHlo.after_of_writes_sub (r := main_arg3) hostOps1 _ hostOps1_writes (by decide +kernel)).trans (W_arg3 m c)
theorem W_arg5 : W m c (Proc.devRef .tc main_arg5) = m ((c.tc : Thread nD τ).loc main_arg5) :=
  Pipeline.withArrays_of_ne (cfgs 0).spec c (V0 m c) (fun w => (dats m 0 c).arrAt w (cfgs 0).N) main_arg5 (by decide)
theorem W1_arg5 : StableHlo.after hostOps1 (W m c) (Proc.devRef .tc main_arg5) = m ((c.tc : Thread nD τ).loc main_arg5) :=
  (StableHlo.after_of_writes_sub (r := main_arg5) hostOps1 _ hostOps1_writes (by decide +kernel)).trans (W_arg5 m c)
theorem W_arg7 : W m c (Proc.devRef .tc main_arg7) = m ((c.tc : Thread nD τ).loc main_arg7) :=
  Pipeline.withArrays_of_ne (cfgs 0).spec c (V0 m c) (fun w => (dats m 0 c).arrAt w (cfgs 0).N) main_arg7 (by decide)
theorem W1_arg7 : StableHlo.after hostOps1 (W m c) (Proc.devRef .tc main_arg7) = m ((c.tc : Thread nD τ).loc main_arg7) :=
  (StableHlo.after_of_writes_sub (r := main_arg7) hostOps1 _ hostOps1_writes (by decide +kernel)).trans (W_arg7 m c)
theorem W_arg8 : W m c (Proc.devRef .tc main_arg8) = m ((c.tc : Thread nD τ).loc main_arg8) :=
  Pipeline.withArrays_of_ne (cfgs 0).spec c (V0 m c) (fun w => (dats m 0 c).arrAt w (cfgs 0).N) main_arg8 (by decide)
theorem W1_arg8 : StableHlo.after hostOps1 (W m c) (Proc.devRef .tc main_arg8) = m ((c.tc : Thread nD τ).loc main_arg8) :=
  (StableHlo.after_of_writes_sub (r := main_arg8) hostOps1 _ hostOps1_writes (by decide +kernel)).trans (W_arg8 m c)
theorem W_arg9 : W m c (Proc.devRef .tc main_arg9) = m ((c.tc : Thread nD τ).loc main_arg9) :=
  Pipeline.withArrays_of_ne (cfgs 0).spec c (V0 m c) (fun w => (dats m 0 c).arrAt w (cfgs 0).N) main_arg9 (by decide)
theorem W1_arg9 : StableHlo.after hostOps1 (W m c) (Proc.devRef .tc main_arg9) = m ((c.tc : Thread nD τ).loc main_arg9) :=
  (StableHlo.after_of_writes_sub (r := main_arg9) hostOps1 _ hostOps1_writes (by decide +kernel)).trans (W_arg9 m c)
theorem W_arg10 : W m c (Proc.devRef .tc main_arg10) = m ((c.tc : Thread nD τ).loc main_arg10) :=
  Pipeline.withArrays_of_ne (cfgs 0).spec c (V0 m c) (fun w => (dats m 0 c).arrAt w (cfgs 0).N) main_arg10 (by decide)
theorem W1_arg10 : StableHlo.after hostOps1 (W m c) (Proc.devRef .tc main_arg10) = m ((c.tc : Thread nD τ).loc main_arg10) :=
  (StableHlo.after_of_writes_sub (r := main_arg10) hostOps1 _ hostOps1_writes (by decide +kernel)).trans (W_arg10 m c)
theorem W_arg11 : W m c (Proc.devRef .tc main_arg11) = m ((c.tc : Thread nD τ).loc main_arg11) :=
  Pipeline.withArrays_of_ne (cfgs 0).spec c (V0 m c) (fun w => (dats m 0 c).arrAt w (cfgs 0).N) main_arg11 (by decide)
theorem W1_arg11 : StableHlo.after hostOps1 (W m c) (Proc.devRef .tc main_arg11) = m ((c.tc : Thread nD τ).loc main_arg11) :=
  (StableHlo.after_of_writes_sub (r := main_arg11) hostOps1 _ hostOps1_writes (by decide +kernel)).trans (W_arg11 m c)
theorem W_arg12 : W m c (Proc.devRef .tc main_arg12) = m ((c.tc : Thread nD τ).loc main_arg12) :=
  Pipeline.withArrays_of_ne (cfgs 0).spec c (V0 m c) (fun w => (dats m 0 c).arrAt w (cfgs 0).N) main_arg12 (by decide)
theorem W1_arg12 : StableHlo.after hostOps1 (W m c) (Proc.devRef .tc main_arg12) = m ((c.tc : Thread nD τ).loc main_arg12) :=
  (StableHlo.after_of_writes_sub (r := main_arg12) hostOps1 _ hostOps1_writes (by decide +kernel)).trans (W_arg12 m c)
theorem W_arg13 : W m c (Proc.devRef .tc main_arg13) = m ((c.tc : Thread nD τ).loc main_arg13) :=
  Pipeline.withArrays_of_ne (cfgs 0).spec c (V0 m c) (fun w => (dats m 0 c).arrAt w (cfgs 0).N) main_arg13 (by decide)
theorem W1_arg13 : StableHlo.after hostOps1 (W m c) (Proc.devRef .tc main_arg13) = m ((c.tc : Thread nD τ).loc main_arg13) :=
  (StableHlo.after_of_writes_sub (r := main_arg13) hostOps1 _ hostOps1_writes (by decide +kernel)).trans (W_arg13 m c)

/-- The reference's hidden activation and result, of the arguments. -/
def refHidden : FVec F S7680x1x16384 .bf16 :=
  hidden (m ((c.tc : Thread nD τ).loc main_arg0)) (m ((c.tc : Thread nD τ).loc main_arg1)) (m ((c.tc : Thread nD τ).loc main_arg3)) (k0_pay1 (m ((c.tc : Thread nD τ).loc main_arg2))) (k0_pay2 (m ((c.tc : Thread nD τ).loc main_arg4))) (oneHot (m ((c.tc : Thread nD τ).loc main_arg7))) (m ((c.tc : Thread nD τ).loc main_arg8)) (m ((c.tc : Thread nD τ).loc main_arg10)) (m ((c.tc : Thread nD τ).loc main_arg9)) (m ((c.tc : Thread nD τ).loc main_arg11))
def refResult : FVec F S7680x1x6144 .bf16 :=
  result (refHidden m c) (m ((c.tc : Thread nD τ).loc main_arg5)) (k0_pay3 (m ((c.tc : Thread nD τ).loc main_arg6))) (oneHot (m ((c.tc : Thread nD τ).loc main_arg7))) (m ((c.tc : Thread nD τ).loc main_arg12)) (m ((c.tc : Thread nD τ).loc main_arg13))

theorem tail_eq (b : Ref sig .tc) : Pipeline.afterTail₀ cfgs (dats m) 0 (V0 m) [hostOps1, hostOps1_1] c b
    = StableHlo.after hostOps1_1 (StableHlo.after hostOps1 (W m c)) (Proc.devRef .tc b) := by
  unfold Pipeline.afterTail₀ W
  rw [List.flatten_cons, List.flatten_cons, List.flatten_nil, List.append_nil, StableHlo.after_append]

theorem hot_eq : StableHlo.after hostOps1 (W m c) (Proc.devRef .tc main_v1) = oneHot (m ((c.tc : Thread nD τ).loc main_arg7)) :=
  (oneHot_read (W m c)).trans (congrArg oneHot (W_arg7 m c))

theorem hidden_eq : Pipeline.afterTail₀ cfgs (dats m) 0 (V0 m) [hostOps1, hostOps1_1] c main_v81 = refHidden m c := by
  rw [tail_eq, hidden_read, W1_arg0, W1_arg1, W1_arg3, W_main_v0_0, W_main_v0_1, hot_eq, W1_arg8, W1_arg10, W1_arg9, W1_arg11]
  rfl

theorem result_eq : Pipeline.afterTail₀ cfgs (dats m) 0 (V0 m) [hostOps1, hostOps1_1] c main_v117 = refResult m c := by
  rw [tail_eq, result_read, W1_arg0, W1_arg1, W1_arg3, W_main_v0_0, W_main_v0_1, hot_eq, W1_arg8, W1_arg10, W1_arg9, W1_arg11, W1_arg5, W_main_v0_2, W1_arg12, W1_arg13]
  rfl

/-- The reference run: both results, the arguments unchanged. -/
theorem run_values : θ_run defs (onTc (τ := τ) (main (F := F))) ⟨m, fun _ => 0, ρ⟩ (fun r => (∀ c : Dev nD,
      r.2.mem ((c.tc : Thread nD τ).loc main_v117) = refResult m c ∧ r.2.mem ((c.tc : Thread nD τ).loc main_v81) = refHidden m c)) :=
  (θ_run defs _ _).mono (fun _ h c => ⟨((h c).2 main_v117 (Pipeline.mem_restRefs_of main_v117 (by decide) (by decide))).trans (result_eq m c),
    ((h c).2 main_v81 (Pipeline.mem_restRefs_of main_v81 (by decide) (by decide))).trans (hidden_eq m c)⟩) (run_main m ρ)

end Cert.ReferenceIdeal.Ref
-- ==== Proof.ReferenceIdeal.Elems.lean ====
/- Elements of the reference's two results. -/
module

public import proofs.«01_k».proof.Proof.ReferenceIdeal.Value
public import proofs.«01_k».proof.Proof.KernelIdeal.Spec
public import Idealize.ShloMosaic.PureOps.Ideal
public import Idealize.ShloMosaic.Lib.Pointwise

@[expose] public section

set_option maxRecDepth 16384

noncomputable section

namespace Cert.ReferenceIdeal.Ref

open Cert.ReferenceIdeal.Gen
open Idealize.ShloMosaic
open Idealize.ShloMosaic.TcCoe

variable {F : FTy → Type} [FloatOps F]

theorem oneHot_at (ids : IVec S7680 32) (row : Fin 7680) (a : Fin 7) : oneHot (F := Ideal) ids (ix2 row a) = Math.hot (ids (ix1 row)) a.val := by
  pointwise [oneHot]
  rfl

theorem pay1_at (x : Vec Ideal S16384x192 .f16) (n : Fin 16384) (g : Fin 192) : k0_pay1 x (ix2 n g) = x (ix2 n g) := by
  pointwise [k0_pay1]
theorem pay2_at (x : Vec Ideal S16384x192 .f16) (n : Fin 16384) (g : Fin 192) : k0_pay2 x (ix2 n g) = x (ix2 n g) := by
  pointwise [k0_pay2]
theorem pay3_at (x : Vec Ideal S6144x512 .f16) (n : Fin 6144) (g : Fin 512) : k0_pay3 x (ix2 n g) = x (ix2 n g) := by
  pointwise [k0_pay3]

theorem proj0_at (v : FVec Ideal S7680x1x6144 .bf16) (q : Vec Ideal S16384x3072 .i8) (s : FVec Ideal S16384x192 .f32) (row : Fin 7680) (col : Fin 16384) :
    proj0 v q s (ix3 row 0 col) = Math.proj (G := 192) rfl rfl (fun k => v (ix3 row 0 k)) (fun b => q (ix2 col b)) (fun g => s (ix2 col g)) := by
  unfold Math.proj
  rw [Math.product]
  pointwise [proj0, low0, high0]
  rfl

theorem lora0_at (v : FVec Ideal S7680x1x6144 .bf16) (o : FVec Ideal S7680x7 .f32) (a : FVec Ideal S7x6144x16 .bf16) (b : FVec Ideal S7x16x16384 .bf16) (row : Fin 7680) (col : Fin 16384) :
    lora0 v o a b (ix3 row 0 col) = Math.adapter (fun k => v (ix3 row 0 k)) (fun r => o (ix2 row r)) (fun r k i => a (ix3 r k i)) (fun r i => b (ix3 r i col)) := by
  unfold Math.adapter
  pointwise [lora0]

theorem proj1_at (v : FVec Ideal S7680x1x16384 .bf16) (q : Vec Ideal S6144x8192 .i8) (s : FVec Ideal S6144x512 .f32) (row : Fin 7680) (col : Fin 6144) :
    proj1 v q s (ix3 row 0 col) = Math.proj (G := 512) rfl rfl (fun k => v (ix3 row 0 k)) (fun b => q (ix2 col b)) (fun g => s (ix2 col g)) := by
  unfold Math.proj
  rw [Math.product]
  pointwise [proj1, low1, high1]
  rfl

theorem lora1_at (v : FVec Ideal S7680x1x16384 .bf16) (o : FVec Ideal S7680x7 .f32) (a : FVec Ideal S7x16384x16 .bf16) (b : FVec Ideal S7x16x6144 .bf16) (row : Fin 7680) (col : Fin 6144) :
    lora1 v o a b (ix3 row 0 col) = Math.adapter (fun k => v (ix3 row 0 k)) (fun r => o (ix2 row r)) (fun r k i => a (ix3 r k i)) (fun r i => b (ix3 r i col)) := by
  unfold Math.adapter
  pointwise [lora1]

theorem gated_at (g u : FVec Ideal S7680x1x16384 .f32) (row : Fin 7680) (col : Fin 16384) :
    gated g u (ix3 row 0 col) = Math.gate (g (ix3 row 0 col)) (u (ix3 row 0 col)) := by
  pointwise [gated]
  rfl

theorem hidden_at (x : FVec Ideal S7680x1x6144 .bf16) (gq uq : Vec Ideal S16384x3072 .i8) (gs us : FVec Ideal S16384x192 .f32) (o : FVec Ideal S7680x7 .f32)
    (ag au : FVec Ideal S7x6144x16 .bf16) (bg bu : FVec Ideal S7x16x16384 .bf16) (row : Fin 7680) (col : Fin 16384) :
    hidden x gq uq gs us o ag au bg bu (ix3 row 0 col)
      = Math.hiddenAt (fun k => x (ix3 row 0 k)) (fun b => gq (ix2 col b)) (fun b => uq (ix2 col b)) (fun g => gs (ix2 col g)) (fun g => us (ix2 col g))
          (fun a => o (ix2 row a)) (fun a k i => ag (ix3 a k i)) (fun a k i => au (ix3 a k i)) (fun a i => bg (ix3 a i col)) (fun a i => bu (ix3 a i col)) := by
  unfold hidden Math.hiddenAt
  rw [gated_at]
  refine congrArg₂ Math.gate ?_ ?_
  · exact congrArg₂ (· + ·) (proj0_at x gq gs row col) (lora0_at x o ag bg row col)
  · exact congrArg₂ (· + ·) (proj0_at x uq us row col) (lora0_at x o au bu row col)

theorem result_at (h : FVec Ideal S7680x1x16384 .bf16) (dq : Vec Ideal S6144x8192 .i8) (ds : FVec Ideal S6144x512 .f32) (o : FVec Ideal S7680x7 .f32)
    (ad : FVec Ideal S7x16384x16 .bf16) (bd : FVec Ideal S7x16x6144 .bf16) (row : Fin 7680) (col : Fin 6144) :
    result h dq ds o ad bd (ix3 row 0 col)
      = Math.resultAt (fun k => h (ix3 row 0 k)) (fun b => dq (ix2 col b)) (fun g => ds (ix2 col g)) (fun a => o (ix2 row a)) (fun a k i => ad (ix3 a k i)) (fun a i => bd (ix3 a i col)) := by
  unfold result Math.resultAt
  exact congrArg₂ (· + ·) (proj1_at h dq ds row col) (lora1_at h o ad bd row col)

variable (m : (ℓ : Loc nD τ sig) → Buf (Elt Ideal) ℓ) (c : Dev nD)

/-! ### The arguments -/

abbrev A0 : FVec Ideal S7680x1x6144 .bf16 := m ((c.tc : Thread nD τ).loc main_arg0)
abbrev A1 : Vec Ideal S16384x3072 .i8 := m ((c.tc : Thread nD τ).loc main_arg1)
abbrev A2 : FVec Ideal S16384x192 .f16 := m ((c.tc : Thread nD τ).loc main_arg2)
abbrev A3 : Vec Ideal S16384x3072 .i8 := m ((c.tc : Thread nD τ).loc main_arg3)
abbrev A4 : FVec Ideal S16384x192 .f16 := m ((c.tc : Thread nD τ).loc main_arg4)
abbrev A5 : Vec Ideal S6144x8192 .i8 := m ((c.tc : Thread nD τ).loc main_arg5)
abbrev A6 : FVec Ideal S6144x512 .f16 := m ((c.tc : Thread nD τ).loc main_arg6)
abbrev A7 : IVec S7680 32 := m ((c.tc : Thread nD τ).loc main_arg7)
abbrev A8 : FVec Ideal S7x6144x16 .bf16 := m ((c.tc : Thread nD τ).loc main_arg8)
abbrev A9 : FVec Ideal S7x16x16384 .bf16 := m ((c.tc : Thread nD τ).loc main_arg9)
abbrev A10 : FVec Ideal S7x6144x16 .bf16 := m ((c.tc : Thread nD τ).loc main_arg10)
abbrev A11 : FVec Ideal S7x16x16384 .bf16 := m ((c.tc : Thread nD τ).loc main_arg11)
abbrev A12 : FVec Ideal S7x16384x16 .bf16 := m ((c.tc : Thread nD τ).loc main_arg12)
abbrev A13 : FVec Ideal S7x16x6144 .bf16 := m ((c.tc : Thread nD τ).loc main_arg13)

/-- The hidden activation at an element. -/
theorem refHidden_at (row : Fin 7680) (col : Fin 16384) :
    refHidden m c (ix3 row 0 col)
      = Math.hiddenAt (fun k => A0 m c (ix3 row 0 k)) (fun b => A1 m c (ix2 col b)) (fun b => A3 m c (ix2 col b)) (fun g => A2 m c (ix2 col g)) (fun g => A4 m c (ix2 col g))
          (fun a => Math.hot (A7 m c (ix1 row)) a.val) (fun a k i => A8 m c (ix3 a k i)) (fun a k i => A10 m c (ix3 a k i)) (fun a i => A9 m c (ix3 a i col)) (fun a i => A11 m c (ix3 a i col)) := by
  unfold refHidden
  rw [hidden_at]
  simp only [oneHot_at, pay1_at, pay2_at]

/-- The result at an element. -/
theorem refResult_at (row : Fin 7680) (col : Fin 6144) :
    refResult m c (ix3 row 0 col)
      = Math.resultAt (fun k => refHidden m c (ix3 row 0 k)) (fun b => A5 m c (ix2 col b)) (fun g => A6 m c (ix2 col g))
          (fun a => Math.hot (A7 m c (ix1 row)) a.val) (fun a k i => A12 m c (ix3 a k i)) (fun a i => A13 m c (ix3 a i col)) := by
  unfold refResult
  rw [result_at]
  simp only [oneHot_at, pay3_at]

end Cert.ReferenceIdeal.Ref
-- ==== Proof.Equal.lean ====
/- The kernel's two results are the reference's, element by element. -/
module

public import proofs.«01_k».proof.Proof.KernelIdeal.Value
public import proofs.«01_k».proof.Proof.ReferenceIdeal.Elems

@[expose] public section

set_option maxRecDepth 16384

noncomputable section

namespace Cert.Equal

open Idealize.ShloMosaic Idealize.ShloMosaic.TcCoe
open Cert.KernelIdeal.Body (kerHidden kerResult kerHidden_at kerResult_at)
open Cert.ReferenceIdeal.Ref (refHidden refResult refHidden_at refResult_at)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem hidden_at
    (e0 : Cert.ReferenceIdeal.Ref.A0 m' c = Cert.KernelIdeal.Body.A0 m c)
    (e1 : Cert.ReferenceIdeal.Ref.A1 m' c = Cert.KernelIdeal.Body.A1 m c)
    (e2 : Cert.ReferenceIdeal.Ref.A2 m' c = Cert.KernelIdeal.Body.A2 m c)
    (e3 : Cert.ReferenceIdeal.Ref.A3 m' c = Cert.KernelIdeal.Body.A3 m c)
    (e4 : Cert.ReferenceIdeal.Ref.A4 m' c = Cert.KernelIdeal.Body.A4 m c)
    (e7 : Cert.ReferenceIdeal.Ref.A7 m' c = Cert.KernelIdeal.Body.A7 m c)
    (e8 : Cert.ReferenceIdeal.Ref.A8 m' c = Cert.KernelIdeal.Body.A8 m c)
    (e9 : Cert.ReferenceIdeal.Ref.A9 m' c = Cert.KernelIdeal.Body.A9 m c)
    (e10 : Cert.ReferenceIdeal.Ref.A10 m' c = Cert.KernelIdeal.Body.A10 m c)
    (e11 : Cert.ReferenceIdeal.Ref.A11 m' c = Cert.KernelIdeal.Body.A11 m c) (row : Fin 7680) (col : Fin 16384) :
    refHidden m' c (ix3 row 0 col) = kerHidden m c (ix3 row 0 col) := by
  rw [refHidden_at, kerHidden_at, e0, e1, e2, e3, e4, e7, e8, e9, e10, e11]

theorem hidden
    (e0 : Cert.ReferenceIdeal.Ref.A0 m' c = Cert.KernelIdeal.Body.A0 m c)
    (e1 : Cert.ReferenceIdeal.Ref.A1 m' c = Cert.KernelIdeal.Body.A1 m c)
    (e2 : Cert.ReferenceIdeal.Ref.A2 m' c = Cert.KernelIdeal.Body.A2 m c)
    (e3 : Cert.ReferenceIdeal.Ref.A3 m' c = Cert.KernelIdeal.Body.A3 m c)
    (e4 : Cert.ReferenceIdeal.Ref.A4 m' c = Cert.KernelIdeal.Body.A4 m c)
    (e7 : Cert.ReferenceIdeal.Ref.A7 m' c = Cert.KernelIdeal.Body.A7 m c)
    (e8 : Cert.ReferenceIdeal.Ref.A8 m' c = Cert.KernelIdeal.Body.A8 m c)
    (e9 : Cert.ReferenceIdeal.Ref.A9 m' c = Cert.KernelIdeal.Body.A9 m c)
    (e10 : Cert.ReferenceIdeal.Ref.A10 m' c = Cert.KernelIdeal.Body.A10 m c)
    (e11 : Cert.ReferenceIdeal.Ref.A11 m' c = Cert.KernelIdeal.Body.A11 m c) :
    refHidden m' c = kerHidden m c := by
  funext j
  have hj : j = ix3 (j 0 : Fin 7680) (0 : Fin 1) (j 2 : Fin 16384) := by
    funext a
    match a with
    | ⟨0, _⟩ => rfl
    | ⟨1, _⟩ => exact (Subsingleton.elim (α := Fin 1) _ _)
    | ⟨2, _⟩ => rfl
  rw [hj]
  exact hidden_at m m' c e0 e1 e2 e3 e4 e7 e8 e9 e10 e11 (j 0) (j 2)

theorem result
    (e0 : Cert.ReferenceIdeal.Ref.A0 m' c = Cert.KernelIdeal.Body.A0 m c)
    (e1 : Cert.ReferenceIdeal.Ref.A1 m' c = Cert.KernelIdeal.Body.A1 m c)
    (e2 : Cert.ReferenceIdeal.Ref.A2 m' c = Cert.KernelIdeal.Body.A2 m c)
    (e3 : Cert.ReferenceIdeal.Ref.A3 m' c = Cert.KernelIdeal.Body.A3 m c)
    (e4 : Cert.ReferenceIdeal.Ref.A4 m' c = Cert.KernelIdeal.Body.A4 m c)
    (e5 : Cert.ReferenceIdeal.Ref.A5 m' c = Cert.KernelIdeal.Body.A5 m c)
    (e6 : Cert.ReferenceIdeal.Ref.A6 m' c = Cert.KernelIdeal.Body.A6 m c)
    (e7 : Cert.ReferenceIdeal.Ref.A7 m' c = Cert.KernelIdeal.Body.A7 m c)
    (e8 : Cert.ReferenceIdeal.Ref.A8 m' c = Cert.KernelIdeal.Body.A8 m c)
    (e9 : Cert.ReferenceIdeal.Ref.A9 m' c = Cert.KernelIdeal.Body.A9 m c)
    (e10 : Cert.ReferenceIdeal.Ref.A10 m' c = Cert.KernelIdeal.Body.A10 m c)
    (e11 : Cert.ReferenceIdeal.Ref.A11 m' c = Cert.KernelIdeal.Body.A11 m c)
    (e12 : Cert.ReferenceIdeal.Ref.A12 m' c = Cert.KernelIdeal.Body.A12 m c)
    (e13 : Cert.ReferenceIdeal.Ref.A13 m' c = Cert.KernelIdeal.Body.A13 m c) :
    refResult m' c = kerResult m c := by
  funext j
  have hj : j = ix3 (j 0 : Fin 7680) (0 : Fin 1) (j 2 : Fin 6144) := by
    funext a
    match a with
    | ⟨0, _⟩ => rfl
    | ⟨1, _⟩ => exact (Subsingleton.elim (α := Fin 1) _ _)
    | ⟨2, _⟩ => rfl
  have hh := hidden m m' c e0 e1 e2 e3 e4 e7 e8 e9 e10 e11
  rw [hj]
  refine (refResult_at m' c (j 0) (j 2)).trans (Eq.trans ?_ (kerResult_at m c (j 0) 0 (j 2)).symm)
  rw [hh, e5, e6, e7, e12, e13]

end Cert.Equal
-- ==== Proof.lean ====
module

public import proofs.«01_k».proof.Defs
public import proofs.«01_k».proof.Proof.Same
public import proofs.«01_k».proof.Proof.Equal

@[expose] public section

set_option maxRecDepth 16384

noncomputable section

namespace Cert.Proof

open Idealize.ShloMosaic Idealize.SL.Sem

theorem frame_Kernel : Cert.quiescent_Kernel (hKernel := Cert.Kernel.Gen.facts) := fun m ρ _ =>
  Cert.Same.run_of m ρ _ (Cert.KernelIdeal.Body.frame_main m ρ)

theorem frame_KernelIdeal : Cert.quiescent_KernelIdeal (hKernelIdeal := Cert.KernelIdeal.Gen.facts) := fun m ρ _ =>
  Cert.KernelIdeal.Body.frame_main m ρ

theorem frame_ReferenceIdeal : Cert.quiescent_ReferenceIdeal (hReferenceIdeal := Cert.ReferenceIdeal.Gen.facts) := fun m ρ _ =>
  Cert.ReferenceIdeal.Gen.frame m ρ

/-- Both results. -/
theorem algebraic : Cert.algebraic_KernelIdeal_ReferenceIdeal (hKernelIdeal := Cert.KernelIdeal.Gen.facts) (hReferenceIdeal := Cert.ReferenceIdeal.Gen.facts) :=
  fun m ρ m' ρ' _ he => ⟨Cert.KernelIdeal.Body.kerResult m, Cert.KernelIdeal.Body.kerHidden m,
    (θ_run _ _ _).mono (fun r h c => ⟨(h.1 c).1, (h.1 c).2, h.2.1 c⟩)
      (θ_run_and (Cert.KernelIdeal.Body.run_values m ρ) (Cert.KernelIdeal.Body.frame_main m ρ)),
    (θ_run _ _ _).mono (fun r h c => by
        obtain ⟨e0, e1, e2, e3, e4, e5, e6, e7, e8, e9, e10, e11, e12, e13⟩ := he c
        exact ⟨(h.1 c).1.trans (Cert.Equal.result m m' c e0 e1 e2 e3 e4 e5 e6 e7 e8 e9 e10 e11 e12 e13),
          (h.1 c).2.trans (Cert.Equal.hidden m m' c e0 e1 e2 e3 e4 e7 e8 e9 e10 e11), h.2.1 c⟩)
      (θ_run_and (Cert.ReferenceIdeal.Ref.run_values m' ρ') (Cert.ReferenceIdeal.Gen.frame m' ρ'))⟩

theorem claim : Cert.Claim :=
  ⟨Cert.Kernel.Gen.facts, Cert.KernelIdeal.Gen.facts, Cert.ReferenceIdeal.Gen.facts,
    frame_Kernel, frame_KernelIdeal, frame_ReferenceIdeal, trivial, algebraic⟩

end Cert.Proof

end
